-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v11)) (v1 : (c : Dev Cert.Kernel3Ideal.nD) → Buf (Elt Ideal) ((c.tc : Thread Cert.Kernel3Ideal.nD Cert.Kernel3Ideal.τ).loc Cert.Kernel3Ideal.main_v12)) (v2 : (c : Dev Cert.Kernel3Ideal.nD) → Buf (Elt Ideal) ((c.tc : Thread Cert.Kernel3Ideal.nD Cert.Kernel3Ideal.τ).loc Cert.Kernel3Ideal.main_v13)) (v3 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_v12) = v1 c
          ∧ r.2.mem ((c.tc : Thread Cert.Kernel3Ideal.nD Cert.Kernel3Ideal.τ).loc Cert.Kernel3Ideal.main_v13) = v2 c
          ∧ r.2.mem ((c.tc : Thread Cert.Kernel3Ideal.nD Cert.Kernel3Ideal.τ).loc Cert.Kernel3Ideal.main_v15) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_v14) = v2 c
          ∧ r.2.mem ((c.tc : Thread Cert.Reference3Ideal.nD Cert.Reference3Ideal.τ).loc Cert.Reference3Ideal.main_v18) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v89)) (v1 : (c : Dev Cert.Kernel5Ideal.nD) → Buf (Elt Ideal) ((c.tc : Thread Cert.Kernel5Ideal.nD Cert.Kernel5Ideal.τ).loc Cert.Kernel5Ideal.main_v90)) (v2 : (c : Dev Cert.Kernel5Ideal.nD) → Buf (Elt Ideal) ((c.tc : Thread Cert.Kernel5Ideal.nD Cert.Kernel5Ideal.τ).loc Cert.Kernel5Ideal.main_v91)) (v3 : (c : Dev Cert.Kernel5Ideal.nD) → Buf (Elt Ideal) ((c.tc : Thread Cert.Kernel5Ideal.nD Cert.Kernel5Ideal.τ).loc Cert.Kernel5Ideal.main_v92)) (v4 : (c : Dev Cert.Kernel5Ideal.nD) → Buf (Elt Ideal) ((c.tc : Thread Cert.Kernel5Ideal.nD Cert.Kernel5Ideal.τ).loc Cert.Kernel5Ideal.main_v94)) (v5 : (c : Dev Cert.Kernel5Ideal.nD) → Buf (Elt Ideal) ((c.tc : Thread Cert.Kernel5Ideal.nD Cert.Kernel5Ideal.τ).loc Cert.Kernel5Ideal.main_v96)) (v6 : (c : Dev Cert.Kernel5Ideal.nD) → Buf (Elt Ideal) ((c.tc : Thread Cert.Kernel5Ideal.nD Cert.Kernel5Ideal.τ).loc Cert.Kernel5Ideal.main_v97)) (v7 : (c : Dev Cert.Kernel5Ideal.nD) → Buf (Elt Ideal) ((c.tc : Thread Cert.Kernel5Ideal.nD Cert.Kernel5Ideal.τ).loc Cert.Kernel5Ideal.main_v98)) (v8 : (c : Dev Cert.Kernel5Ideal.nD) → Buf (Elt Ideal) ((c.tc : Thread Cert.Kernel5Ideal.nD Cert.Kernel5Ideal.τ).loc Cert.Kernel5Ideal.main_v99)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v89) = v0 c
          ∧ r.2.mem ((c.tc : Thread Cert.Kernel5Ideal.nD Cert.Kernel5Ideal.τ).loc Cert.Kernel5Ideal.main_v90) = v1 c
          ∧ r.2.mem ((c.tc : Thread Cert.Kernel5Ideal.nD Cert.Kernel5Ideal.τ).loc Cert.Kernel5Ideal.main_v91) = v2 c
          ∧ r.2.mem ((c.tc : Thread Cert.Kernel5Ideal.nD Cert.Kernel5Ideal.τ).loc Cert.Kernel5Ideal.main_v92) = v3 c
          ∧ r.2.mem ((c.tc : Thread Cert.Kernel5Ideal.nD Cert.Kernel5Ideal.τ).loc Cert.Kernel5Ideal.main_v94) = v4 c
          ∧ r.2.mem ((c.tc : Thread Cert.Kernel5Ideal.nD Cert.Kernel5Ideal.τ).loc Cert.Kernel5Ideal.main_v96) = v5 c
          ∧ r.2.mem ((c.tc : Thread Cert.Kernel5Ideal.nD Cert.Kernel5Ideal.τ).loc Cert.Kernel5Ideal.main_v97) = v6 c
          ∧ r.2.mem ((c.tc : Thread Cert.Kernel5Ideal.nD Cert.Kernel5Ideal.τ).loc Cert.Kernel5Ideal.main_v98) = v7 c
          ∧ r.2.mem ((c.tc : Thread Cert.Kernel5Ideal.nD Cert.Kernel5Ideal.τ).loc Cert.Kernel5Ideal.main_v99) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v50) = v0 c
          ∧ r.2.mem ((c.tc : Thread Cert.Reference5Ideal.nD Cert.Reference5Ideal.τ).loc Cert.Reference5Ideal.main_v100) = v1 c
          ∧ r.2.mem ((c.tc : Thread Cert.Reference5Ideal.nD Cert.Reference5Ideal.τ).loc Cert.Reference5Ideal.main_v102) = v2 c
          ∧ r.2.mem ((c.tc : Thread Cert.Reference5Ideal.nD Cert.Reference5Ideal.τ).loc Cert.Reference5Ideal.main_v139) = v3 c
          ∧ r.2.mem ((c.tc : Thread Cert.Reference5Ideal.nD Cert.Reference5Ideal.τ).loc Cert.Reference5Ideal.main_v190) = v4 c
          ∧ r.2.mem ((c.tc : Thread Cert.Reference5Ideal.nD Cert.Reference5Ideal.τ).loc Cert.Reference5Ideal.main_v193) = v5 c
          ∧ r.2.mem ((c.tc : Thread Cert.Reference5Ideal.nD Cert.Reference5Ideal.τ).loc Cert.Reference5Ideal.main_v243) = v6 c
          ∧ r.2.mem ((c.tc : Thread Cert.Reference5Ideal.nD Cert.Reference5Ideal.τ).loc Cert.Reference5Ideal.main_v293) = v7 c
          ∧ r.2.mem ((c.tc : Thread Cert.Reference5Ideal.nD Cert.Reference5Ideal.τ).loc Cert.Reference5Ideal.main_v295) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v11)) (v1 : (c : Dev Cert.Kernel7Ideal.nD) → Buf (Elt Ideal) ((c.tc : Thread Cert.Kernel7Ideal.nD Cert.Kernel7Ideal.τ).loc Cert.Kernel7Ideal.main_v12)) (v2 : (c : Dev Cert.Kernel7Ideal.nD) → Buf (Elt Ideal) ((c.tc : Thread Cert.Kernel7Ideal.nD Cert.Kernel7Ideal.τ).loc Cert.Kernel7Ideal.main_v13)) (v3 : (c : Dev Cert.Kernel7Ideal.nD) → Buf (Elt Ideal) ((c.tc : Thread Cert.Kernel7Ideal.nD Cert.Kernel7Ideal.τ).loc Cert.Kernel7Ideal.main_v15)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11) = v0 c
          ∧ r.2.mem ((c.tc : Thread Cert.Kernel7Ideal.nD Cert.Kernel7Ideal.τ).loc Cert.Kernel7Ideal.main_v12) = v1 c
          ∧ r.2.mem ((c.tc : Thread Cert.Kernel7Ideal.nD Cert.Kernel7Ideal.τ).loc Cert.Kernel7Ideal.main_v13) = v2 c
          ∧ r.2.mem ((c.tc : Thread Cert.Kernel7Ideal.nD Cert.Kernel7Ideal.τ).loc Cert.Kernel7Ideal.main_v15) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_v16) = v1 c
          ∧ r.2.mem ((c.tc : Thread Cert.Reference7Ideal.nD Cert.Reference7Ideal.τ).loc Cert.Reference7Ideal.main_v14) = v2 c
          ∧ r.2.mem ((c.tc : Thread Cert.Reference7Ideal.nD Cert.Reference7Ideal.τ).loc Cert.Reference7Ideal.main_v18) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S4x2048x512 : Shape := ⟨3, ![4, 2048, 512]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel

variable [Facts]

def fn {F : FTy → Type} [FloatOps F] (main_arg0 : FVec F S4x2048x512 .f32) (main_arg1 : FVec F S4x2048x512 .f32) (main_arg2 : FVec F S4x2048x512 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S4x2048x512 .f32 := Host.absf main_arg1
  let main_cst_0 : FVec F S_ .f32 := constant S_ .f32 0x7F800000#32
  let main_v5 : FVec F S4x2048x512 .f32 := broadcastInDim S4x2048x512 ![] bcast_S_S4x2048x512 main_cst_0
  let main_v6 : IVec S4x2048x512 1 := cmpf .olt main_v4 main_v5
  let main_c_1 : IVec S_ 1 := constantI S_ 1 1#1
  let main_v7 : IVec S_ 1 := (fun x v => Host.reduce IntOp.andi x v reducesTo_S4x2048x512_S_d0_1_2 h_S_) main_v6 main_c_1
  let main_v8 : IVec S_ 1 := andi main_v3 main_v7
  main_v8
-- ==== Kernel.lean ====
abbrev S4x2048x512 : Shape := ⟨3, ![4, 2048, 512]⟩
abbrev S1x256x512 : Shape := ⟨3, ![1, 256, 512]⟩
abbrev S1x2048x512 : Shape := ⟨3, ![1, 2048, 512]⟩
abbrev S8x512 : Shape := ⟨2, ![8, 512]⟩
abbrev S2048x512 : Shape := ⟨2, ![2048, 512]⟩
abbrev S8x256x512 : Shape := ⟨3, ![8, 256, 512]⟩
abbrev S256x512 : Shape := ⟨2, ![256, 512]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S256x8 : Shape := ⟨2, ![256, 8]⟩
abbrev S8x128 : Shape := ⟨2, ![8, 128]⟩
abbrev S512x128 : Shape := ⟨2, ![512, 128]⟩
abbrev S256x768 : Shape := ⟨2, ![256, 768]⟩
abbrev S768x128 : Shape := ⟨2, ![768, 128]⟩
abbrev S256x1024 : Shape := ⟨2, ![256, 1024]⟩
abbrev S1024x128 : Shape := ⟨2, ![1024, 128]⟩
abbrev S256x1280 : Shape := ⟨2, ![256, 1280]⟩
abbrev S1280x128 : Shape := ⟨2, ![1280, 128]⟩
abbrev S256x1536 : Shape := ⟨2, ![256, 1536]⟩
abbrev S1536x128 : Shape := ⟨2, ![1536, 128]⟩
abbrev S256x1792 : Shape := ⟨2, ![256, 1792]⟩
abbrev S1792x128 : Shape := ⟨2, ![1792, 128]⟩
abbrev S256x2048 : Shape := ⟨2, ![256, 2048]⟩
abbrev S2048x128 : Shape := ⟨2, ![2048, 128]⟩

abbrev nBuf : Space → Nat
  | .hbm => 4
  | .vmem => 11
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S4x2048x512, .bf16⟩
  | .local _ .vmem, ⟨0, _⟩ => ⟨S1x256x512, .f32⟩
  | .local _ .vmem, ⟨1, _⟩ => ⟨S1x256x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x256x512, .bf16⟩
  | .local _ .vmem, ⟨7, _⟩ => ⟨S1x256x512, .bf16⟩
  | .local _ .vmem, ⟨8, _⟩ => ⟨S8x512, .f32⟩
  | .local _ .vmem, ⟨9, _⟩ => ⟨S2048x512, .bf16⟩
  | .local _ .vmem, ⟨10, _⟩ => ⟨S2048x512, .bf16⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c0_i32_4 : BitVec 32 := 0#32
  let v12 : BitVec 1 := Scalar.cmpi .eq arg1 c0_i32_4
  let v13 : BitVec 32 := Scalar.extui v12
  let c0_i32_5 : BitVec 32 := 0#32
  let v14 : BitVec 1 := Scalar.cmpi .ne v13 c0_i32_5
  v14

def k0_cond3 (i : grid0.Coords) : BitVec 1 :=
  let arg1 : BitVec 32 := BitVec.ofNat 32 (i 1).val
  let c1_i32 : BitVec 32 := 1#32
  let v15 : BitVec 1 := Scalar.cmpi .eq arg1 c1_i32
  let v16 : BitVec 32 := Scalar.extui v15
  let c0_i32_6 : BitVec 32 := 0#32
  let v17 : BitVec 1 := Scalar.cmpi .ne v16 c0_i32_6
  v17

def k0_cond4 (i : grid0.Coords) : BitVec 1 :=
  let arg1 : BitVec 32 := BitVec.ofNat 32 (i 1).val
  let c2_i32 : BitVec 32 := 2#32
  let v18 : BitVec 1 := Scalar.cmpi .eq arg1 c2_i32
  let v19 : BitVec 32 := Scalar.extui v18
  let c0_i32_7 : BitVec 32 := 0#32
  let v20 : BitVec 1 := Scalar.cmpi .ne v19 c0_i32_7
  v20

def k0_cond5 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_8 : BitVec 32 := 0#32
  let v23 : BitVec 1 := Scalar.cmpi .ne v22 c0_i32_8
  v23

def k0_cond6 (i : grid0.Coords) : BitVec 1 :=
  let arg1 : BitVec 32 := BitVec.ofNat 32 (i 1).val
  let c4_i32 : BitVec 32 := 4#32
  let v24 : BitVec 1 := Scalar.cmpi .eq arg1 c4_i32
  let v25 : BitVec 32 := Scalar.extui v24
  let c0_i32_9 : BitVec 32 := 0#32
  let v26 : BitVec 1 := Scalar.cmpi .ne v25 c0_i32_9
  v26

def k0_cond7 (i : grid0.Coords) : BitVec 1 :=
  let arg1 : BitVec 32 := BitVec.ofNat 32 (i 1).val
  let c5_i32 : BitVec 32 := 5#32
  let v27 : BitVec 1 := Scalar.cmpi .eq arg1 c5_i32
  let v28 : BitVec 32 := Scalar.extui v27
  let c0_i32_10 : BitVec 32 := 0#32
  let v29 : BitVec 1 := Scalar.cmpi .ne v28 c0_i32_10
  v29

def k0_cond8 (i : grid0.Coords) : BitVec 1 :=
  let arg1 : BitVec 32 := BitVec.ofNat 32 (i 1).val
  let c6_i32 : BitVec 32 := 6#32
  let v30 : BitVec 1 := Scalar.cmpi .eq arg1 c6_i32
  let v31 : BitVec 32 := Scalar.extui v30
  let c0_i32_11 : BitVec 32 := 0#32
  let v32 : BitVec 1 := Scalar.cmpi .ne v31 c0_i32_11
  v32

def k0_cond9 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_12 : BitVec 32 := 0#32
  let v35 : BitVec 1 := Scalar.cmpi .ne v34 c0_i32_12
  v35

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x2048x512 : Shape := ⟨3, ![4, 2048, 512]⟩
abbrev S4x8x256x4x128 : Shape := ⟨5, ![4, 8, 256, 4, 128]⟩
abbrev S_ : Shape := ⟨0, ![]⟩
abbrev S4x8x4x128 : Shape := ⟨4, ![4, 8, 4, 128]⟩
abbrev S4 : Shape := ⟨1, ![4]⟩
abbrev S4x1x1x1x1x1 : Shape := ⟨6, ![4, 1, 1, 1, 1, 1]⟩
abbrev S4x1x1 : Shape := ⟨3, ![4, 1, 1]⟩
abbrev S256 : Shape := ⟨1, ![256]⟩
abbrev S8 : Shape := ⟨1, ![8]⟩
abbrev S8x1x1x1 : Shape := ⟨4, ![8, 1, 1, 1]⟩
abbrev S4x4x8x8x256 : Shape := ⟨5, ![4, 4, 8, 8, 256]⟩
abbrev S4x8x256x4x8 : Shape := ⟨5, ![4, 8, 256, 4, 8]⟩
abbrev S1x1x1x8 : Shape := ⟨4, ![1, 1, 1, 8]⟩
abbrev S8x1x1x8 : Shape := ⟨4, ![8, 1, 1, 8]⟩
abbrev S4x8x256x4x3 : Shape := ⟨5, ![4, 8, 256, 4, 3]⟩
abbrev S1x8x1x1x1 : Shape := ⟨5, ![1, 8, 1, 1, 1]⟩
abbrev S4x8x256x4x3x256 : Shape := ⟨6, ![4, 8, 256, 4, 3, 256]⟩
abbrev S4x8x256x4x768 : Shape := ⟨5, ![4, 8, 256, 4, 768]⟩
abbrev S4x8x256x4x3x1 : Shape := ⟨6, ![4, 8, 256, 4, 3, 1]⟩
abbrev S4x8x256x4x3x256x1 : Shape := ⟨7, ![4, 8, 256, 4, 3, 256, 1]⟩
abbrev S4x8x256x4x3x256x4 : Shape := ⟨7, ![4, 8, 256, 4, 3, 256, 4]⟩
abbrev S4x8x256x4x3x256x128 : Shape := ⟨7, ![4, 8, 256, 4, 3, 256, 128]⟩
abbrev S4x8x256x4x768x128 : Shape := ⟨6, ![4, 8, 256, 4, 768, 128]⟩
abbrev S2048 : Shape := ⟨1, ![2048]⟩
abbrev S8x256 : Shape := ⟨2, ![8, 256]⟩
abbrev S8x1x256 : Shape := ⟨3, ![8, 1, 256]⟩
abbrev S8x256x1 : Shape := ⟨3, ![8, 256, 1]⟩
abbrev S8x256x256 : Shape := ⟨3, ![8, 256, 256]⟩
abbrev S8x256x1x256 : Shape := ⟨4, ![8, 256, 1, 256]⟩
abbrev S4x8x4x256x256 : Shape := ⟨5, ![4, 8, 4, 256, 256]⟩
abbrev S4x8x256x4x256 : Shape := ⟨5, ![4, 8, 256, 4, 256]⟩
abbrev S4x8x256x4x1024 : Shape := ⟨5, ![4, 8, 256, 4, 1024]⟩
abbrev S4x8x256x4 : Shape := ⟨4, ![4, 8, 256, 4]⟩
abbrev S4x8x256x4x1 : Shape := ⟨5, ![4, 8, 256, 4, 1]⟩
abbrev S4x8x4x128x256 : Shape := ⟨5, ![4, 8, 4, 128, 256]⟩

abbrev nBuf : Space → Nat
  | .hbm => 110
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S4x8x256x4x128, .f32⟩
  | .hbm, ⟨4, _⟩ => ⟨S4x8x256x4x128, .f32⟩
  | .hbm, ⟨5, _⟩ => ⟨S4x8x256x4x128, .f32⟩
  | .hbm, ⟨6, _⟩ => ⟨S_, .f32⟩
  | .hbm, ⟨7, _⟩ => ⟨S4x8x4x128, .f32⟩
  | .hbm, ⟨8, _⟩ => ⟨S_, .f32⟩
  | .hbm, ⟨9, _⟩ => ⟨S4x8x4x128, .f32⟩
  | .hbm, ⟨10, _⟩ => ⟨S4x8x4x128, .f32⟩
  | .hbm, ⟨11, _⟩ => ⟨S4, .i32⟩
  | .hbm, ⟨12, _⟩ => ⟨S4x1x1x1x1x1, .i32⟩
  | .hbm, ⟨13, _⟩ => ⟨S4, .i32⟩
  | .hbm, ⟨14, _⟩ => ⟨S4x1x1, .i32⟩
  | .hbm, ⟨15, _⟩ => ⟨S256, .i32⟩
  | .hbm, ⟨16, _⟩ => ⟨S8, .i32⟩
  | .hbm, ⟨17, _⟩ => ⟨S8x1x1x1, .i32⟩
  | .hbm, ⟨18, _⟩ => ⟨S4x4x8x8x256, .f32⟩
  | .hbm, ⟨19, _⟩ => ⟨S4x8x256x4x8, .f32⟩
  | .hbm, ⟨20, _⟩ => ⟨S8, .i32⟩
  | .hbm, ⟨21, _⟩ => ⟨S1x1x1x8, .i32⟩
  | .hbm, ⟨22, _⟩ => ⟨S8x1x1x8, .i32⟩
  | .hbm, ⟨23, _⟩ => ⟨S8x1x1x8, .i32⟩
  | .hbm, ⟨24, _⟩ => ⟨S8x1x1x8, .i1⟩
  | .hbm, ⟨25, _⟩ => ⟨S_, .f32⟩
  | .hbm, ⟨26, _⟩ => ⟨S_, .f32⟩
  | .hbm, ⟨27, _⟩ => ⟨S4x8x256x4x8, .i1⟩
  | .hbm, ⟨28, _⟩ => ⟨S4x8x256x4x8, .f32⟩
  | .hbm, ⟨29, _⟩ => ⟨S4x8x256x4x8, .f32⟩
  | .hbm, ⟨30, _⟩ => ⟨S4x8x256x4x3, .f32⟩
  | .hbm, ⟨31, _⟩ => ⟨S4x8x256x4x3, .i32⟩
  | .hbm, ⟨32, _⟩ => ⟨S1x8x1x1x1, .i32⟩
  | .hbm, ⟨33, _⟩ => ⟨S4x8x256x4x3, .i32⟩
  | .hbm, ⟨34, _⟩ => ⟨S4x8x256x4x3, .i1⟩
  | .hbm, ⟨35, _⟩ => ⟨S4x8x256x4x3x256, .i1⟩
  | .hbm, ⟨36, _⟩ => ⟨S4x8x256x4x768, .i1⟩
  | .hbm, ⟨37, _⟩ => ⟨S4x8x256x4x3x1, .i32⟩
  | .hbm, ⟨38, _⟩ => ⟨S4x8x256x4x3x256, .i32⟩
  | .hbm, ⟨39, _⟩ => ⟨S4x8x256x4x3x256, .i32⟩
  | .hbm, ⟨40, _⟩ => ⟨S4x8x256x4x3x256, .i32⟩
  | .hbm, ⟨41, _⟩ => ⟨S4x8x256x4x3x256, .i32⟩
  | .hbm, ⟨42, _⟩ => ⟨S4x8x256x4x3x256x1, .i32⟩
  | .hbm, ⟨43, _⟩ => ⟨S4x8x256x4x3x256x1, .i32⟩
  | .hbm, ⟨44, _⟩ => ⟨S4x8x256x4x3x256x1, .i32⟩
  | .hbm, ⟨45, _⟩ => ⟨S4x8x256x4x3x256x1, .i32⟩
  | .hbm, ⟨46, _⟩ => ⟨S4x8x256x4x3x256x4, .i32⟩
  | .hbm, ⟨47, _⟩ => ⟨S4x8x256x4x3x256x128, .f32⟩
  | .hbm, ⟨48, _⟩ => ⟨S4x8x256x4x3x1, .i32⟩
  | .hbm, ⟨49, _⟩ => ⟨S4x8x256x4x3x256, .i32⟩
  | .hbm, ⟨50, _⟩ => ⟨S4x8x256x4x3x256, .i32⟩
  | .hbm, ⟨51, _⟩ => ⟨S4x8x256x4x3x256, .i32⟩
  | .hbm, ⟨52, _⟩ => ⟨S4x8x256x4x3x256, .i32⟩
  | .hbm, ⟨53, _⟩ => ⟨S4x8x256x4x3x256x1, .i32⟩
  | .hbm, ⟨54, _⟩ => ⟨S4x8x256x4x3x256x1, .i32⟩
  | .hbm, ⟨55, _⟩ => ⟨S4x8x256x4x3x256x1, .i32⟩
  | .hbm, ⟨56, _⟩ => ⟨S4x8x256x4x3x256x1, .i32⟩
  | .hbm, ⟨57, _⟩ => ⟨S4x8x256x4x3x256x4, .i32⟩
  | .hbm, ⟨58, _⟩ => ⟨S4x8x256x4x3x256x128, .f32⟩
  | .hbm, ⟨59, _⟩ => ⟨S4x8x256x4x768x128, .f32⟩
  | .hbm, ⟨60, _⟩ => ⟨S4x8x256x4x768x128, .f32⟩
  | .hbm, ⟨61, _⟩ => ⟨S2048, .i32⟩
  | .hbm, ⟨62, _⟩ => ⟨S8x256, .i32⟩
  | .hbm, ⟨63, _⟩ => ⟨S8x1x256, .i32⟩
  | .hbm, ⟨64, _⟩ => ⟨S8x256x1, .i32⟩
  | .hbm, ⟨65, _⟩ => ⟨S8x256x256, .i32⟩
  | .hbm, ⟨66, _⟩ => ⟨S8x256x256, .i32⟩
  | .hbm, ⟨67, _⟩ => ⟨S8x256x256, .i1⟩
  | .hbm, ⟨68, _⟩ => ⟨S8x256x1x256, .i1⟩
  | .hbm, ⟨69, _⟩ => ⟨S4x8x256x4x768, .f32⟩
  | .hbm, ⟨70, _⟩ => ⟨S_, .f32⟩
  | .hbm, ⟨71, _⟩ => ⟨S4x8x256x4x768, .f32⟩
  | .hbm, ⟨72, _⟩ => ⟨S4x8x256x4x768, .f32⟩
  | .hbm, ⟨73, _⟩ => ⟨S4x8x4x256x256, .f32⟩
  | .hbm, ⟨74, _⟩ => ⟨S4x8x256x4x256, .f32⟩
  | .hbm, ⟨75, _⟩ => ⟨S_, .f32⟩
  | .hbm, ⟨76, _⟩ => ⟨S4x8x256x4x256, .f32⟩
  | .hbm, ⟨77, _⟩ => ⟨S4x8x256x4x256, .f32⟩
  | .hbm, ⟨78, _⟩ => ⟨S_, .f32⟩
  | .hbm, ⟨79, _⟩ => ⟨S_, .f32⟩
  | .hbm, ⟨80, _⟩ => ⟨S4x8x256x4x768, .f32⟩
  | .hbm, ⟨81, _⟩ => ⟨S4x8x256x4x768, .f32⟩
  | .hbm, ⟨82, _⟩ => ⟨S_, .f32⟩
  | .hbm, ⟨83, _⟩ => ⟨S_, .f32⟩
  | .hbm, ⟨84, _⟩ => ⟨S4x8x256x4x256, .i1⟩
  | .hbm, ⟨85, _⟩ => ⟨S4x8x256x4x256, .f32⟩
  | .hbm, ⟨86, _⟩ => ⟨S4x8x256x4x256, .f32⟩
  | .hbm, ⟨87, _⟩ => ⟨S4x8x256x4x1024, .f32⟩
  | .hbm, ⟨88, _⟩ => ⟨S_, .f32⟩
  | .hbm, ⟨89, _⟩ => ⟨S4x8x256x4, .f32⟩
  | .hbm, ⟨90, _⟩ => ⟨S_, .f32⟩
  | .hbm, ⟨91, _⟩ => ⟨S4x8x256x4, .f32⟩
  | .hbm, ⟨92, _⟩ => ⟨S4x8x256x4, .f32⟩
  | .hbm, ⟨93, _⟩ => ⟨S4x8x256x4x1, .f32⟩
  | .hbm, ⟨94, _⟩ => ⟨S4x8x256x4x1024, .f32⟩
  | .hbm, ⟨95, _⟩ => ⟨S4x8x256x4x1024, .f32⟩
  | .hbm, ⟨96, _⟩ => ⟨S4x8x256x4x1024, .f32⟩
  | .hbm, ⟨97, _⟩ => ⟨S_, .f32⟩
  | .hbm, ⟨98, _⟩ => ⟨S4x8x256x4, .f32⟩
  | .hbm, ⟨99, _⟩ => ⟨S4x8x256x4x1, .f32⟩
  | .hbm, ⟨100, _⟩ => ⟨S4x8x256x4x1024, .f32⟩
  | .hbm, ⟨101, _⟩ => ⟨S4x8x256x4x1024, .f32⟩
  | .hbm, ⟨102, _⟩ => ⟨S4x8x256x4x768, .f32⟩
  | .hbm, ⟨103, _⟩ => ⟨S4x8x256x4x128, .f32⟩
  | .hbm, ⟨104, _⟩ => ⟨S4x8x256x4x256, .f32⟩
  | .hbm, ⟨105, _⟩ => ⟨S4x8x4x128x256, .f32⟩
  | .hbm, ⟨106, _⟩ => ⟨S4x8x256x4x128, .f32⟩
  | .hbm, ⟨107, _⟩ => ⟨S4x8x256x4x128, .f32⟩
  | .hbm, ⟨108, _⟩ => ⟨S4x2048x512, .f32⟩
  | .hbm, ⟨109, _⟩ => ⟨S4x2048x512, .bf16⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v20 : Ref sig .tc := ⟨.hbm, 29, rfl⟩
abbrev main_values : Ref sig .tc := ⟨.hbm, 30, rfl⟩
abbrev main_indices : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_2 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_3 : Ref sig .tc := ⟨.hbm, 75, rfl⟩
abbrev main_v63 : Ref sig .tc := ⟨.hbm, 76, rfl⟩
abbrev main_v64 : Ref sig .tc := ⟨.hbm, 77, rfl⟩
abbrev main_cst_4 : Ref sig .tc := ⟨.hbm, 78, rfl⟩
abbrev main_call1_v0 : Ref sig .tc := ⟨.hbm, 79, rfl⟩
abbrev main_call1_v1 : Ref sig .tc := ⟨.hbm, 80, rfl⟩
abbrev main_v65 : Ref sig .tc := ⟨.hbm, 81, rfl⟩
abbrev main_cst_5 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_v66 : Ref sig .tc := ⟨.hbm, 86, rfl⟩
abbrev main_v67 : Ref sig .tc := ⟨.hbm, 87, rfl⟩
abbrev main_cst_6 : Ref sig .tc := ⟨.hbm, 88, rfl⟩
abbrev main_v68 : Ref sig .tc := ⟨.hbm, 89, rfl⟩
abbrev main_cst_7 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_8 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩

abbrev nD : Nat := 1
abbrev τ : Topo := Topo.v7x

variable {F : FTy → Type} [FloatOps F]
-- ==== Kernel2.lean ====
abbrev S8192x2048 : Shape := ⟨2, ![8192, 2048]⟩
abbrev S2048 : Shape := ⟨1, ![2048]⟩
abbrev S2048x8192 : Shape := ⟨2, ![2048, 8192]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048x8192, .bf16⟩
  | .hbm, ⟨5, _⟩ => ⟨S8192x2048, .bf16⟩
  | .hbm, ⟨6, _⟩ => ⟨S1x2048, .f32⟩
  | .hbm, ⟨7, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8192x2048 : Shape := ⟨2, ![8192, 2048]⟩
abbrev S2048 : Shape := ⟨1, ![2048]⟩
abbrev S2048x8192 : Shape := ⟨2, ![2048, 8192]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x8192 : Shape := ⟨2, ![8192, 8192]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x2048, .f32⟩
  | .hbm, ⟨26, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel3.lean ====
abbrev S4x2048x2048 : Shape := ⟨3, ![4, 2048, 2048]⟩
abbrev S2048 : Shape := ⟨1, ![2048]⟩
abbrev S2048x7536 : Shape := ⟨2, ![2048, 7536]⟩
abbrev S2048x2640 : Shape := ⟨2, ![2048, 2640]⟩
abbrev S2048x1536 : Shape := ⟨2, ![2048, 1536]⟩
abbrev S2048x3360 : Shape := ⟨2, ![2048, 3360]⟩
abbrev S_ : Shape := ⟨0, ![]⟩
abbrev S2048x3456 : Shape := ⟨2, ![2048, 3456]⟩
abbrev S2048x2688 : Shape := ⟨2, ![2048, 2688]⟩
abbrev S2048x7680 : Shape := ⟨2, ![2048, 7680]⟩
abbrev S8192x2048 : Shape := ⟨2, ![8192, 2048]⟩
abbrev S1x2048 : Shape := ⟨2, ![1, 2048]⟩
abbrev S8192x7680 : Shape := ⟨2, ![8192, 7680]⟩
abbrev S1024x2048 : Shape := ⟨2, ![1024, 2048]⟩
abbrev S1024x1536 : Shape := ⟨2, ![1024, 1536]⟩
abbrev S1024 : Shape := ⟨1, ![1024]⟩
abbrev S1024x1 : Shape := ⟨2, ![1024, 1]⟩
abbrev S4x2048x7680 : Shape := ⟨3, ![4, 2048, 7680]⟩
abbrev S4x2048x2640 : Shape := ⟨3, ![4, 2048, 2640]⟩
abbrev S4x2048x1536 : Shape := ⟨3, ![4, 2048, 1536]⟩
abbrev S4x2048x3360 : Shape := ⟨3, ![4, 2048, 3360]⟩
abbrev S4x1x3360 : Shape := ⟨3, ![4, 1, 3360]⟩
abbrev S4x3360 : Shape := ⟨2, ![4, 3360]⟩

abbrev nBuf : Space → Nat
  | .hbm => 23
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x7536, .f32⟩
  | .hbm, ⟨3, _⟩ => ⟨S2048x2640, .f32⟩
  | .hbm, ⟨4, _⟩ => ⟨S2048x1536, .f32⟩
  | .hbm, ⟨5, _⟩ => ⟨S2048x3360, .f32⟩
  | .hbm, ⟨6, _⟩ => ⟨S_, .i32⟩
  | .hbm, ⟨7, _⟩ => ⟨S_, .f32⟩
  | .hbm, ⟨8, _⟩ => ⟨S2048x3456, .f32⟩
  | .hbm, ⟨9, _⟩ => ⟨S_, .i32⟩
  | .hbm, ⟨10, _⟩ => ⟨S_, .f32⟩
  | .hbm, ⟨11, _⟩ => ⟨S2048x2688, .f32⟩
  | .hbm, ⟨12, _⟩ => ⟨S2048x7680, .f32⟩
  | .hbm, ⟨13, _⟩ => ⟨S2048x7680, .bf16⟩
  | .hbm, ⟨14, _⟩ => ⟨S8192x2048, .f32⟩
  | .hbm, ⟨15, _⟩ => ⟨S1x2048, .f32⟩
  | .hbm, ⟨16, _⟩ => ⟨S8192x7680, .f32⟩
  | .hbm, ⟨17, _⟩ => ⟨S4x2048x7680, .f32⟩
  | .hbm, ⟨18, _⟩ => ⟨S4x2048x2640, .f32⟩
  | .hbm, ⟨19, _⟩ => ⟨S4x2048x1536, .f32⟩
  | .hbm, ⟨20, _⟩ => ⟨S4x2048x3360, .f32⟩
  | .hbm, ⟨21, _⟩ => ⟨S4x1x3360, .f32⟩
  | .hbm, ⟨22, _⟩ => ⟨S4x3360, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1536, .bf16⟩
  | .local _ .vmem, ⟨4, _⟩ => ⟨S2048x1536, .bf16⟩
  | .local _ .vmem, ⟨5, _⟩ => ⟨S1024x1536, .f32⟩
  | .local _ .vmem, ⟨6, _⟩ => ⟨S1024x1536, .f32⟩
  | .local _ .vmem, ⟨7, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4x2048x2048 : Shape := ⟨3, ![4, 2048, 2048]⟩
abbrev S2048 : Shape := ⟨1, ![2048]⟩
abbrev S2048x7536 : Shape := ⟨2, ![2048, 7536]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x7536 : Shape := ⟨3, ![4, 2048, 7536]⟩
abbrev S4x2048x3360 : Shape := ⟨3, ![4, 2048, 3360]⟩
abbrev S4x2048x2640 : Shape := ⟨3, ![4, 2048, 2640]⟩
abbrev S4x2048x1536 : Shape := ⟨3, ![4, 2048, 1536]⟩
abbrev S4x1x3360 : Shape := ⟨3, ![4, 1, 3360]⟩
abbrev S4x3360 : Shape := ⟨2, ![4, 3360]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x7536, .f32⟩
  | .hbm, ⟨3, _⟩ => ⟨S4x2048x2048, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S1x1x2048, .f32⟩
  | .hbm, ⟨17, _⟩ => ⟨S4x2048x2048, .f32⟩
  | .hbm, ⟨18, _⟩ => ⟨S4x2048x2048, .f32⟩
  | .hbm, ⟨19, _⟩ => ⟨S4x2048x7536, .f32⟩
  | .hbm, ⟨20, _⟩ => ⟨S4x2048x3360, .f32⟩
  | .hbm, ⟨21, _⟩ => ⟨S4x2048x2640, .f32⟩
  | .hbm, ⟨22, _⟩ => ⟨S4x2048x1536, .f32⟩
  | .hbm, ⟨23, _⟩ => ⟨S4x1x3360, .f32⟩
  | .hbm, ⟨24, _⟩ => ⟨S4x3360, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel4.lean ====
abbrev S8192x2048 : Shape := ⟨2, ![8192, 2048]⟩
abbrev S8192x512 : Shape := ⟨2, ![8192, 512]⟩
abbrev S8192x1024 : Shape := ⟨2, ![8192, 1024]⟩
abbrev S2048x2048 : Shape := ⟨2, ![2048, 2048]⟩
abbrev S512x2048 : Shape := ⟨2, ![512, 2048]⟩
abbrev S512x512 : Shape := ⟨2, ![512, 512]⟩
abbrev S512x1024 : Shape := ⟨2, ![512, 1024]⟩
abbrev S1024x2048 : Shape := ⟨2, ![1024, 2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x512, .bf16⟩
  | .hbm, ⟨2, _⟩ => ⟨S8192x512, .bf16⟩
  | .hbm, ⟨3, _⟩ => ⟨S8192x1024, .bf16⟩
  | .hbm, ⟨4, _⟩ => ⟨S2048x2048, .f32⟩
  | .hbm, ⟨5, _⟩ => ⟨S2048x2048, .bf16⟩
  | .hbm, ⟨6, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S2048x2048, .bf16⟩
  | .local _ .vmem, ⟨9, _⟩ => ⟨S512x2048, .f32⟩
  | .local _ .vmem, ⟨10, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S8192x2048 : Shape := ⟨2, ![8192, 2048]⟩
abbrev S8192x512 : Shape := ⟨2, ![8192, 512]⟩
abbrev S8192x1024 : Shape := ⟨2, ![8192, 1024]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .bf16⟩
  | .hbm, ⟨2, _⟩ => ⟨S8192x512, .bf16⟩
  | .hbm, ⟨3, _⟩ => ⟨S8192x1024, .bf16⟩
  | .hbm, ⟨4, _⟩ => ⟨S2048x2048, .f32⟩
  | .hbm, ⟨5, _⟩ => ⟨S8192x2048, .bf16⟩
  | .hbm, ⟨6, _⟩ => ⟨S8192x2048, .f32⟩
  | .hbm, ⟨7, _⟩ => ⟨S8192x2048, .f32⟩
  | .hbm, ⟨8, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Kernel5.lean ====
abbrev S4x2048x2640 : Shape := ⟨3, ![4, 2048, 2640]⟩
abbrev S4x2048x1536 : Shape := ⟨3, ![4, 2048, 1536]⟩
abbrev S128 : Shape := ⟨1, ![128]⟩
abbrev S64 : Shape := ⟨1, ![64]⟩
abbrev S_ : Shape := ⟨0, ![]⟩
abbrev S4x2048x3456 : Shape := ⟨3, ![4, 2048, 3456]⟩
abbrev S4x2048x2688 : Shape := ⟨3, ![4, 2048, 2688]⟩
abbrev S4x2048x7680 : Shape := ⟨3, ![4, 2048, 7680]⟩
abbrev S1x128 : Shape := ⟨2, ![1, 128]⟩
abbrev S8x128 : Shape := ⟨2, ![8, 128]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S1x2048x1x128 : Shape := ⟨4, ![1, 2048, 1, 128]⟩
abbrev S1x2048x128 : Shape := ⟨3, ![1, 2048, 128]⟩
abbrev S3x2048x128 : Shape := ⟨3, ![3, 2048, 128]⟩
abbrev S8 : Shape := ⟨1, ![8]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S8192x7680 : Shape := ⟨2, ![8192, 7680]⟩
abbrev S8192x512 : Shape := ⟨2, ![8192, 512]⟩
abbrev S8192x1024 : Shape := ⟨2, ![8192, 1024]⟩
abbrev S8192x128 : Shape := ⟨2, ![8192, 128]⟩
abbrev S32768x128 : Shape := ⟨2, ![32768, 128]⟩
abbrev S256x7680 : Shape := ⟨2, ![256, 7680]⟩
abbrev S3x256x128 : Shape := ⟨3, ![3, 256, 128]⟩
abbrev S256x512 : Shape := ⟨2, ![256, 512]⟩
abbrev S256x1024 : Shape := ⟨2, ![256, 1024]⟩
abbrev S256x128 : Shape := ⟨2, ![256, 128]⟩
abbrev S1024x128 : Shape := ⟨2, ![1024, 128]⟩
abbrev S256 : Shape := ⟨1, ![256]⟩
abbrev S256x1 : Shape := ⟨2, ![256, 1]⟩
abbrev S1x256x128 : Shape := ⟨3, ![1, 256, 128]⟩
abbrev S4x2048x4x128 : Shape := ⟨4, ![4, 2048, 4, 128]⟩
abbrev S4x2048x16x64 : Shape := ⟨4, ![4, 2048, 16, 64]⟩
abbrev S8192x64 : Shape := ⟨2, ![8192, 64]⟩
abbrev S4x2048x64 : Shape := ⟨3, ![4, 2048, 64]⟩
abbrev S8192x16 : Shape := ⟨2, ![8192, 16]⟩
abbrev S4x2048x16 : Shape := ⟨3, ![4, 2048, 16]⟩

abbrev nBuf : Space → Nat
  | .hbm => 136
  | .vmem => 31
  | .smem => 0
  | _ => 0

abbrev hbmTy0_0 (i : Nat) : BufTy := match i % 128 with
  | 0 => ⟨S4x2048x2640, .f32⟩
  | 1 => ⟨S4x2048x1536, .f32⟩
  | 2 => ⟨S128, .f32⟩
  | 3 => ⟨S128, .f32⟩
  | 4 => ⟨S64, .f32⟩
  | 5 => ⟨S128, .f32⟩
  | 6 => ⟨S128, .f32⟩
  | 7 => ⟨S_, .f32⟩
  | 8 => ⟨S4x2048x3456, .f32⟩
  | 9 => ⟨S_, .i32⟩
  | 10 => ⟨S_, .f32⟩
  | 11 => ⟨S4x2048x2688, .f32⟩
  | 12 => ⟨S4x2048x7680, .f32⟩
  | 13 => ⟨S_, .i32⟩
  | 14 => ⟨S_, .f32⟩
  | 15 => ⟨S128, .f32⟩
  | 16 => ⟨S_, .f32⟩
  | 17 => ⟨S128, .f32⟩
  | 18 => ⟨S1x128, .f32⟩
  | 19 => ⟨S1x128, .f32⟩
  | 20 => ⟨S1x128, .f32⟩
  | 21 => ⟨S1x128, .f32⟩
  | 22 => ⟨S1x128, .f32⟩
  | 23 => ⟨S1x128, .f32⟩
  | 24 => ⟨S1x128, .f32⟩
  | 25 => ⟨S1x128, .f32⟩
  | 26 => ⟨S8x128, .f32⟩
  | 27 => ⟨S2048, .i32⟩
  | 28 => ⟨S16, .f32⟩
  | 29 => ⟨S_, .f32⟩
  | 30 => ⟨S16, .f32⟩
  | 31 => ⟨S16, .f32⟩
  | 32 => ⟨S_, .f32⟩
  | 33 => ⟨S16, .f32⟩
  | 34 => ⟨S16, .f32⟩
  | 35 => ⟨S_, .f32⟩
  | 36 => ⟨S16, .f32⟩
  | 37 => ⟨S16, .f32⟩
  | 38 => ⟨S2048, .f32⟩
  | 39 => ⟨S2048x1, .f32⟩
  | 40 => ⟨S1x16, .f32⟩
  | 41 => ⟨S2048x16, .f32⟩
  | 42 => ⟨S2048x16, .f32⟩
  | 43 => ⟨S2048x16, .f32⟩
  | 44 => ⟨S2048x16, .f32⟩
  | 45 => ⟨S2048x16, .f32⟩
  | 46 => ⟨S_, .f32⟩
  | 47 => ⟨S2048x16, .f32⟩
  | 48 => ⟨S_, .f32⟩
  | 49 => ⟨S2048x96, .f32⟩
  | 50 => ⟨S_, .f32⟩
  | 51 => ⟨S2048x96, .f32⟩
  | 52 => ⟨S2048x96, .f32⟩
  | 53 => ⟨S2048x128, .f32⟩
  | 54 => ⟨S2048x128, .f32⟩
  | 55 => ⟨S2048x16, .f32⟩
  | 56 => ⟨S2048x128, .f32⟩
  | 57 => ⟨S1x2048x1x128, .f32⟩
  | 58 => ⟨S1x2048x1x128, .f32⟩
  | 59 => ⟨S2048x128, .f32⟩
  | 60 => ⟨S1x2048x1x128, .f32⟩
  | 61 => ⟨S1x2048x1x128, .f32⟩
  | 62 => ⟨S2048x128, .f32⟩
  | 63 => ⟨S1x2048x1x128, .f32⟩
  | 64 => ⟨S1x2048x1x128, .f32⟩
  | 65 => ⟨S2048x128, .f32⟩
  | 66 => ⟨S1x2048x128, .f32⟩
  | 67 => ⟨S1x2048x128, .f32⟩
  | 68 => ⟨S1x2048x128, .f32⟩
  | 69 => ⟨S3x2048x128, .f32⟩
  | 70 => ⟨S8, .f32⟩
  | 71 => ⟨S_, .f32⟩
  | 72 => ⟨S8, .f32⟩
  | 73 => ⟨S8, .f32⟩
  | 74 => ⟨S_, .f32⟩
  | 75 => ⟨S8, .f32⟩
  | 76 => ⟨S8, .f32⟩
  | 77 => ⟨S_, .f32⟩
  | 78 => ⟨S8, .f32⟩
  | 79 => ⟨S8, .f32⟩
  | 80 => ⟨S2048, .f32⟩
  | 81 => ⟨S2048x1, .f32⟩
  | 82 => ⟨S1x8, .f32⟩
  | 83 => ⟨S2048x8, .f32⟩
  | 84 => ⟨S2048x8, .f32⟩
  | 85 => ⟨S2048x8, .f32⟩
  | 86 => ⟨S2048x8, .f32⟩
  | 87 => ⟨S2048x8, .f32⟩
  | 88 => ⟨S_, .f32⟩
  | 89 => ⟨S2048x8, .f32⟩
  | 90 => ⟨S_, .f32⟩
  | 91 => ⟨S2048x48, .f32⟩
  | 92 => ⟨S_, .f32⟩
  | 93 => ⟨S2048x48, .f32⟩
  | 94 => ⟨S2048x48, .f32⟩
  | 95 => ⟨S2048x64, .f32⟩
  | 96 => ⟨S2048x64, .f32⟩
  | 97 => ⟨S2048x8, .f32⟩
  | 98 => ⟨S2048x64, .f32⟩
  | 99 => ⟨S1x2048x1x64, .f32⟩
  | 100 => ⟨S1x2048x2x64, .f32⟩
  | 101 => ⟨S2048x128, .f32⟩
  | 102 => ⟨S1x2048x1x64, .f32⟩
  | 103 => ⟨S1x2048x2x64, .f32⟩
  | 104 => ⟨S2048x128, .f32⟩
  | 105 => ⟨S1x2048x1x64, .f32⟩
  | 106 => ⟨S1x2048x2x64, .f32⟩
  | 107 => ⟨S2048x128, .f32⟩
  | 108 => ⟨S1x2048x128, .f32⟩
  | 109 => ⟨S1x2048x128, .f32⟩
  | 110 => ⟨S1x2048x128, .f32⟩
  | 111 => ⟨S3x2048x128, .f32⟩
  | 112 => ⟨S8192x7680, .f32⟩
  | 113 => ⟨S8192x512, .f32⟩
  | 114 => ⟨S8192x512, .f32⟩
  | 115 => ⟨S8192x512, .f32⟩
  | 116 => ⟨S8192x1024, .f32⟩
  | 117 => ⟨S8192x128, .f32⟩
  | 118 => ⟨S8192x512, .f32⟩
  | 119 => ⟨S8192x512, .f32⟩
  | 120 => ⟨S8192x512, .f32⟩
  | 121 => ⟨S32768x128, .f32⟩
  | 122 => ⟨S32768x128, .f32⟩
  | 123 => ⟨S32768x128, .f32⟩
  | 124 => ⟨S32768x128, .f32⟩
  | 125 => ⟨S4x2048x4x128, .f32⟩
  | 126 => ⟨S4x2048x4x128, .f32⟩
  | 127 => ⟨S4x2048x4x128, .f32⟩
  | _ => ⟨S4x2048x2640, .f32⟩

abbrev hbmTy0_1 (i : Nat) : BufTy := match i % 128 with
  | 0 => ⟨S4x2048x16x64, .f32⟩
  | 1 => ⟨S8192x64, .f32⟩
  | 2 => ⟨S4x2048x64, .f32⟩
  | 3 => ⟨S8192x16, .f32⟩
  | 4 => ⟨S4x2048x16, .f32⟩
  | 5 => ⟨S4x2048x4x128, .f32⟩
  | 6 => ⟨S4x2048x4x128, .f32⟩
  | 7 => ⟨S4x2048x4x128, .f32⟩
  | _ => ⟨S4x2048x2640, .f32⟩

abbrev hbmTy (i : Nat) : BufTy := match i / 128 with
  | 0 => hbmTy0_0 i
  | 1 => hbmTy0_1 i
  | _ => ⟨S4x2048x2640, .f32⟩

abbrev bufTy : (tb : Table) → Fin (tcTables nBuf tb) → BufTy
  | .hbm, ⟨i, _⟩ => hbmTy i
  | .local _ .vmem, ⟨0, _⟩ => ⟨S256x7680, .f32⟩
  | .local _ .vmem, ⟨1, _⟩ => ⟨S256x7680, .f32⟩
  | .local _ .vmem, ⟨2, _⟩ => ⟨S3x256x128, .f32⟩
  | .local _ .vmem, ⟨3, _⟩ => ⟨S3x256x128, .f32⟩
  | .local _ .vmem, ⟨4, _⟩ => ⟨S3x256x128, .f32⟩
  | .local _ .vmem, ⟨5, _⟩ => ⟨S3x256x128, .f32⟩
  | .local _ .vmem, ⟨6, _⟩ => ⟨S8x128, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x1024, .f32⟩
  | .local _ .vmem, ⟨14, _⟩ => ⟨S256x1024, .f32⟩
  | .local _ .vmem, ⟨15, _⟩ => ⟨S256x128, .f32⟩
  | .local _ .vmem, ⟨16, _⟩ => ⟨S256x128, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S1024x128, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S1024x128, .f32⟩
  | .local _ .vmem, ⟨30, _⟩ => ⟨S1024x128, .f32⟩
  | _, _ => ⟨S4x2048x2640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_11 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_cst_13 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88_0 : Ref sig .tc := ⟨.hbm, 113, rfl⟩
abbrev main_v88_1 : Ref sig .tc := ⟨.hbm, 114, rfl⟩
abbrev main_v88_2 : Ref sig .tc := ⟨.hbm, 115, rfl⟩
abbrev main_v88_3 : Ref sig .tc := ⟨.hbm, 116, rfl⟩
abbrev main_v88_4 : Ref sig .tc := ⟨.hbm, 117, rfl⟩
abbrev main_v88_5 : Ref sig .tc := ⟨.hbm, 118, rfl⟩
abbrev main_v88_6 : Ref sig .tc := ⟨.hbm, 119, rfl⟩
abbrev main_v88_7 : Ref sig .tc := ⟨.hbm, 120, rfl⟩
abbrev main_v88_8 : Ref sig .tc := ⟨.hbm, 121, rfl⟩
abbrev main_v88_9 : Ref sig .tc := ⟨.hbm, 122, rfl⟩
abbrev main_v88_10 : Ref sig .tc := ⟨.hbm, 123, rfl⟩
abbrev main_v88_11 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_2 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7680 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference5Ideal.lean ====
abbrev S4x2048x2640 : Shape := ⟨3, ![4, 2048, 2640]⟩
abbrev S4x2048x1536 : Shape := ⟨3, ![4, 2048, 1536]⟩
abbrev S128 : Shape := ⟨1, ![128]⟩
abbrev S64 : Shape := ⟨1, ![64]⟩
abbrev S2048 : Shape := ⟨1, ![2048]⟩
abbrev S4x2048x512 : Shape := ⟨3, ![4, 2048, 512]⟩
abbrev S4x2048x4x128 : Shape := ⟨4, ![4, 2048, 4, 128]⟩
abbrev S_ : Shape := ⟨0, ![]⟩
abbrev S4x2048x4 : Shape := ⟨3, ![4, 2048, 4]⟩
abbrev S4x2048x4x1 : Shape := ⟨4, ![4, 2048, 4, 1]⟩
abbrev S1x1x1x128 : Shape := ⟨4, ![1, 1, 1, 128]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S4x2048x4x16 : Shape := ⟨4, ![4, 2048, 4, 16]⟩
abbrev S1x2048x1x16 : Shape := ⟨4, ![1, 2048, 1, 16]⟩
abbrev S4x2048x4x96 : Shape := ⟨4, ![4, 2048, 4, 96]⟩
abbrev S4x2048x1024 : Shape := ⟨3, ![4, 2048, 1024]⟩
abbrev S4x2048x16x64 : Shape := ⟨4, ![4, 2048, 16, 64]⟩
abbrev S8 : Shape := ⟨1, ![8]⟩
abbrev S1x8 : Shape := ⟨2, ![1, 8]⟩
abbrev S2048x8 : Shape := ⟨2, ![2048, 8]⟩
abbrev S2048x1x8 : Shape := ⟨3, ![2048, 1, 8]⟩
abbrev S4x2048x16x8 : Shape := ⟨4, ![4, 2048, 16, 8]⟩
abbrev S1x2048x1x8 : Shape := ⟨4, ![1, 2048, 1, 8]⟩
abbrev S4x2048x16x48 : Shape := ⟨4, ![4, 2048, 16, 48]⟩
abbrev S4x2048x64 : Shape := ⟨3, ![4, 2048, 64]⟩
abbrev S4x2048 : Shape := ⟨2, ![4, 2048]⟩
abbrev S4x2048x1 : Shape := ⟨3, ![4, 2048, 1]⟩
abbrev S1x1x64 : Shape := ⟨3, ![1, 1, 64]⟩
abbrev S4x2048x1x64 : Shape := ⟨4, ![4, 2048, 1, 64]⟩
abbrev S4x2048x1x8 : Shape := ⟨4, ![4, 2048, 1, 8]⟩
abbrev S4x2048x1x48 : Shape := ⟨4, ![4, 2048, 1, 48]⟩
abbrev S4x2048x16 : Shape := ⟨3, ![4, 2048, 16]⟩

abbrev nBuf : Space → Nat
  | .hbm => 337
  | .vmem => 0
  | .smem => 0
  | _ => 0

abbrev hbmTy0_0 (i : Nat) : BufTy := match i % 128 with
  | 0 => ⟨S4x2048x2640, .f32⟩
  | 1 => ⟨S4x2048x1536, .f32⟩
  | 2 => ⟨S128, .f32⟩
  | 3 => ⟨S128, .f32⟩
  | 4 => ⟨S64, .f32⟩
  | 5 => ⟨S128, .f32⟩
  | 6 => ⟨S128, .f32⟩
  | 7 => ⟨S2048, .i32⟩
  | 8 => ⟨S4x2048x512, .f32⟩
  | 9 => ⟨S4x2048x4x128, .f32⟩
  | 10 => ⟨S4x2048x4x128, .f32⟩
  | 11 => ⟨S_, .f32⟩
  | 12 => ⟨S4x2048x4, .f32⟩
  | 13 => ⟨S4x2048x4x1, .f32⟩
  | 14 => ⟨S_, .f32⟩
  | 15 => ⟨S4x2048x4x1, .f32⟩
  | 16 => ⟨S4x2048x4x1, .f32⟩
  | 17 => ⟨S_, .f32⟩
  | 18 => ⟨S4x2048x4x1, .f32⟩
  | 19 => ⟨S4x2048x4x1, .f32⟩
  | 20 => ⟨S4x2048x4x1, .f32⟩
  | 21 => ⟨S4x2048x4x128, .f32⟩
  | 22 => ⟨S4x2048x4x128, .f32⟩
  | 23 => ⟨S1x1x1x128, .f32⟩
  | 24 => ⟨S4x2048x4x128, .f32⟩
  | 25 => ⟨S4x2048x4x128, .f32⟩
  | 26 => ⟨S16, .f32⟩
  | 27 => ⟨S_, .f32⟩
  | 28 => ⟨S16, .f32⟩
  | 29 => ⟨S16, .f32⟩
  | 30 => ⟨S_, .f32⟩
  | 31 => ⟨S16, .f32⟩
  | 32 => ⟨S16, .f32⟩
  | 33 => ⟨S_, .f32⟩
  | 34 => ⟨S16, .f32⟩
  | 35 => ⟨S16, .f32⟩
  | 36 => ⟨S2048, .f32⟩
  | 37 => ⟨S2048x1, .f32⟩
  | 38 => ⟨S1x16, .f32⟩
  | 39 => ⟨S2048x16, .f32⟩
  | 40 => ⟨S2048x16, .f32⟩
  | 41 => ⟨S2048x16, .f32⟩
  | 42 => ⟨S2048x16, .f32⟩
  | 43 => ⟨S2048x1x16, .f32⟩
  | 44 => ⟨S2048x16, .f32⟩
  | 45 => ⟨S2048x1x16, .f32⟩
  | 46 => ⟨S4x2048x4x16, .f32⟩
  | 47 => ⟨S4x2048x4x16, .f32⟩
  | 48 => ⟨S1x2048x1x16, .f32⟩
  | 49 => ⟨S4x2048x4x16, .f32⟩
  | 50 => ⟨S4x2048x4x16, .f32⟩
  | 51 => ⟨S1x2048x1x16, .f32⟩
  | 52 => ⟨S4x2048x4x16, .f32⟩
  | 53 => ⟨S4x2048x4x16, .f32⟩
  | 54 => ⟨S4x2048x4x16, .f32⟩
  | 55 => ⟨S1x2048x1x16, .f32⟩
  | 56 => ⟨S4x2048x4x16, .f32⟩
  | 57 => ⟨S4x2048x4x16, .f32⟩
  | 58 => ⟨S1x2048x1x16, .f32⟩
  | 59 => ⟨S4x2048x4x16, .f32⟩
  | 60 => ⟨S4x2048x4x16, .f32⟩
  | 61 => ⟨S4x2048x4x16, .f32⟩
  | 62 => ⟨S4x2048x4x96, .f32⟩
  | 63 => ⟨S4x2048x4x128, .f32⟩
  | 64 => ⟨S4x2048x512, .f32⟩
  | 65 => ⟨S4x2048x4x128, .f32⟩
  | 66 => ⟨S4x2048x4x128, .f32⟩
  | 67 => ⟨S_, .f32⟩
  | 68 => ⟨S4x2048x4, .f32⟩
  | 69 => ⟨S4x2048x4x1, .f32⟩
  | 70 => ⟨S_, .f32⟩
  | 71 => ⟨S4x2048x4x1, .f32⟩
  | 72 => ⟨S4x2048x4x1, .f32⟩
  | 73 => ⟨S_, .f32⟩
  | 74 => ⟨S4x2048x4x1, .f32⟩
  | 75 => ⟨S4x2048x4x1, .f32⟩
  | 76 => ⟨S4x2048x4x1, .f32⟩
  | 77 => ⟨S4x2048x4x128, .f32⟩
  | 78 => ⟨S4x2048x4x128, .f32⟩
  | 79 => ⟨S1x1x1x128, .f32⟩
  | 80 => ⟨S4x2048x4x128, .f32⟩
  | 81 => ⟨S4x2048x4x128, .f32⟩
  | 82 => ⟨S16, .f32⟩
  | 83 => ⟨S_, .f32⟩
  | 84 => ⟨S16, .f32⟩
  | 85 => ⟨S16, .f32⟩
  | 86 => ⟨S_, .f32⟩
  | 87 => ⟨S16, .f32⟩
  | 88 => ⟨S16, .f32⟩
  | 89 => ⟨S_, .f32⟩
  | 90 => ⟨S16, .f32⟩
  | 91 => ⟨S16, .f32⟩
  | 92 => ⟨S2048, .f32⟩
  | 93 => ⟨S2048x1, .f32⟩
  | 94 => ⟨S1x16, .f32⟩
  | 95 => ⟨S2048x16, .f32⟩
  | 96 => ⟨S2048x16, .f32⟩
  | 97 => ⟨S2048x16, .f32⟩
  | 98 => ⟨S2048x16, .f32⟩
  | 99 => ⟨S2048x1x16, .f32⟩
  | 100 => ⟨S2048x16, .f32⟩
  | 101 => ⟨S2048x1x16, .f32⟩
  | 102 => ⟨S4x2048x4x16, .f32⟩
  | 103 => ⟨S4x2048x4x16, .f32⟩
  | 104 => ⟨S1x2048x1x16, .f32⟩
  | 105 => ⟨S4x2048x4x16, .f32⟩
  | 106 => ⟨S4x2048x4x16, .f32⟩
  | 107 => ⟨S1x2048x1x16, .f32⟩
  | 108 => ⟨S4x2048x4x16, .f32⟩
  | 109 => ⟨S4x2048x4x16, .f32⟩
  | 110 => ⟨S4x2048x4x16, .f32⟩
  | 111 => ⟨S1x2048x1x16, .f32⟩
  | 112 => ⟨S4x2048x4x16, .f32⟩
  | 113 => ⟨S4x2048x4x16, .f32⟩
  | 114 => ⟨S1x2048x1x16, .f32⟩
  | 115 => ⟨S4x2048x4x16, .f32⟩
  | 116 => ⟨S4x2048x4x16, .f32⟩
  | 117 => ⟨S4x2048x4x16, .f32⟩
  | 118 => ⟨S4x2048x4x96, .f32⟩
  | 119 => ⟨S4x2048x4x128, .f32⟩
  | 120 => ⟨S4x2048x512, .f32⟩
  | 121 => ⟨S4x2048x4x128, .f32⟩
  | 122 => ⟨S4x2048x1024, .f32⟩
  | 123 => ⟨S4x2048x16x64, .f32⟩
  | 124 => ⟨S8, .f32⟩
  | 125 => ⟨S_, .f32⟩
  | 126 => ⟨S8, .f32⟩
  | 127 => ⟨S8, .f32⟩
  | _ => ⟨S4x2048x2640, .f32⟩

abbrev hbmTy0_1 (i : Nat) : BufTy := match i % 128 with
  | 0 => ⟨S_, .f32⟩
  | 1 => ⟨S8, .f32⟩
  | 2 => ⟨S8, .f32⟩
  | 3 => ⟨S_, .f32⟩
  | 4 => ⟨S8, .f32⟩
  | 5 => ⟨S8, .f32⟩
  | 6 => ⟨S2048, .f32⟩
  | 7 => ⟨S2048x1, .f32⟩
  | 8 => ⟨S1x8, .f32⟩
  | 9 => ⟨S2048x8, .f32⟩
  | 10 => ⟨S2048x8, .f32⟩
  | 11 => ⟨S2048x8, .f32⟩
  | 12 => ⟨S2048x8, .f32⟩
  | 13 => ⟨S2048x1x8, .f32⟩
  | 14 => ⟨S2048x8, .f32⟩
  | 15 => ⟨S2048x1x8, .f32⟩
  | 16 => ⟨S4x2048x16x8, .f32⟩
  | 17 => ⟨S4x2048x16x8, .f32⟩
  | 18 => ⟨S1x2048x1x8, .f32⟩
  | 19 => ⟨S4x2048x16x8, .f32⟩
  | 20 => ⟨S4x2048x16x8, .f32⟩
  | 21 => ⟨S1x2048x1x8, .f32⟩
  | 22 => ⟨S4x2048x16x8, .f32⟩
  | 23 => ⟨S4x2048x16x8, .f32⟩
  | 24 => ⟨S4x2048x16x8, .f32⟩
  | 25 => ⟨S1x2048x1x8, .f32⟩
  | 26 => ⟨S4x2048x16x8, .f32⟩
  | 27 => ⟨S4x2048x16x8, .f32⟩
  | 28 => ⟨S1x2048x1x8, .f32⟩
  | 29 => ⟨S4x2048x16x8, .f32⟩
  | 30 => ⟨S4x2048x16x8, .f32⟩
  | 31 => ⟨S4x2048x16x8, .f32⟩
  | 32 => ⟨S4x2048x16x48, .f32⟩
  | 33 => ⟨S4x2048x16x64, .f32⟩
  | 34 => ⟨S4x2048x64, .f32⟩
  | 35 => ⟨S4x2048x64, .f32⟩
  | 36 => ⟨S_, .f32⟩
  | 37 => ⟨S4x2048, .f32⟩
  | 38 => ⟨S4x2048x1, .f32⟩
  | 39 => ⟨S_, .f32⟩
  | 40 => ⟨S4x2048x1, .f32⟩
  | 41 => ⟨S4x2048x1, .f32⟩
  | 42 => ⟨S_, .f32⟩
  | 43 => ⟨S4x2048x1, .f32⟩
  | 44 => ⟨S4x2048x1, .f32⟩
  | 45 => ⟨S4x2048x1, .f32⟩
  | 46 => ⟨S4x2048x64, .f32⟩
  | 47 => ⟨S4x2048x64, .f32⟩
  | 48 => ⟨S1x1x64, .f32⟩
  | 49 => ⟨S4x2048x64, .f32⟩
  | 50 => ⟨S4x2048x64, .f32⟩
  | 51 => ⟨S4x2048x1x64, .f32⟩
  | 52 => ⟨S8, .f32⟩
  | 53 => ⟨S_, .f32⟩
  | 54 => ⟨S8, .f32⟩
  | 55 => ⟨S8, .f32⟩
  | 56 => ⟨S_, .f32⟩
  | 57 => ⟨S8, .f32⟩
  | 58 => ⟨S8, .f32⟩
  | 59 => ⟨S_, .f32⟩
  | 60 => ⟨S8, .f32⟩
  | 61 => ⟨S8, .f32⟩
  | 62 => ⟨S2048, .f32⟩
  | 63 => ⟨S2048x1, .f32⟩
  | 64 => ⟨S1x8, .f32⟩
  | 65 => ⟨S2048x8, .f32⟩
  | 66 => ⟨S2048x8, .f32⟩
  | 67 => ⟨S2048x8, .f32⟩
  | 68 => ⟨S2048x8, .f32⟩
  | 69 => ⟨S2048x1x8, .f32⟩
  | 70 => ⟨S2048x8, .f32⟩
  | 71 => ⟨S2048x1x8, .f32⟩
  | 72 => ⟨S4x2048x1x8, .f32⟩
  | 73 => ⟨S4x2048x1x8, .f32⟩
  | 74 => ⟨S1x2048x1x8, .f32⟩
  | 75 => ⟨S4x2048x1x8, .f32⟩
  | 76 => ⟨S4x2048x1x8, .f32⟩
  | 77 => ⟨S1x2048x1x8, .f32⟩
  | 78 => ⟨S4x2048x1x8, .f32⟩
  | 79 => ⟨S4x2048x1x8, .f32⟩
  | 80 => ⟨S4x2048x1x8, .f32⟩
  | 81 => ⟨S1x2048x1x8, .f32⟩
  | 82 => ⟨S4x2048x1x8, .f32⟩
  | 83 => ⟨S4x2048x1x8, .f32⟩
  | 84 => ⟨S1x2048x1x8, .f32⟩
  | 85 => ⟨S4x2048x1x8, .f32⟩
  | 86 => ⟨S4x2048x1x8, .f32⟩
  | 87 => ⟨S4x2048x1x8, .f32⟩
  | 88 => ⟨S4x2048x1x48, .f32⟩
  | 89 => ⟨S4x2048x1x64, .f32⟩
  | 90 => ⟨S4x2048x64, .f32⟩
  | 91 => ⟨S4x2048x16, .f32⟩
  | 92 => ⟨S_, .f32⟩
  | 93 => ⟨S4x2048x16, .f32⟩
  | 94 => ⟨S4x2048x16, .f32⟩
  | 95 => ⟨S4x2048x512, .f32⟩
  | 96 => ⟨S4x2048x4x128, .f32⟩
  | 97 => ⟨S4x2048x4x128, .f32⟩
  | 98 => ⟨S_, .f32⟩
  | 99 => ⟨S4x2048x4, .f32⟩
  | 100 => ⟨S4x2048x4x1, .f32⟩
  | 101 => ⟨S_, .f32⟩
  | 102 => ⟨S4x2048x4x1, .f32⟩
  | 103 => ⟨S4x2048x4x1, .f32⟩
  | 104 => ⟨S_, .f32⟩
  | 105 => ⟨S4x2048x4x1, .f32⟩
  | 106 => ⟨S4x2048x4x1, .f32⟩
  | 107 => ⟨S4x2048x4x1, .f32⟩
  | 108 => ⟨S4x2048x4x128, .f32⟩
  | 109 => ⟨S4x2048x4x128, .f32⟩
  | 110 => ⟨S1x1x1x128, .f32⟩
  | 111 => ⟨S4x2048x4x128, .f32⟩
  | 112 => ⟨S4x2048x4x128, .f32⟩
  | 113 => ⟨S16, .f32⟩
  | 114 => ⟨S_, .f32⟩
  | 115 => ⟨S16, .f32⟩
  | 116 => ⟨S16, .f32⟩
  | 117 => ⟨S_, .f32⟩
  | 118 => ⟨S16, .f32⟩
  | 119 => ⟨S16, .f32⟩
  | 120 => ⟨S_, .f32⟩
  | 121 => ⟨S16, .f32⟩
  | 122 => ⟨S16, .f32⟩
  | 123 => ⟨S2048, .f32⟩
  | 124 => ⟨S2048x1, .f32⟩
  | 125 => ⟨S1x16, .f32⟩
  | 126 => ⟨S2048x16, .f32⟩
  | 127 => ⟨S2048x16, .f32⟩
  | _ => ⟨S4x2048x2640, .f32⟩

abbrev hbmTy0_2 (i : Nat) : BufTy := match i % 128 with
  | 0 => ⟨S2048x16, .f32⟩
  | 1 => ⟨S2048x16, .f32⟩
  | 2 => ⟨S2048x1x16, .f32⟩
  | 3 => ⟨S2048x16, .f32⟩
  | 4 => ⟨S2048x1x16, .f32⟩
  | 5 => ⟨S4x2048x4x16, .f32⟩
  | 6 => ⟨S4x2048x4x16, .f32⟩
  | 7 => ⟨S1x2048x1x16, .f32⟩
  | 8 => ⟨S4x2048x4x16, .f32⟩
  | 9 => ⟨S4x2048x4x16, .f32⟩
  | 10 => ⟨S1x2048x1x16, .f32⟩
  | 11 => ⟨S4x2048x4x16, .f32⟩
  | 12 => ⟨S4x2048x4x16, .f32⟩
  | 13 => ⟨S4x2048x4x16, .f32⟩
  | 14 => ⟨S1x2048x1x16, .f32⟩
  | 15 => ⟨S4x2048x4x16, .f32⟩
  | 16 => ⟨S4x2048x4x16, .f32⟩
  | 17 => ⟨S1x2048x1x16, .f32⟩
  | 18 => ⟨S4x2048x4x16, .f32⟩
  | 19 => ⟨S4x2048x4x16, .f32⟩
  | 20 => ⟨S4x2048x4x16, .f32⟩
  | 21 => ⟨S4x2048x4x96, .f32⟩
  | 22 => ⟨S4x2048x4x128, .f32⟩
  | 23 => ⟨S4x2048x512, .f32⟩
  | 24 => ⟨S4x2048x4x128, .f32⟩
  | 25 => ⟨S4x2048x4x128, .f32⟩
  | 26 => ⟨S_, .f32⟩
  | 27 => ⟨S4x2048x4, .f32⟩
  | 28 => ⟨S4x2048x4x1, .f32⟩
  | 29 => ⟨S_, .f32⟩
  | 30 => ⟨S4x2048x4x1, .f32⟩
  | 31 => ⟨S4x2048x4x1, .f32⟩
  | 32 => ⟨S_, .f32⟩
  | 33 => ⟨S4x2048x4x1, .f32⟩
  | 34 => ⟨S4x2048x4x1, .f32⟩
  | 35 => ⟨S4x2048x4x1, .f32⟩
  | 36 => ⟨S4x2048x4x128, .f32⟩
  | 37 => ⟨S4x2048x4x128, .f32⟩
  | 38 => ⟨S1x1x1x128, .f32⟩
  | 39 => ⟨S4x2048x4x128, .f32⟩
  | 40 => ⟨S4x2048x4x128, .f32⟩
  | 41 => ⟨S16, .f32⟩
  | 42 => ⟨S_, .f32⟩
  | 43 => ⟨S16, .f32⟩
  | 44 => ⟨S16, .f32⟩
  | 45 => ⟨S_, .f32⟩
  | 46 => ⟨S16, .f32⟩
  | 47 => ⟨S16, .f32⟩
  | 48 => ⟨S_, .f32⟩
  | 49 => ⟨S16, .f32⟩
  | 50 => ⟨S16, .f32⟩
  | 51 => ⟨S2048, .f32⟩
  | 52 => ⟨S2048x1, .f32⟩
  | 53 => ⟨S1x16, .f32⟩
  | 54 => ⟨S2048x16, .f32⟩
  | 55 => ⟨S2048x16, .f32⟩
  | 56 => ⟨S2048x16, .f32⟩
  | 57 => ⟨S2048x16, .f32⟩
  | 58 => ⟨S2048x1x16, .f32⟩
  | 59 => ⟨S2048x16, .f32⟩
  | 60 => ⟨S2048x1x16, .f32⟩
  | 61 => ⟨S4x2048x4x16, .f32⟩
  | 62 => ⟨S4x2048x4x16, .f32⟩
  | 63 => ⟨S1x2048x1x16, .f32⟩
  | 64 => ⟨S4x2048x4x16, .f32⟩
  | 65 => ⟨S4x2048x4x16, .f32⟩
  | 66 => ⟨S1x2048x1x16, .f32⟩
  | 67 => ⟨S4x2048x4x16, .f32⟩
  | 68 => ⟨S4x2048x4x16, .f32⟩
  | 69 => ⟨S4x2048x4x16, .f32⟩
  | 70 => ⟨S1x2048x1x16, .f32⟩
  | 71 => ⟨S4x2048x4x16, .f32⟩
  | 72 => ⟨S4x2048x4x16, .f32⟩
  | 73 => ⟨S1x2048x1x16, .f32⟩
  | 74 => ⟨S4x2048x4x16, .f32⟩
  | 75 => ⟨S4x2048x4x16, .f32⟩
  | 76 => ⟨S4x2048x4x16, .f32⟩
  | 77 => ⟨S4x2048x4x96, .f32⟩
  | 78 => ⟨S4x2048x4x128, .f32⟩
  | 79 => ⟨S4x2048x512, .f32⟩
  | 80 => ⟨S4x2048x4x128, .f32⟩
  | _ => ⟨S4x2048x2640, .f32⟩

abbrev hbmTy (i : Nat) : BufTy := match i / 128 with
  | 0 => hbmTy0_0 i
  | 1 => hbmTy0_1 i
  | 2 => hbmTy0_2 i
  | _ => ⟨S4x2048x2640, .f32⟩

abbrev bufTy : (tb : Table) → Fin (tcTables nBuf tb) → BufTy
  | .hbm, ⟨i, _⟩ => hbmTy i
  | _, _ => ⟨S4x2048x2640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_5 : Ref sig .tc := ⟨.hbm, 67, rfl⟩
abbrev main_v54 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_v57 : Ref sig .tc := ⟨.hbm, 72, rfl⟩
abbrev main_cst_7 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_8 : Ref sig .tc := ⟨.hbm, 83, rfl⟩
abbrev main_v67 : Ref sig .tc := ⟨.hbm, 84, rfl⟩
abbrev main_v68 : Ref sig .tc := ⟨.hbm, 85, rfl⟩
abbrev main_cst_9 : Ref sig .tc := ⟨.hbm, 86, rfl⟩
abbrev main_v69 : Ref sig .tc := ⟨.hbm, 87, rfl⟩
abbrev main_v70 : Ref sig .tc := ⟨.hbm, 88, rfl⟩
abbrev main_cst_10 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_cst_11 : Ref sig .tc := ⟨.hbm, 125, rfl⟩
abbrev main_v106 : Ref sig .tc := ⟨.hbm, 126, rfl⟩
abbrev main_v107 : Ref sig .tc := ⟨.hbm, 127, rfl⟩
abbrev main_cst_12 : Ref sig .tc := ⟨.hbm, 128, rfl⟩
abbrev main_v108 : Ref sig .tc := ⟨.hbm, 129, rfl⟩
abbrev main_v109 : Ref sig .tc := ⟨.hbm, 130, rfl⟩
abbrev main_cst_13 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_cst_14 : Ref sig .tc := ⟨.hbm, 164, rfl⟩
abbrev main_v142 : Ref sig .tc := ⟨.hbm, 165, rfl⟩
abbrev main_v143 : Ref sig .tc := ⟨.hbm, 166, rfl⟩
abbrev main_cst_15 : Ref sig .tc := ⟨.hbm, 167, rfl⟩
abbrev main_v144 : Ref sig .tc := ⟨.hbm, 168, rfl⟩
abbrev main_v145 : Ref sig .tc := ⟨.hbm, 169, rfl⟩
abbrev main_cst_16 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_cst_17 : Ref sig .tc := ⟨.hbm, 181, rfl⟩
abbrev main_v156 : Ref sig .tc := ⟨.hbm, 182, rfl⟩
abbrev main_v157 : Ref sig .tc := ⟨.hbm, 183, rfl⟩
abbrev main_cst_18 : Ref sig .tc := ⟨.hbm, 184, rfl⟩
abbrev main_v158 : Ref sig .tc := ⟨.hbm, 185, rfl⟩
abbrev main_v159 : Ref sig .tc := ⟨.hbm, 186, rfl⟩
abbrev main_cst_19 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_cst_20 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_cst_21 : Ref sig .tc := ⟨.hbm, 226, rfl⟩
abbrev main_v197 : Ref sig .tc := ⟨.hbm, 227, rfl⟩
abbrev main_v198 : Ref sig .tc := ⟨.hbm, 228, rfl⟩
abbrev main_cst_22 : Ref sig .tc := ⟨.hbm, 229, rfl⟩
abbrev main_v199 : Ref sig .tc := ⟨.hbm, 230, rfl⟩
abbrev main_v200 : Ref sig .tc := ⟨.hbm, 231, rfl⟩
abbrev main_cst_23 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_cst_24 : Ref sig .tc := ⟨.hbm, 242, rfl⟩
abbrev main_v210 : Ref sig .tc := ⟨.hbm, 243, rfl⟩
abbrev main_v211 : Ref sig .tc := ⟨.hbm, 244, rfl⟩
abbrev main_cst_25 : Ref sig .tc := ⟨.hbm, 245, rfl⟩
abbrev main_v212 : Ref sig .tc := ⟨.hbm, 246, rfl⟩
abbrev main_v213 : Ref sig .tc := ⟨.hbm, 247, rfl⟩
abbrev main_cst_26 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_v219 : Ref sig .tc := ⟨.hbm, 254, rfl⟩
abbrev main_v220 : Ref sig .tc := ⟨.hbm, 255, rfl⟩
abbrev main_v221 : Ref sig .tc := ⟨.hbm, 256, rfl⟩
abbrev main_v222 : Ref sig .tc := ⟨.hbm, 257, rfl⟩
abbrev main_v223 : Ref sig .tc := ⟨.hbm, 258, rfl⟩
abbrev main_v224 : Ref sig .tc := ⟨.hbm, 259, rfl⟩
abbrev main_v225 : Ref sig .tc := ⟨.hbm, 260, rfl⟩
abbrev main_v226 : Ref sig .tc := ⟨.hbm, 261, rfl⟩
abbrev main_v227 : Ref sig .tc := ⟨.hbm, 262, rfl⟩
abbrev main_v228 : Ref sig .tc := ⟨.hbm, 263, rfl⟩
abbrev main_v229 : Ref sig .tc := ⟨.hbm, 264, rfl⟩
abbrev main_v230 : Ref sig .tc := ⟨.hbm, 265, rfl⟩
abbrev main_v231 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_v241 : Ref sig .tc := ⟨.hbm, 276, rfl⟩
abbrev main_v242 : Ref sig .tc := ⟨.hbm, 277, rfl⟩
abbrev main_v243 : Ref sig .tc := ⟨.hbm, 278, rfl⟩
abbrev main_v244 : Ref sig .tc := ⟨.hbm, 279, rfl⟩
abbrev main_v245 : Ref sig .tc := ⟨.hbm, 280, rfl⟩
abbrev main_v246 : Ref sig .tc := ⟨.hbm, 281, rfl⟩
abbrev main_cst_27 : Ref sig .tc := ⟨.hbm, 282, rfl⟩
abbrev main_v247 : Ref sig .tc := ⟨.hbm, 283, rfl⟩
abbrev main_v248 : Ref sig .tc := ⟨.hbm, 284, rfl⟩
abbrev main_cst_28 : Ref sig .tc := ⟨.hbm, 285, rfl⟩
abbrev main_v249 : Ref sig .tc := ⟨.hbm, 286, rfl⟩
abbrev main_v250 : Ref sig .tc := ⟨.hbm, 287, rfl⟩
abbrev main_cst_29 : Ref sig .tc := ⟨.hbm, 288, rfl⟩
abbrev main_v251 : Ref sig .tc := ⟨.hbm, 289, rfl⟩
abbrev main_v252 : Ref sig .tc := ⟨.hbm, 290, rfl⟩
abbrev main_v253 : Ref sig .tc := ⟨.hbm, 291, rfl⟩
abbrev main_v254 : Ref sig .tc := ⟨.hbm, 292, rfl⟩
abbrev main_v255 : Ref sig .tc := ⟨.hbm, 293, rfl⟩
abbrev main_v256 : Ref sig .tc := ⟨.hbm, 294, rfl⟩
abbrev main_v257 : Ref sig .tc := ⟨.hbm, 295, rfl⟩
abbrev main_v258 : Ref sig .tc := ⟨.hbm, 296, rfl⟩
abbrev main_v259 : Ref sig .tc := ⟨.hbm, 297, rfl⟩
abbrev main_cst_30 : Ref sig .tc := ⟨.hbm, 298, rfl⟩
abbrev main_v260 : Ref sig .tc := ⟨.hbm, 299, rfl⟩
abbrev main_v261 : Ref sig .tc := ⟨.hbm, 300, rfl⟩
abbrev main_cst_31 : Ref sig .tc := ⟨.hbm, 301, rfl⟩
abbrev main_v262 : Ref sig .tc := ⟨.hbm, 302, rfl⟩
abbrev main_v263 : Ref sig .tc := ⟨.hbm, 303, rfl⟩
abbrev main_cst_32 : Ref sig .tc := ⟨.hbm, 304, rfl⟩
abbrev main_v264 : Ref sig .tc := ⟨.hbm, 305, rfl⟩
abbrev main_v265 : Ref sig .tc := ⟨.hbm, 306, rfl⟩
abbrev main_v266 : Ref sig .tc := ⟨.hbm, 307, rfl⟩
abbrev main_v267 : Ref sig .tc := ⟨.hbm, 308, rfl⟩
abbrev main_v268 : Ref sig .tc := ⟨.hbm, 309, rfl⟩
abbrev main_v269 : Ref sig .tc := ⟨.hbm, 310, rfl⟩
abbrev main_v270 : Ref sig .tc := ⟨.hbm, 311, rfl⟩
abbrev main_v271 : Ref sig .tc := ⟨.hbm, 312, rfl⟩
abbrev main_v272 : Ref sig .tc := ⟨.hbm, 313, rfl⟩
abbrev main_v273 : Ref sig .tc := ⟨.hbm, 314, rfl⟩
abbrev main_v274 : Ref sig .tc := ⟨.hbm, 315, rfl⟩
abbrev main_v275 : Ref sig .tc := ⟨.hbm, 316, rfl⟩
abbrev main_v276 : Ref sig .tc := ⟨.hbm, 317, rfl⟩
abbrev main_v277 : Ref sig .tc := ⟨.hbm, 318, rfl⟩
abbrev main_v278 : Ref sig .tc := ⟨.hbm, 319, rfl⟩
abbrev main_v279 : Ref sig .tc := ⟨.hbm, 320, rfl⟩
abbrev main_v280 : Ref sig .tc := ⟨.hbm, 321, rfl⟩
abbrev main_v281 : Ref sig .tc := ⟨.hbm, 322, rfl⟩
abbrev main_v282 : Ref sig .tc := ⟨.hbm, 323, rfl⟩
abbrev main_v283 : Ref sig .tc := ⟨.hbm, 324, rfl⟩
abbrev main_v284 : Ref sig .tc := ⟨.hbm, 325, rfl⟩
abbrev main_v285 : Ref sig .tc := ⟨.hbm, 326, rfl⟩
abbrev main_v286 : Ref sig .tc := ⟨.hbm, 327, rfl⟩
abbrev main_v287 : Ref sig .tc := ⟨.hbm, 328, rfl⟩
abbrev main_v288 : Ref sig .tc := ⟨.hbm, 329, rfl⟩
abbrev main_v289 : Ref sig .tc := ⟨.hbm, 330, rfl⟩
abbrev main_v290 : Ref sig .tc := ⟨.hbm, 331, rfl⟩
abbrev main_v291 : Ref sig .tc := ⟨.hbm, 332, rfl⟩
abbrev main_v292 : Ref sig .tc := ⟨.hbm, 333, rfl⟩
abbrev main_v293 : Ref sig .tc := ⟨.hbm, 334, rfl⟩
abbrev main_v294 : Ref sig .tc := ⟨.hbm, 335, rfl⟩
abbrev main_v295 : Ref sig .tc := ⟨.hbm, 336, rfl⟩

abbrev nD : Nat := 1
abbrev τ : Topo := Topo.v7x

variable {F : FTy → Type} [FloatOps F]
-- ==== Kernel6.lean ====
abbrev S128x2048 : Shape := ⟨2, ![128, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S2048x1024 : Shape := ⟨2, ![2048, 1024]⟩
abbrev S1024x2048 : Shape := ⟨2, ![1024, 2048]⟩
abbrev S128 : Shape := ⟨1, ![128]⟩
abbrev S128x1 : Shape := ⟨2, ![128, 1]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048x8192, .bf16⟩
  | .hbm, ⟨5, _⟩ => ⟨S8192x2048, .bf16⟩
  | .hbm, ⟨6, _⟩ => ⟨S1x2048, .f32⟩
  | .hbm, ⟨7, _⟩ => ⟨S128x2048, .f32⟩
  | .local _ .vmem, ⟨0, _⟩ => ⟨S128x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S128x2048, .f32⟩
  | .local _ .vmem, ⟨7, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference6Ideal.lean ====
abbrev S128x2048 : Shape := ⟨2, ![128, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S128 : Shape := ⟨1, ![128]⟩
abbrev S128x1 : Shape := ⟨2, ![128, 1]⟩
abbrev S1x2048 : Shape := ⟨2, ![1, 2048]⟩
abbrev S128x8192 : Shape := ⟨2, ![128, 8192]⟩

abbrev nBuf : Space → Nat
  | .hbm => 27
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S128x2048, .f32⟩
  | .hbm, ⟨5, _⟩ => ⟨S_, .f32⟩
  | .hbm, ⟨6, _⟩ => ⟨S128, .f32⟩
  | .hbm, ⟨7, _⟩ => ⟨S128x1, .f32⟩
  | .hbm, ⟨8, _⟩ => ⟨S_, .f32⟩
  | .hbm, ⟨9, _⟩ => ⟨S128x1, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S128x1, .f32⟩
  | .hbm, ⟨15, _⟩ => ⟨S128x2048, .f32⟩
  | .hbm, ⟨16, _⟩ => ⟨S128x2048, .f32⟩
  | .hbm, ⟨17, _⟩ => ⟨S1x2048, .f32⟩
  | .hbm, ⟨18, _⟩ => ⟨S128x2048, .f32⟩
  | .hbm, ⟨19, _⟩ => ⟨S128x2048, .f32⟩
  | .hbm, ⟨20, _⟩ => ⟨S128x8192, .f32⟩
  | .hbm, ⟨21, _⟩ => ⟨S_, .f32⟩
  | .hbm, ⟨22, _⟩ => ⟨S128x8192, .f32⟩
  | .hbm, ⟨23, _⟩ => ⟨S128x8192, .f32⟩
  | .hbm, ⟨24, _⟩ => ⟨S128x8192, .f32⟩
  | .hbm, ⟨25, _⟩ => ⟨S128x2048, .f32⟩
  | .hbm, ⟨26, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel7.lean ====
abbrev S32x4x2048 : Shape := ⟨3, ![32, 4, 2048]⟩
abbrev S2048 : Shape := ⟨1, ![2048]⟩
abbrev S2048x7536 : Shape := ⟨2, ![2048, 7536]⟩
abbrev S2048x2640 : Shape := ⟨2, ![2048, 2640]⟩
abbrev S2048x1536 : Shape := ⟨2, ![2048, 1536]⟩
abbrev S2048x3360 : Shape := ⟨2, ![2048, 3360]⟩
abbrev S_ : Shape := ⟨0, ![]⟩
abbrev S2048x3456 : Shape := ⟨2, ![2048, 3456]⟩
abbrev S2048x2688 : Shape := ⟨2, ![2048, 2688]⟩
abbrev S2048x7680 : Shape := ⟨2, ![2048, 7680]⟩
abbrev S128x2048 : Shape := ⟨2, ![128, 2048]⟩
abbrev S1x2048 : Shape := ⟨2, ![1, 2048]⟩
abbrev S128x7680 : Shape := ⟨2, ![128, 7680]⟩
abbrev S128x1536 : Shape := ⟨2, ![128, 1536]⟩
abbrev S128 : Shape := ⟨1, ![128]⟩
abbrev S128x1 : Shape := ⟨2, ![128, 1]⟩
abbrev S32x4x7680 : Shape := ⟨3, ![32, 4, 7680]⟩
abbrev S32x4x2640 : Shape := ⟨3, ![32, 4, 2640]⟩
abbrev S32x4x1536 : Shape := ⟨3, ![32, 4, 1536]⟩
abbrev S32x4x3360 : Shape := ⟨3, ![32, 4, 3360]⟩
abbrev S32x1x3360 : Shape := ⟨3, ![32, 1, 3360]⟩
abbrev S32x3360 : Shape := ⟨2, ![32, 3360]⟩

abbrev nBuf : Space → Nat
  | .hbm => 23
  | .vmem => 7
  | .smem => 0
  | _ => 0

abbrev bufTy : (tb : Table) → Fin (tcTables nBuf tb) → BufTy
  | .hbm, ⟨0, _⟩ => ⟨S32x4x2048, .f32⟩
  | .hbm, ⟨1, _⟩ => ⟨S2048, .f32⟩
  | .hbm, ⟨2, _⟩ => ⟨S2048x7536, .f32⟩
  | .hbm, ⟨3, _⟩ => ⟨S2048x2640, .f32⟩
  | .hbm, ⟨4, _⟩ => ⟨S2048x1536, .f32⟩
  | .hbm, ⟨5, _⟩ => ⟨S2048x3360, .f32⟩
  | .hbm, ⟨6, _⟩ => ⟨S_, .i32⟩
  | .hbm, ⟨7, _⟩ => ⟨S_, .f32⟩
  | .hbm, ⟨8, _⟩ => ⟨S2048x3456, .f32⟩
  | .hbm, ⟨9, _⟩ => ⟨S_, .i32⟩
  | .hbm, ⟨10, _⟩ => ⟨S_, .f32⟩
  | .hbm, ⟨11, _⟩ => ⟨S2048x2688, .f32⟩
  | .hbm, ⟨12, _⟩ => ⟨S2048x7680, .f32⟩
  | .hbm, ⟨13, _⟩ => ⟨S2048x7680, .bf16⟩
  | .hbm, ⟨14, _⟩ => ⟨S128x2048, .f32⟩
  | .hbm, ⟨15, _⟩ => ⟨S1x2048, .f32⟩
  | .hbm, ⟨16, _⟩ => ⟨S128x7680, .f32⟩
  | .hbm, ⟨17, _⟩ => ⟨S32x4x7680, .f32⟩
  | .hbm, ⟨18, _⟩ => ⟨S32x4x2640, .f32⟩
  | .hbm, ⟨19, _⟩ => ⟨S32x4x1536, .f32⟩
  | .hbm, ⟨20, _⟩ => ⟨S32x4x3360, .f32⟩
  | .hbm, ⟨21, _⟩ => ⟨S32x1x3360, .f32⟩
  | .hbm, ⟨22, _⟩ => ⟨S32x3360, .f32⟩
  | .local _ .vmem, ⟨0, _⟩ => ⟨S128x2048, .f32⟩
  | .local _ .vmem, ⟨1, _⟩ => ⟨S1x2048, .f32⟩
  | .local _ .vmem, ⟨2, _⟩ => ⟨S2048x1536, .bf16⟩
  | .local _ .vmem, ⟨3, _⟩ => ⟨S2048x1536, .bf16⟩
  | .local _ .vmem, ⟨4, _⟩ => ⟨S128x1536, .f32⟩
  | .local _ .vmem, ⟨5, _⟩ => ⟨S128x1536, .f32⟩
  | .local _ .vmem, ⟨6, _⟩ => ⟨S128x2048, .bf16⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S32x4x2048 : Shape := ⟨3, ![32, 4, 2048]⟩
abbrev S2048 : Shape := ⟨1, ![2048]⟩
abbrev S2048x7536 : Shape := ⟨2, ![2048, 7536]⟩
abbrev S_ : Shape := ⟨0, ![]⟩
abbrev S32x4 : Shape := ⟨2, ![32, 4]⟩
abbrev S32x4x1 : Shape := ⟨3, ![32, 4, 1]⟩
abbrev S1x1x2048 : Shape := ⟨3, ![1, 1, 2048]⟩
abbrev S32x4x7536 : Shape := ⟨3, ![32, 4, 7536]⟩
abbrev S32x4x3360 : Shape := ⟨3, ![32, 4, 3360]⟩
abbrev S32x4x2640 : Shape := ⟨3, ![32, 4, 2640]⟩
abbrev S32x4x1536 : Shape := ⟨3, ![32, 4, 1536]⟩
abbrev S32x1x3360 : Shape := ⟨3, ![32, 1, 3360]⟩
abbrev S32x3360 : Shape := ⟨2, ![32, 3360]⟩

abbrev nBuf : Space → Nat
  | .hbm => 25
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S2048, .f32⟩
  | .hbm, ⟨2, _⟩ => ⟨S2048x7536, .f32⟩
  | .hbm, ⟨3, _⟩ => ⟨S32x4x2048, .f32⟩
  | .hbm, ⟨4, _⟩ => ⟨S_, .f32⟩
  | .hbm, ⟨5, _⟩ => ⟨S32x4, .f32⟩
  | .hbm, ⟨6, _⟩ => ⟨S32x4x1, .f32⟩
  | .hbm, ⟨7, _⟩ => ⟨S_, .f32⟩
  | .hbm, ⟨8, _⟩ => ⟨S32x4x1, .f32⟩
  | .hbm, ⟨9, _⟩ => ⟨S32x4x1, .f32⟩
  | .hbm, ⟨10, _⟩ => ⟨S_, .f32⟩
  | .hbm, ⟨11, _⟩ => ⟨S32x4x1, .f32⟩
  | .hbm, ⟨12, _⟩ => ⟨S32x4x1, .f32⟩
  | .hbm, ⟨13, _⟩ => ⟨S32x4x1, .f32⟩
  | .hbm, ⟨14, _⟩ => ⟨S32x4x2048, .f32⟩
  | .hbm, ⟨15, _⟩ => ⟨S32x4x2048, .f32⟩
  | .hbm, ⟨16, _⟩ => ⟨S1x1x2048, .f32⟩
  | .hbm, ⟨17, _⟩ => ⟨S32x4x2048, .f32⟩
  | .hbm, ⟨18, _⟩ => ⟨S32x4x2048, .f32⟩
  | .hbm, ⟨19, _⟩ => ⟨S32x4x7536, .f32⟩
  | .hbm, ⟨20, _⟩ => ⟨S32x4x3360, .f32⟩
  | .hbm, ⟨21, _⟩ => ⟨S32x4x2640, .f32⟩
  | .hbm, ⟨22, _⟩ => ⟨S32x4x1536, .f32⟩
  | .hbm, ⟨23, _⟩ => ⟨S32x1x3360, .f32⟩
  | .hbm, ⟨24, _⟩ => ⟨S32x3360, .f32⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Proof.MlpSmallBlock.lean ====
module

public import proofs.«01_k».proof.Proof.Gen.Kernel6Ideal.Value
public import Idealize.ShloMosaic.Lib.Pointwise
public import Idealize.ShloMosaic.Lib.Tactic

@[expose] public section

noncomputable section

/-! At the sample's rows. What one grid point of the feed-forward kernel leaves: the accumulator and the normalised rows. -/

namespace Cert.MlpSmall

open Cert.Kernel6Ideal Cert.Kernel6Ideal.Gen Idealize.ShloMosaic Idealize.ShloMosaic.TcCoe Idealize.SL.Sem

variable {F : FTy → Type} [FloatOps F]

theorem zeros2 : (![0, 0] : Fin 2 → Nat) = fun _ => 0 := by
  funext a; revert a; decide

section

variable (c : Dev nD) (i : grid0.Coords)
  (a2 : Memref sig .tc .vmem S128x2048 .f32) (h2 : a2.IsWhole)
  (a3 : Memref sig .tc .vmem S1x2048 .f32) (h3 : a3.IsWhole)
  (a4 : Memref sig .tc .vmem S2048x1024 .bf16) (h4 : a4.IsWhole)
  (a5 : Memref sig .tc .vmem S1024x2048 .bf16) (h5 : a5.IsWhole)
  (a6 : Memref sig .tc .vmem S128x2048 .f32) (h6 : a6.IsWhole)
  (a7 : Memref sig .tc .vmem S128x2048 .bf16) (h7 : a7.IsWhole)
  (x0 : Vec F S128x2048 .f32) (x1 : Vec F S1x2048 .f32)
  (x2 : Vec F S2048x1024 .bf16) (x3 : Vec F S1024x2048 .bf16)

/-- A later point of a row block: the accumulator gains this point's product. -/
theorem acc_next (hc : ¬cond0_0 i) (xo : Vec F S128x2048 .f32) (xs : Vec F S128x2048 .bf16) :
    out0_B_4 c i a2 h2 a3 h3 a4 h4 a5 h5 a6 h6 a7 h7 hc x0 x1 x2 x3 xo xs = k0_pay2 xs x2 xo x3 := by
  unfold out0_B_4
  rw [View.read_writes_eq_canon _ _ _
    (cover0_B_4 c i a2 h2 a3 h3 a4 h4 a5 h5 a6 h6 a7 h7 hc x0 x1 x2 x3 xo xs)]
  unfold kernelRun0_B
  dsimp only
  rw [View.canon_unit_zero zeros2]
  simp only [View.readAt_eq_ld, h2.read_unread, h3.read_unread, h4.read_unread, h5.read_unread,
    h6.read_unread, h7.read_unread, View.ld_unit_zero (S := S128x2048) zeros2,
    View.ld_unit_zero (S := S2048x1024) zeros2, View.ld_unit_zero (S := S1024x2048) zeros2]

/-- The first point of a row block leaves the normalised rows in the scratch. -/
theorem rows_first (hc : cond0_0 i) :
    sout0_A_0 c i a2 h2 a3 h3 a4 h4 a5 h5 a6 h6 a7 h7 hc x0 x1 x2 x3 = k0_pay1 x0 x1 := by
  unfold sout0_A_0
  rw [View.read_writes_eq_canon _ _ _
    (scover0_A_0 c i a2 h2 a3 h3 a4 h4 a5 h5 a6 h6 a7 h7 hc x0 x1 x2 x3)]
  unfold kernelRun0_A
  dsimp only
  sl_unfold_words
  rw [View.canon_unit_zero zeros2]
  simp only [View.readAt_eq_ld, h2.read_unread, h3.read_unread,
    View.ld_unit_zero (S := S128x2048) zeros2, View.ld_unit_zero (S := S1x2048) zeros2]

/-- The first point of a row block starts the accumulator at the rows themselves and adds the
    first product, taken over the rows it has just normalised. -/
theorem acc_first (hc : cond0_0 i) :
    out0_A_4 c i a2 h2 a3 h3 a4 h4 a5 h5 a6 h6 a7 h7 hc x0 x1 x2 x3
      = k0_pay2 (k0_pay1 x0 x1) x2 x0 x3 := by
  unfold out0_A_4
  rw [View.read_writes_eq_canon _ _ _
    (cover0_A_4 c i a2 h2 a3 h3 a4 h4 a5 h5 a6 h6 a7 h7 hc x0 x1 x2 x3)]
  unfold kernelRun0_A
  dsimp only
  sl_unfold_words
  rw [View.canon_cons_unit_zero (S := S128x2048) zeros2]
  simp only [View.readCov_unit_zero (S := S128x2048) _ zeros2, View.readAt_eq_ld, h2.read_unread,
    h3.read_unread, h4.read_unread, h5.read_unread, View.ld_unit_zero (S := S128x2048) zeros2,
    View.ld_unit_zero (S := S1x2048) zeros2, View.ld_unit_zero (S := S2048x1024) zeros2,
    View.ld_unit_zero (S := S1024x2048) zeros2]

end

/-- The pair a grid point carries on, over what the point before it left. -/
theorem step_first (m : (ℓ : Loc nD τ sig) → Buf (Elt F) ℓ) (c : Dev nD) (t : Fin cfg0.N)
    (h : t.val % 8 = 0) : outsAt0 m c t.val t.isLt =
      (k0_pay2 (k0_pay1 (iblk m c 0 t) (iblk m c 1 t)) (iblk m c 2 t) (iblk m c 0 t) (iblk m c 3 t),
        k0_pay1 (iblk m c 0 t) (iblk m c 1 t)) := by
  rw [outsAt0_A m c t h, acc_first, rows_first]

/-- Past the first point of its row block a point adds to the accumulator and keeps the rows. -/
theorem step_next (m : (ℓ : Loc nD τ sig) → Buf (Elt F) ℓ) (c : Dev nD) (n : ℕ) (hn : n + 1 < cfg0.N)
    (h : ¬(n + 1) % 8 = 0) : outsAt0 m c (n + 1) hn =
      (k0_pay2 (outsAt0 m c n (Nat.lt_of_succ_lt hn)).2 (iblk m c 2 ⟨n + 1, hn⟩)
        (outsAt0 m c n (Nat.lt_of_succ_lt hn)).1 (iblk m c 3 ⟨n + 1, hn⟩),
        (outsAt0 m c n (Nat.lt_of_succ_lt hn)).2) := by
  rw [outsAt0_B m c ⟨n + 1, hn⟩ h, acc_next]
  rfl

end Cert.MlpSmall

end
-- ==== Proof.MlpSmallPay.lean ====
module

public import proofs.«01_k».proof.Proof.Gen.Kernel6Ideal.Skeleton
public import Idealize.ShloMosaic.Lib.Pointwise

@[expose] public section

set_option maxRecDepth 16384

noncomputable section

/-! At the sample's rows. The two stored values of the feed-forward kernel, read at an element over the extended reals. -/

namespace Cert.MlpSmall

open Cert.Kernel6Ideal Cert.Kernel6Ideal.Gen Idealize.ShloMosaic

/-- One element of a row scaled to unit mean square and by the gain: the row `x`, the gain `g`. -/
def unit (x g : Fin 2048 → EReal) (e : Fin 2048) : EReal :=
  x e * Ideal.rsqrt (Ideal.div (∑ k, x k * x k) (Ideal.ofBits FTy.f32 1157627904#32)
    + Ideal.ofBits FTy.f32 897988541#32) * g e

/-- One hidden unit of the layer: the squared positive part of a row against a column. -/
def hidden (y w : Fin 2048 → EReal) : EReal := max (∑ e, y e * w e) 0 * max (∑ e, y e * w e) 0

/-- The normalised rows the first point stores. -/
theorem pay1_apply (x : Vec Ideal S128x2048 .f32) (g : Vec Ideal S1x2048 .f32) (r : Fin 128)
    (e : Fin 2048) : k0_pay1 (F := Ideal) x g (ix2 r e)
      = unit (fun k => x (ix2 r k)) (fun k => g (ix2 0 k)) e := by
  pointwise [k0_pay1]
  rfl

/-- The accumulator after a point: what it held and the product of the point's hidden units. -/
theorem pay2_apply (y : Vec Ideal S128x2048 .bf16) (u : Vec Ideal S2048x1024 .bf16)
    (a : Vec Ideal S128x2048 .f32) (w : Vec Ideal S1024x2048 .bf16) (r : Fin 128) (e : Fin 2048) :
    k0_pay2 (F := Ideal) y u a w (ix2 r e) = a (ix2 r e)
      + ∑ k, hidden (fun d => y (ix2 r d)) (fun d => u (ix2 d k)) * w (ix2 k e) := by
  pointwise [k0_pay2]
  rfl

end Cert.MlpSmall

end
-- ==== Proof.MlpSmallFold.lean ====
module

public import proofs.«01_k».proof.Proof.MlpSmallBlock
public import proofs.«01_k».proof.Proof.MlpSmallPay
public import Idealize.ShloMosaic.Lib.Pointwise

@[expose] public section

set_option maxRecDepth 16384

noncomputable section

/-! At the sample's rows. What the feed-forward kernel's result array holds: the rows plus the hidden units' product,
    summed over the eight column tiles of the hidden layer. -/

namespace Cert.MlpSmall

open Cert.Kernel6Ideal Cert.Kernel6Ideal.Gen Idealize.ShloMosaic Idealize.ShloMosaic.TcCoe Idealize.SL.Sem

/-- Where each window's block lies at a grid point: the row tile is the quotient by eight, the
    hidden tile the remainder. -/
theorem tiles : ∀ t : Fin cfg0.N,
    (win0_0.index t (0 : Fin 2) = t.val / 8 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 8)
    ∧ (win0_3.index t (0 : Fin 2) = t.val % 8 ∧ win0_3.index t (1 : Fin 2) = 0) :=
  (by decide +kernel : ∀ t : Fin grid0.N, _)

variable (m : (ℓ : Loc nD τ sig) → Buf (Elt Ideal) ℓ) (c : Dev nD)

/-- The four arguments as launched. -/
abbrev xs : Vec Ideal S128x2048 .f32 := m ((c : Thread nD τ).loc main_arg0)
abbrev gs : Vec Ideal S2048 .f32 := m ((c : Thread nD τ).loc main_arg1)
abbrev us : Vec Ideal S2048x8192 .f32 := m ((c : Thread nD τ).loc main_arg2)
abbrev ws : Vec Ideal S8192x2048 .f32 := m ((c : Thread nD τ).loc main_arg3)

theorem gain_in (e : Fin 2048) : V m c main_v2 (ix2 0 e) = gs m c (ix1 e) := by
  unfold V
  simp only [hostOps0]
  after_results
  pointwise

theorem up_in (d : Fin 2048) (k : Fin 8192) : V m c main_v0 (ix2 d k) = us m c (ix2 d k) := by
  unfold V
  simp only [hostOps0]
  after_results
  rfl

theorem down_in (k : Fin 8192) (e : Fin 2048) : V m c main_v1 (ix2 k e) = ws m c (ix2 k e) := by
  unfold V
  simp only [hostOps0]
  after_results
  rfl

/-- The row block's element at a grid point. -/
theorem block_x (t : Fin cfg0.N) (R : Fin 128) (r : Fin 128) (e : Fin 2048)
    (hR : R.val = 128 * (t.val / 8) + r.val) : iblk m c 0 t (ix2 r e) = xs m c (ix2 R e) := by
  unfold iblk
  rw [View.read_apply]
  show V m c main_arg0 _ = _
  rw [V_main_arg0]
  congr 1
  funext a
  apply Fin.ext
  have h := (tiles t).1
  match a with
  | ⟨0, _⟩ => show win0_0.index t 0 * 128 + 1 * r.val = R.val; omega
  | ⟨1, _⟩ => show win0_0.index t 1 * 2048 + 1 * e.val = e.val; omega

/-- The gain's element at a grid point. -/
theorem block_g (t : Fin cfg0.N) (e : Fin 2048) : iblk m c 1 t (ix2 0 e) = gs m c (ix1 e) := by
  unfold iblk
  rw [View.read_apply]
  refine Eq.trans ?_ (gain_in m c e)
  show V m c main_v2 _ = _
  congr 1
  funext a
  apply Fin.ext
  have h := (tiles t).2.1
  match a with
  | ⟨0, _⟩ => show win0_1.index t 0 * 1 + 1 * 0 = 0; omega
  | ⟨1, _⟩ => show win0_1.index t 1 * 2048 + 1 * e.val = e.val; omega

/-- The first weight's element at a grid point: its column tile. -/
theorem block_u (t : Fin cfg0.N) (d : Fin 2048) (k : Fin 1024) (K : Fin 8192)
    (hK : K.val = k.val + 1024 * (t.val % 8)) : iblk m c 2 t (ix2 d k) = us m c (ix2 d K) := by
  unfold iblk
  rw [View.read_apply]
  refine Eq.trans ?_ (up_in m c d K)
  show V m c main_v0 _ = _
  congr 1
  funext a
  apply Fin.ext
  have h := (tiles t).2.2.1
  match a with
  | ⟨0, _⟩ => show win0_2.index t 0 * 2048 + 1 * d.val = d.val; omega
  | ⟨1, _⟩ => show win0_2.index t 1 * 1024 + 1 * k.val = K.val; omega

/-- The second weight's element at a grid point: its row tile. -/
theorem block_w (t : Fin cfg0.N) (k : Fin 1024) (K : Fin 8192) (e : Fin 2048)
    (hK : K.val = k.val + 1024 * (t.val % 8)) : iblk m c 3 t (ix2 k e) = ws m c (ix2 K e) := by
  unfold iblk
  rw [View.read_apply]
  refine Eq.trans ?_ (down_in m c K e)
  show V m c main_v1 _ = _
  congr 1
  funext a
  apply Fin.ext
  have h := (tiles t).2.2.2
  match a with
  | ⟨0, _⟩ => show win0_3.index t 0 * 1024 + 1 * k.val = K.val; omega
  | ⟨1, _⟩ => show win0_3.index t 1 * 2048 + 1 * e.val = e.val; omega

/-- A normalised row of the whole array. -/
def row (R : Fin 128) : Fin 2048 → EReal :=
  unit (fun k => xs m c (ix2 R k)) (fun k => gs m c (ix1 k))

/-- One hidden unit's part of one element of the result. -/
def part (R : Fin 128) (e : Fin 2048) (K : Fin 8192) : EReal :=
  hidden (row m c R) (fun d => us m c (ix2 d K)) * ws m c (ix2 K e)

/-- The parts of one tile of the hidden layer, added up. -/
def tile (R : Fin 128) (e : Fin 2048) (s : ℕ) : EReal :=
  ∑ k : Fin 1024, part m c R e (Fin.ofNat 8192 (k.val + 1024 * s))

theorem tile_val (s : ℕ) (hs : s < 8) (k : Fin 1024) :
    (Fin.ofNat 8192 (k.val + 1024 * s)).val = k.val + 1024 * s :=
  Nat.mod_eq_of_lt (by have := k.isLt; omega)

/-- What the first `j + 1` points of row block `b` leave: the accumulator holds the rows and the
    first `j + 1` tiles, the scratch the normalised rows. -/
theorem carried (b : ℕ) (hb : b < 1) : ∀ (j : ℕ) (hj : j < 8) (h : 8 * b + j < cfg0.N)
    (R : Fin 128) (r : Fin 128) (e : Fin 2048), R.val = 128 * b + r.val →
    (outsAt0 m c (8 * b + j) h).1 (ix2 r e)
      = xs m c (ix2 R e) + ∑ s ∈ Finset.range (j + 1), tile m c R e s
    ∧ (outsAt0 m c (8 * b + j) h).2 (ix2 r e) = row m c R e
  | 0, hj, h, R, r, e, hR => by
    have hq : R.val = 128 * ((⟨8 * b + 0, h⟩ : Fin cfg0.N).val / 8) + r.val := by dsimp only; omega
    rw [step_first m c ⟨8 * b + 0, h⟩ (by dsimp only; omega)]
    dsimp only
    have hy : ∀ d : Fin 2048, k0_pay1 (F := Ideal) (iblk m c 0 ⟨8 * b + 0, h⟩)
        (iblk m c 1 ⟨8 * b + 0, h⟩) (ix2 r d) = row m c R d := fun d => by
      rw [pay1_apply, row]
      simp only [block_x m c ⟨8 * b + 0, h⟩ R r _ hq, block_g]
    refine ⟨?_, hy e⟩
    rw [pay2_apply, block_x m c _ R r e hq, Finset.sum_range_one, tile]
    refine Ideal.add_congr rfl (Finset.sum_congr rfl fun k _ => ?_)
    have hk := tile_val 0 (by omega) k
    simp only [hy]
    rw [part, block_w m c _ k _ e (hk.trans (by dsimp only; omega))]
    simp only [block_u m c ⟨8 * b + 0, h⟩ _ k _ (hk.trans (by dsimp only; omega))]
  | j + 1, hj, h, R, r, e, hR => by
    have ih := carried b hb j (by omega) (Nat.lt_of_succ_lt h) R r
    show (outsAt0 m c ((8 * b + j) + 1) h).1 (ix2 r e) = _ ∧ (outsAt0 m c ((8 * b + j) + 1) h).2 (ix2 r e) = _
    rw [step_next m c (8 * b + j) h (by omega)]
    dsimp only
    refine ⟨?_, (ih e hR).2⟩
    rw [pay2_apply, (ih e hR).1, Finset.sum_range_succ _ (j + 1), ← add_assoc]
    refine Ideal.add_congr rfl (Finset.sum_congr rfl fun k _ => ?_)
    have hk := tile_val (j + 1) hj k
    simp only [fun d => (ih d hR).2]
    rw [part, block_w m c _ k _ e (hk.trans (by dsimp only; omega))]
    simp only [block_u m c ⟨8 * b + j + 1, h⟩ _ k _ (hk.trans (by dsimp only; omega))]

/-- Eight tiles of 1024 hidden units are the 8192 hidden units. -/
theorem tiles_sum (R : Fin 128) (e : Fin 2048) :
    ∑ s ∈ Finset.range 8, tile m c R e s = ∑ K, part m c R e K := by
  rw [← Fin.sum_univ_eq_sum_range (tile m c R e) 8]
  unfold tile
  rw [← Fintype.sum_prod_type' (f := fun (s : Fin 8) (k : Fin 1024) =>
    part m c R e (Fin.ofNat 8192 (k.val + 1024 * s.val)))]
  refine Fintype.sum_equiv (finProdFinEquiv (m := 8) (n := 1024)) _ (part m c R e) fun p => ?_
  congr 1
  exact Fin.ext (tile_val p.1.val p.1.isLt p.2)

/-- The kernel's result at an element: the row's element plus the hidden units' product. -/
theorem result_apply (R : Fin 128) (e : Fin 2048) :
    Value.G4 m c (ix2 R e) = xs m c (ix2 R e) + ∑ K, part m c R e K := by
  have hR := R.isLt
  have he := e.isLt
  have hp : Value.pt4Of (ix2 R e) = 8 * (R.val / 128) + 7 := by
    show 8 * (1 * (R.val / 128 - 0) + 1 * (e.val / 2048 - 0)) + 7 = _
    omega
  have hN : cfg0.N = 8 := N_0
  have hlt : 8 * (R.val / 128) + 7 < cfg0.N := by omega
  have hl : Value.loc4Of (ix2 R e) = ix2 (⟨R.val % 128, Nat.mod_lt _ (by decide)⟩ : Fin 128) e := by
    funext a
    match a with
    | ⟨0, _⟩ => rfl
    | ⟨1, _⟩ => exact Fin.ext (Nat.mod_eq_of_lt he)
  unfold Value.G4
  rw [dif_pos (by rw [hp]; exact hlt), hl,
    Value.fold0_congr m c _ _ (8 * (R.val / 128) + 7) (by omega) hp, ← Value.outsAt0_sweep m c _ hlt,
    (carried m c (R.val / 128) (by omega) 7 (by omega) hlt R _ e
      (by dsimp only; omega)).1, tiles_sum]

end Cert.MlpSmall

end
-- ==== Proof.MlpSmallRef.lean ====
module

public import proofs.«01_k».proof.Proof.Gen.Reference6Ideal.Run
public import proofs.«01_k».proof.Proof.MlpSmallPay
public import Idealize.ShloMosaic.Lib.Pointwise

@[expose] public section

set_option maxRecDepth 16384

noncomputable section

/-! At the sample's rows. What the feed-forward layer's reference computes, read at an element. -/

namespace Cert.MlpSmall.Ref

open Cert.Reference6Ideal Cert.Reference6Ideal.Gen Idealize.ShloMosaic

/-- The reference's normalised rows. -/
def rows (x : FVec Ideal S128x2048 .f32) (g : FVec Ideal S2048 .f32) : FVec Ideal S128x2048 .f32 :=
  mulf (mulf x (broadcastInDim S128x2048 ![0, 1] bcast_S128x1_S128x2048_0_1 (Host.rsqrt (addf
    (Host.divf (broadcastInDim S128x1 ![0] bcast_S128_S128x1_0 (Host.reduceAdd (mulf x x)
      (constant S_ .f32 0x00000000#32) reducesTo_S128x2048_S128_d1 h_S_))
      (broadcastInDim S128x1 ![] bcast_S_S128x1 (constant S_ .f32 0x45000000#32)))
    (broadcastInDim S128x1 ![] bcast_S_S128x1 (constant S_ .f32 0x358637BD#32))))))
    (broadcastInDim S128x2048 ![0, 1] bcast_S1x2048_S128x2048_0_1
      (broadcastInDim S1x2048 ![1] bcast_S2048_S1x2048_1 g))

/-- The positive part of the rows' product with the first weight. -/
def active (x : FVec Ideal S128x2048 .f32) (g : FVec Ideal S2048 .f32)
    (u : FVec Ideal S2048x8192 .f32) : FVec Ideal S128x8192 .f32 :=
  maximumf (Host.dotGeneral dot_S128x2048_S2048x8192_S128x8192_1_0_0_1_n_n none (rows x g) u)
    (broadcastInDim S128x8192 ![] bcast_S_S128x8192 (constant S_ .f32 0x00000000#32))

/-- The reference's result. -/
def out (x : FVec Ideal S128x2048 .f32) (g : FVec Ideal S2048 .f32) (u : FVec Ideal S2048x8192 .f32)
    (w : FVec Ideal S8192x2048 .f32) : FVec Ideal S128x2048 .f32 :=
  addf x (Host.dotGeneral dot_S128x8192_S8192x2048_S128x2048_1_0_0_1_n_n none
    (mulf (active x g u) (active x g u)) w)

theorem rows_apply (x : FVec Ideal S128x2048 .f32) (g : FVec Ideal S2048 .f32) (R : Fin 128)
    (e : Fin 2048) : rows x g (ix2 R e) = unit (fun k => x (ix2 R k)) (fun k => g (ix1 k)) e := by
  pointwise [rows]
  rfl

theorem active_apply (x : FVec Ideal S128x2048 .f32) (g : FVec Ideal S2048 .f32)
    (u : FVec Ideal S2048x8192 .f32) (R : Fin 128) (K : Fin 8192) : active x g u (ix2 R K)
      = max (∑ d, unit (fun k => x (ix2 R k)) (fun k => g (ix1 k)) d * u (ix2 d K)) 0 := by
  pointwise [active]
  simp only [rows_apply]

/-- The reference's result at an element: the row's element plus the hidden units' product. -/
theorem out_apply (x : FVec Ideal S128x2048 .f32) (g : FVec Ideal S2048 .f32)
    (u : FVec Ideal S2048x8192 .f32) (w : FVec Ideal S8192x2048 .f32) (R : Fin 128) (e : Fin 2048) :
    out x g u w (ix2 R e) = x (ix2 R e) + ∑ K, hidden (unit (fun k => x (ix2 R k)) (fun k => g (ix1 k)))
      (fun d => u (ix2 d K)) * w (ix2 K e) := by
  pointwise [out]
  simp only [active_apply]
  rfl

end Cert.MlpSmall.Ref

end
-- ==== Proof.MlpSmallEq.lean ====
module

public import proofs.«01_k».proof.Defs
public import proofs.«01_k».proof.Proof.MlpSmallFold
public import proofs.«01_k».proof.Proof.MlpSmallRef

@[expose] public section

noncomputable section

/-! At the sample's rows. The feed-forward kernel and its reference agree over the extended reals. -/

namespace Cert.MlpSmall

open Idealize.ShloMosaic Idealize.SL.Sem

/-- The kernel's result array is the reference's result of the same arguments. -/
theorem result_eq (m : (ℓ : Loc Cert.Kernel6Ideal.nD Cert.Kernel6Ideal.τ Cert.Kernel6Ideal.sig) → Buf (Elt Ideal) ℓ)
    (c : Dev Cert.Kernel6Ideal.nD) :
    Ref.out (xs m c) (gs m c) (us m c) (ws m c) = Cert.Kernel6Ideal.Value.G4 m c := by
  funext i
  obtain ⟨R, e, rfl⟩ : ∃ (R : Fin 128) (e : Fin 2048), i = ix2 R e := ⟨i 0, i 1, eq_ix2 i⟩
  rw [Ref.out_apply, result_apply]
  rfl

/-- Both programs run, leave their arguments, and end with equal results. -/
theorem agree : algebraic_Kernel6Ideal_Reference6Ideal := by
  intro m ρ m' ρ' _ hm
  refine ⟨_, Cert.Kernel6Ideal.Value.run (F := Ideal) m ρ, ?_⟩
  refine (θ_run Cert.Reference6Ideal.defs _ _).mono (fun _ h c => ⟨?_, (h c).2⟩)
    (Cert.Reference6Ideal.Value.run (F := Ideal) m' ρ')
  rw [(h c).1]
  simp only [hm c]
  exact result_eq m c

end Cert.MlpSmall

end
-- ==== Proof.MlpPay.lean ====
module

public import proofs.«01_k».proof.Proof.Gen.Kernel2Ideal.Skeleton
public import Idealize.ShloMosaic.Lib.Pointwise

@[expose] public section

set_option maxRecDepth 16384

noncomputable section

/-! The two stored values of the feed-forward kernel, read at an element over the extended reals. -/

namespace Cert.Mlp

open Cert.Kernel2Ideal Cert.Kernel2Ideal.Gen Idealize.ShloMosaic

/-- One element of a row scaled to unit mean square and by the gain: the row `x`, the gain `g`. -/
def unit (x g : Fin 2048 → EReal) (e : Fin 2048) : EReal :=
  x e * Ideal.rsqrt (Ideal.div (∑ k, x k * x k) (Ideal.ofBits FTy.f32 1157627904#32)
    + Ideal.ofBits FTy.f32 897988541#32) * g e

/-- One hidden unit of the layer: the squared positive part of a row against a column. -/
def hidden (y w : Fin 2048 → EReal) : EReal := max (∑ e, y e * w e) 0 * max (∑ e, y e * w e) 0

/-- The normalised rows the first point stores. -/
theorem pay1_apply (x : Vec Ideal S512x2048 .f32) (g : Vec Ideal S1x2048 .f32) (r : Fin 512)
    (e : Fin 2048) : k0_pay1 (F := Ideal) x g (ix2 r e)
      = unit (fun k => x (ix2 r k)) (fun k => g (ix2 0 k)) e := by
  pointwise [k0_pay1]
  rfl

/-- The accumulator after a point: what it held and the product of the point's hidden units. -/
theorem pay2_apply (y : Vec Ideal S512x2048 .bf16) (u : Vec Ideal S2048x1024 .bf16)
    (a : Vec Ideal S512x2048 .f32) (w : Vec Ideal S1024x2048 .bf16) (r : Fin 512) (e : Fin 2048) :
    k0_pay2 (F := Ideal) y u a w (ix2 r e) = a (ix2 r e)
      + ∑ k, hidden (fun d => y (ix2 r d)) (fun d => u (ix2 d k)) * w (ix2 k e) := by
  pointwise [k0_pay2]
  rfl

end Cert.Mlp

end
-- ==== Proof.ProjSmallPay.lean ====
module

public import proofs.«01_k».proof.Proof.Gen.Kernel7Ideal.Skeleton
public import proofs.«01_k».proof.Proof.Gen.Reference7Ideal.Run
public import proofs.«01_k».proof.Proof.MlpPay
public import Idealize.ShloMosaic.Lib.Pointwise

@[expose] public section

set_option maxRecDepth 16384

noncomputable section

/-! At the sample's rows. The input projection read at an element over the extended reals: the kernel's two stored values,
    the weight as the layer packs it, and the reference. -/

namespace Cert.ProjSmall

open Idealize.ShloMosaic Cert.Mlp

section
open Cert.Kernel7Ideal Cert.Kernel7Ideal.Gen

/-- The normalised rows the first point of a row block stores. -/
theorem pay1_apply (x : Vec Ideal S128x2048 .f32) (g : Vec Ideal S1x2048 .f32) (r : Fin 128)
    (e : Fin 2048) : k0_pay1 (F := Ideal) x g (ix2 r e)
      = unit (fun k => x (ix2 r k)) (fun k => g (ix2 0 k)) e := by
  pointwise [k0_pay1]
  rfl

/-- A block of the result: the rows' product with a tile of the weight's columns. -/
theorem pay2_apply (y : Vec Ideal S128x2048 .bf16) (w : Vec Ideal S2048x1536 .bf16) (r : Fin 128)
    (e : Fin 1536) : k0_pay2 (F := Ideal) y w (ix2 r e) = ∑ d, y (ix2 r d) * w (ix2 d e) := by
  pointwise [k0_pay2]

variable (w : FVec Ideal S2048x7536 .f32) (d : Fin 2048)

/-- The weight's three groups of columns, the third one first; it and the first are padded to a whole
    number of lanes. -/
abbrev groups : List ((s : Shape) × (s.Idx → EReal)) :=
  [⟨S2048x3456, pad S2048x3456 ![0, 0] ![0, 96] ![0, 0]
      (extractStridedSlice S2048x3360 ![0, 4176] w slices_S2048x7536_S2048x3360_0_4176)
      (sitofp (F := Ideal) .f32 (constantI S_ 32 0#32)) pads_S2048x3360_S2048x3456_000_0960 h_S_⟩,
    ⟨S2048x2688, pad S2048x2688 ![0, 0] ![0, 48] ![0, 0]
      (extractStridedSlice S2048x2640 ![0, 0] w slices_S2048x7536_S2048x2640_0_0)
      (sitofp (F := Ideal) .f32 (constantI S_ 32 0#32)) pads_S2048x2640_S2048x2688_000_0480 h_S_⟩,
    ⟨S2048x1536, extractStridedSlice S2048x1536 ![0, 2640] w slices_S2048x7536_S2048x1536_0_2640⟩]

/-- The weight's columns regrouped. -/
def packed : FVec Ideal S2048x7680 .f32 :=
  concatenate S2048x7680 1 (groups w) concatenates_S2048x3456_S2048x2688_S2048x1536_S2048x7680_d1

/-- The third group of the weight's columns comes first. -/
theorem packed_third (j : Fin 3360) :
    packed w (ix2 d ⟨j.val, by omega⟩) = w (ix2 d ⟨4176 + j.val, by omega⟩) := by
  unfold packed
  refine (concatenate_apply_piece (t := S2048x7680) 1 (groups w) _ _ 0 (by show 0 < 3; omega) S2048x3456 _ rfl rfl 0 rfl
    (ix2 d (⟨j.val, by omega⟩ : Fin 3456)) ?_ ?_).trans ?_
  · intro a ha
    match a with
    | ⟨0, _⟩ => rfl
    | ⟨1, _⟩ => exact absurd rfl ha
  · exact Nat.zero_add _
  · pointwise

/-- Then the first group. -/
theorem packed_first (j : Fin 2640) :
    packed w (ix2 d ⟨3456 + j.val, by omega⟩) = w (ix2 d ⟨j.val, by omega⟩) := by
  unfold packed
  refine (concatenate_apply_piece (t := S2048x7680) 1 (groups w) _ _ 1 (by show 1 < 3; omega) S2048x2688 _ rfl rfl 3456 rfl
    (ix2 d (⟨j.val, by omega⟩ : Fin 2688)) ?_ ?_).trans ?_
  · intro a ha
    match a with
    | ⟨0, _⟩ => rfl
    | ⟨1, _⟩ => exact absurd rfl ha
  · rfl
  · pointwise

/-- The second group comes last. -/
theorem packed_second (j : Fin 1536) :
    packed w (ix2 d ⟨6144 + j.val, by omega⟩) = w (ix2 d ⟨2640 + j.val, by omega⟩) := by
  unfold packed
  refine (concatenate_apply_piece (t := S2048x7680) 1 (groups w) _ _ 2 (by show 2 < 3; omega) S2048x1536 _ rfl rfl 6144 rfl
    (ix2 d j) ?_ ?_).trans ?_
  · intro a ha
    match a with
    | ⟨0, _⟩ => rfl
    | ⟨1, _⟩ => exact absurd rfl ha
  · rfl
  · pointwise

end

section
open Cert.Reference7Ideal Cert.Reference7Ideal.Gen

variable (x : FVec Ideal S32x4x2048 .f32) (g : FVec Ideal S2048 .f32) (w : FVec Ideal S2048x7536 .f32)

/-- The reference's normalised rows. -/
def rows : FVec Ideal S32x4x2048 .f32 :=
  mulf (mulf x (broadcastInDim S32x4x2048 ![0, 1, 2] bcast_S32x4x1_S32x4x2048_0_1_2 (Host.rsqrt (addf
    (Host.divf (broadcastInDim S32x4x1 ![0, 1] bcast_S32x4_S32x4x1_0_1 (Host.reduceAdd (mulf x x)
      (constant S_ .f32 0x00000000#32) reducesTo_S32x4x2048_S32x4_d2 h_S_))
      (broadcastInDim S32x4x1 ![] bcast_S_S32x4x1 (constant S_ .f32 0x45000000#32)))
    (broadcastInDim S32x4x1 ![] bcast_S_S32x4x1 (constant S_ .f32 0x358637BD#32))))))
    (broadcastInDim S32x4x2048 ![0, 1, 2] bcast_S1x1x2048_S32x4x2048_0_1_2
      (broadcastInDim S1x1x2048 ![2] bcast_S2048_S1x1x2048_2 g))

/-- The reference's projection, before its columns are told apart. -/
def whole : FVec Ideal S32x4x7536 .f32 :=
  Host.dotGeneral dot_S32x4x2048_S2048x7536_S32x4x7536_2_0_01_1_n_n none (rows x g) w

theorem rows_apply (b : Fin 32) (s : Fin 4) (e : Fin 2048) :
    rows x g (ix3 b s e) = unit (fun k => x (ix3 b s k)) (fun k => g (ix1 k)) e := by
  pointwise [rows]
  rfl

/-- The reference's projection at an element. -/
theorem whole_apply (b : Fin 32) (s : Fin 4) (j : Fin 7536) : whole x g w (ix3 b s j)
    = ∑ d, unit (fun k => x (ix3 b s k)) (fun k => g (ix1 k)) d * w (ix2 d j) := by
  pointwise [whole]
  simp only [rows_apply]

end

section
open Cert.Reference7Ideal Cert.Reference7Ideal.Gen Idealize.SL.Sem

/-- The reference runs, ends with its four results of its arguments, and leaves these. -/
theorem reference_run (m : (ℓ : Loc nD τ sig) → Buf (Elt Ideal) ℓ)
    (ρ : Dev nD → PrngReg)
    (x : (c : Dev nD) → FVec Ideal S32x4x2048 .f32)
    (g : (c : Dev nD) → FVec Ideal S2048 .f32)
    (w : (c : Dev nD) → FVec Ideal S2048x7536 .f32)
    (hx : ∀ c : Dev nD, m ((c.tc : Thread nD τ).loc main_arg0) = x c)
    (hg : ∀ c : Dev nD, m ((c.tc : Thread nD τ).loc main_arg1) = g c)
    (hw : ∀ c : Dev nD, m ((c.tc : Thread nD τ).loc main_arg2) = w c) :
    θ_run defs (onTc (τ := τ) (main (F := Ideal))) ⟨m, fun _ => 0, ρ⟩
      fun r => ∀ c : Dev nD,
      r.2.mem ((c.tc : Thread nD τ).loc main_v15)
        = extractStridedSlice S32x4x2640 ![0, 0, 0] (whole (x c) (g c) (w c)) slices_S32x4x7536_S32x4x2640_0_0_0
      ∧ r.2.mem ((c.tc : Thread nD τ).loc main_v16)
        = extractStridedSlice S32x4x1536 ![0, 0, 2640] (whole (x c) (g c) (w c)) slices_S32x4x7536_S32x4x1536_0_0_2640
      ∧ r.2.mem ((c.tc : Thread nD τ).loc main_v14)
        = extractStridedSlice S32x4x3360 ![0, 0, 4176] (whole (x c) (g c) (w c)) slices_S32x4x7536_S32x4x3360_0_0_4176
      ∧ r.2.mem ((c.tc : Thread nD τ).loc main_v18)
        = shapeCast S32x3360 (extractStridedSlice S32x1x3360 ![0, 3, 0] (extractStridedSlice S32x4x3360 ![0, 0, 4176]
          (whole (x c) (g c) (w c)) slices_S32x4x7536_S32x4x3360_0_0_4176) slices_S32x4x3360_S32x1x3360_0_3_0)
          shapeCasts_S32x1x3360_S32x3360
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  simp only [← hx, ← hg, ← hw]
  exact Value.run (F := Ideal) m ρ

end

end Cert.ProjSmall

end
-- ==== Proof.ProjSmallBlock.lean ====
module

public import proofs.«01_k».proof.Proof.Gen.Kernel7Ideal.Frame
public import proofs.«01_k».proof.Proof.ProjSmallPay
public import Idealize.ShloMosaic.Lib.Pointwise
public import Idealize.ShloMosaic.Lib.Tactic
public import Idealize.ShloMosaic.Lib.Pipeline.Value

@[expose] public section

set_option maxRecDepth 16384

noncomputable section

/-! At the sample's rows. What the input projection's kernel leaves in its result array. -/

namespace Cert.ProjSmall

open Cert.Kernel7Ideal Cert.Kernel7Ideal.Gen Idealize.ShloMosaic Idealize.ShloMosaic.TcCoe Idealize.SL.Sem Cert.Mlp

theorem zeros2 : (![0, 0] : Fin 2 → Nat) = fun _ => 0 := by
  funext a; revert a; decide

section

variable {F : FTy → Type} [FloatOps F]

variable (c : Dev nD) (i : grid0.Coords)
  (a2 : Memref sig .tc .vmem S128x2048 .f32) (h2 : a2.IsWhole)
  (a3 : Memref sig .tc .vmem S1x2048 .f32) (h3 : a3.IsWhole)
  (a4 : Memref sig .tc .vmem S2048x1536 .bf16) (h4 : a4.IsWhole)
  (a5 : Memref sig .tc .vmem S128x1536 .f32) (h5 : a5.IsWhole)
  (a6 : Memref sig .tc .vmem S128x2048 .bf16) (h6 : a6.IsWhole)
  (x0 : Vec F S128x2048 .f32) (x1 : Vec F S1x2048 .f32) (x2 : Vec F S2048x1536 .bf16)

/-- A later point of a row block multiplies the rows the scratch holds. -/
theorem tile_next (hc : ¬cond0_0 i) (xs : Vec F S128x2048 .bf16) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero zeros2]
  simp only [View.readAt_eq_ld, h4.read_unread, h6.read_unread,
    View.ld_unit_zero (S := S128x2048) zeros2, View.ld_unit_zero (S := S2048x1536) zeros2]

/-- The first point of a row block leaves the normalised rows in the scratch. -/
theorem rows_first (hc : cond0_0 i) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero zeros2]
  simp only [View.readAt_eq_ld, h2.read_unread, h3.read_unread,
    View.ld_unit_zero (S := S128x2048) zeros2, View.ld_unit_zero (S := S1x2048) zeros2]

/-- The first point multiplies the rows it has just normalised. -/
theorem tile_first (hc : cond0_0 i) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero zeros2]
  simp only [View.readCov_unit_zero (S := S128x2048) _ zeros2, View.readAt_eq_ld, h2.read_unread,
    h3.read_unread, h4.read_unread, View.ld_unit_zero (S := S128x2048) zeros2,
    View.ld_unit_zero (S := S1x2048) zeros2, View.ld_unit_zero (S := S2048x1536) zeros2]

end

/-- Where each window's block lies at a grid point: the row tile is the quotient by five, the column
    tile the remainder. -/
theorem tiles : ∀ t : Fin cfg0.N,
    (win0_0.index t (0 : Fin 2) = t.val / 5 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 5)
    ∧ (win0_3.index t (0 : Fin 2) = t.val / 5 ∧ win0_3.index t (1 : Fin 2) = t.val % 5) :=
  (by decide +kernel : ∀ t : Fin grid0.N, _)

variable (m : (ℓ : Loc nD τ sig) → Buf (Elt Ideal) ℓ) (c : Dev nD)

/-- The three arguments as launched. -/
abbrev xs : Vec Ideal S32x4x2048 .f32 := m ((c : Thread nD τ).loc main_arg0)
abbrev gs : Vec Ideal S2048 .f32 := m ((c : Thread nD τ).loc main_arg1)
abbrev ws : Vec Ideal S2048x7536 .f32 := m ((c : Thread nD τ).loc main_arg2)

theorem gain_in (e : Fin 2048) : V m c main_v8 (ix2 0 e) = gs m c (ix1 e) := by
  unfold V V0
  simp only [hostOps0, hostOps0_1, hostOps0_2, hostOps0_3, hostOps0_4, List.flatten_cons, List.flatten_nil,
    List.append_nil, List.cons_append, List.nil_append]
  after_results
  pointwise

theorem rows_in (b : Fin 32) (s : Fin 4) (e : Fin 2048) (R : Fin 128) (hR : R.val = 4 * b.val + s.val) :
    V m c main_v7 (ix2 R e) = xs m c (ix3 b s e) := by
  unfold V V0
  simp only [hostOps0, hostOps0_1, hostOps0_2, hostOps0_3, hostOps0_4, List.flatten_cons, List.flatten_nil,
    List.append_nil, List.cons_append, List.nil_append]
  after_results
  pointwise
  exact congrArg (xs m c) (congrArg₂ (fun b s => ix3 b s e) (Fin.ext (by show R.val / 4 = b.val; omega))
    (Fin.ext (by show R.val % 4 = s.val; omega)))

theorem weight_in : V m c main_v6 = packed (ws m c) := by
  unfold V V0
  simp only [hostOps0, hostOps0_1, hostOps0_2, hostOps0_3, hostOps0_4, List.flatten_cons, List.flatten_nil,
    List.append_nil, List.cons_append, List.nil_append]
  after_results
  rfl

/-- The row block's element at a grid point. -/
theorem block_x (t : Fin cfg0.N) (b : Fin 32) (s : Fin 4) (r : Fin 128) (e : Fin 2048)
    (hR : 4 * b.val + s.val = 128 * (t.val / 5) + r.val) : iblk m c 0 t (ix2 r e) = xs m c (ix3 b s e) := by
  unfold iblk
  rw [View.read_apply]
  refine Eq.trans ?_ (rows_in m c b s e ⟨4 * b.val + s.val, by omega⟩ rfl)
  show V m c main_v7 _ = _
  congr 1
  funext a
  apply Fin.ext
  have h := (tiles t).1
  match a with
  | ⟨0, _⟩ => show win0_0.index t 0 * 128 + 1 * r.val = 4 * b.val + s.val; omega
  | ⟨1, _⟩ => show win0_0.index t 1 * 2048 + 1 * e.val = e.val; omega

/-- The gain's element at a grid point. -/
theorem block_g (t : Fin cfg0.N) (e : Fin 2048) : iblk m c 1 t (ix2 0 e) = gs m c (ix1 e) := by
  unfold iblk
  rw [View.read_apply]
  refine Eq.trans ?_ (gain_in m c e)
  show V m c main_v8 _ = _
  congr 1
  funext a
  apply Fin.ext
  have h := (tiles t).2.1
  match a with
  | ⟨0, _⟩ => show win0_1.index t 0 * 1 + 1 * 0 = 0; omega
  | ⟨1, _⟩ => show win0_1.index t 1 * 2048 + 1 * e.val = e.val; omega

/-- The weight's element at a grid point: its column tile. -/
theorem block_w (t : Fin cfg0.N) (d : Fin 2048) (k : Fin 1536) (K : Fin 7680)
    (hK : K.val = 1536 * (t.val % 5) + k.val) : iblk m c 2 t (ix2 d k) = packed (ws m c) (ix2 d K) := by
  unfold iblk
  rw [View.read_apply]
  show V m c main_v6 _ = _
  rw [weight_in]
  congr 1
  funext a
  apply Fin.ext
  have h := (tiles t).2.2.1
  match a with
  | ⟨0, _⟩ => show win0_2.index t 0 * 2048 + 1 * d.val = d.val; omega
  | ⟨1, _⟩ => show win0_2.index t 1 * 1536 + 1 * k.val = K.val; omega

/-- A normalised row of the whole array. -/
def row (b : Fin 32) (s : Fin 4) : Fin 2048 → EReal :=
  unit (fun k => xs m c (ix3 b s k)) (fun k => gs m c (ix1 k))

/-- The rows the first point of a block has normalised, at an element. -/
theorem fresh (t : Fin cfg0.N) (b : Fin 32) (s : Fin 4) (r : Fin 128) (e : Fin 2048)
    (hR : 4 * b.val + s.val = 128 * (t.val / 5) + r.val) :
    k0_pay1 (F := Ideal) (iblk m c 0 t) (iblk m c 1 t) (ix2 r e) = row m c b s e := by
  rw [pay1_apply, row]
  simp only [block_x m c t b s r _ hR, block_g]

/-- After every point of a row block the scratch holds that block's normalised rows. -/
theorem kept (n : ℕ) : ∀ (hn : n < cfg0.N) (b : Fin 32) (s : Fin 4) (r : Fin 128) (e : Fin 2048),
    4 * b.val + s.val = 128 * (n / 5) + r.val → (outsAt0 m c n hn).2 (ix2 r e) = row m c b s e := by
  induction n with
  | zero =>
    intro hn b s r e hR
    rw [outsAt0_A m c ⟨0, hn⟩ rfl, rows_first]
    exact fresh m c ⟨0, hn⟩ b s r e hR
  | succ n ih =>
    intro hn b s r e hR
    by_cases h : (n + 1) % 5 = 0
    · rw [outsAt0_A m c ⟨n + 1, hn⟩ h, rows_first]
      exact fresh m c ⟨n + 1, hn⟩ b s r e hR
    · rw [outsAt0_B m c ⟨n + 1, hn⟩ h]
      exact ih (Nat.lt_of_succ_lt hn) b s r e (by omega)

/-- The kernel's result array, element by element: a row against a column of the packed weight. -/
def result : FVec Ideal S128x7680 .f32 := fun i =>
  ∑ d, row m c ⟨(i 0).val / 4, Nat.div_lt_of_lt_mul (i 0).isLt⟩ ⟨(i 0).val % 4, Nat.mod_lt _ (by decide)⟩ d
    * packed (ws m c) (ix2 d ⟨(i 1).val, (i 1).isLt⟩)

/-- What a grid point stores, at an element. -/
theorem stored (t : Fin cfg0.N) (R : Fin 128) (K : Fin 7680) (r : Fin 128) (k : Fin 1536)
    (hR : R.val = 128 * (t.val / 5) + r.val) (hK : K.val = 1536 * (t.val % 5) + k.val) :
    (outsAt0 m c t.val t.isLt).1 (ix2 r k) = result m c (ix2 R K) := by
  have hq : 4 * (R.val / 4) + R.val % 4 = 128 * (t.val / 5) + r.val := by omega
  by_cases h : t.val % 5 = 0
  · rw [outsAt0_A m c t h, tile_first]
    dsimp only
    rw [pay2_apply]
    refine Finset.sum_congr rfl fun d _ => ?_
    rw [fresh m c t ⟨R.val / 4, by omega⟩ ⟨R.val % 4, Nat.mod_lt _ (by decide)⟩ r d hq,
      block_w m c t d k K hK]
    rfl
  · rw [outsAt0_B m c t h, tile_next]
    dsimp only
    rw [pay2_apply]
    refine Finset.sum_congr rfl fun d _ => ?_
    rw [kept m c (t.val - 1) _ ⟨R.val / 4, by omega⟩ ⟨R.val % 4, Nat.mod_lt _ (by decide)⟩ r d
      (by dsimp only; omega), block_w m c t d k K hK]
    rfl

/-- The elements of a grid point's block of the result array. -/
theorem mem_block (t : Fin cfg0.N) (i : S128x7680.Idx) :
    i ∈ ((cfg0.win 3).blk t).view.set ↔ ∀ a : Fin 2, win0_3.index t a * S128x1536.size a ≤ (i a).val
      ∧ (i a).val < win0_3.index t a * S128x1536.size a + S128x1536.size a := by
  show i ∈ ((View.whole main_v9).slice (win0_3.rect t)).set ↔ _
  rw [View.set_slice_whole, Rect.mem_set_unit]
  exact Iff.rfl

/-- Every element of the result array is in the block of some grid point. -/
theorem covered (i : S128x7680.Idx) :
    ∃ t : Fin cfg0.N, (cfg0.win 3).flush t = true ∧ i ∈ ((cfg0.win 3).blk t).view.set := by
  have h0 : (i 0).val < 128 := (i 0).isLt
  have h1 : (i 1).val < 7680 := (i 1).isLt
  have hN : 5 * ((i 0).val / 128) + (i 1).val / 1536 < cfg0.N := by rw [show cfg0.N = 5 from N_0]; omega
  have h := (tiles ⟨5 * ((i 0).val / 128) + (i 1).val / 1536, hN⟩).2.2.2
  refine ⟨⟨5 * ((i 0).val / 128) + (i 1).val / 1536, hN⟩, flush0_3 _, ?_⟩
  rw [mem_block]
  intro a
  dsimp only at h
  match a with
  | ⟨0, _⟩ => show win0_3.index _ (0 : Fin 2) * 128 ≤ (i 0).val ∧ (i 0).val < win0_3.index _ (0 : Fin 2) * 128 + 128; omega
  | ⟨1, _⟩ => show win0_3.index _ (1 : Fin 2) * 1536 ≤ (i 1).val ∧ (i 1).val < win0_3.index _ (1 : Fin 2) * 1536 + 1536; omega

/-- The kernel's result array. -/
theorem array_eq : (dats m 0 c).arrAt 3 cfg0.N = result m c := by
  refine (dats m 0 c).arrAt_eq_of_cover 3 _ (fun t _ => ?_) covered
  show (cfg0.win 3).cut (grid0.coords t) ((dats m 0 c).after 3 t) = _
  rw [after0_3]
  funext y
  have h := (tiles t).2.2.2
  have hN : t.val < 5 := lt_of_lt_of_eq t.isLt N_0
  obtain ⟨r, k, rfl⟩ : ∃ (r : Fin 128) (k : Fin 1536), y = ix2 r k := ⟨y 0, y 1, eq_ix2 y⟩
  refine (stored m c t ⟨128 * (t.val / 5) + r.val, by omega⟩ ⟨1536 * (t.val % 5) + k.val, by omega⟩ r k
    rfl rfl).trans ?_
  rw [View.read_apply]
  congr 1
  funext a
  apply Fin.ext
  match a with
  | ⟨0, _⟩ => show 128 * (t.val / 5) + r.val = win0_3.index t 0 * 128 + 1 * r.val; omega
  | ⟨1, _⟩ => show 1536 * (t.val % 5) + k.val = win0_3.index t 1 * 1536 + 1 * k.val; omega

end Cert.ProjSmall

end
-- ==== Proof.ProjSmallEq.lean ====
module

public import proofs.«01_k».proof.Defs
public import proofs.«01_k».proof.Proof.ProjSmallBlock

@[expose] public section

set_option maxRecDepth 16384

noncomputable section

/-! At the sample's rows. The input projection's kernel and its reference agree over the extended reals. -/

namespace Cert.ProjSmall

open Cert.Kernel7Ideal Cert.Kernel7Ideal.Gen Idealize.ShloMosaic Idealize.ShloMosaic.TcCoe Idealize.SL.Sem Cert.Mlp

section
variable (m : (ℓ : Loc nD τ sig) → Buf (Elt Ideal) ℓ) (c : Dev nD)

/-- The result array with its rows told apart by sequence. -/
def split : FVec Ideal S32x4x7680 .f32 :=
  shapeCast S32x4x7680 (result m c) shapeCasts_S128x7680_S32x4x7680

theorem split_apply (b : Fin 32) (s : Fin 4) (K : Fin 7680) :
    split m c (ix3 b s K) = ∑ d, row m c b s d * packed (ws m c) (ix2 d K) := by
  have h : split m c (ix3 b s K) = result m c (ix2 (⟨b.val * 4 + s.val, by omega⟩ : Fin 128) K) := by
    pointwise [split]
  rw [h]
  refine Finset.sum_congr rfl fun d _ => ?_
  congr 1
  exact congrArg₂ (fun b s => row m c b s d) (Fin.ext (by show (b.val * 4 + s.val) / 4 = b.val; omega))
    (Fin.ext (by show (b.val * 4 + s.val) % 4 = s.val; omega))

/-- The result array at the kernel's end, before the host splits it. -/
theorem array_end : Pipeline.withArrays (cfgs 0).spec c (V0 m c) (fun w => (dats m 0 c).arrAt w (cfgs 0).N)
    (Proc.devRef .tc main_v9) = result m c :=
  (Pipeline.withArrays_arr cfg0.spec launch0.win.arr_inj c (V0 m c) (fun w => (dats m 0 c).arrAt w cfg0.N) 3).trans
    (array_eq m c)

theorem tail_first : Pipeline.afterTail₀ cfgs (dats m) 0 (V0 m) [hostOps1] c main_v11
    = extractStridedSlice S32x4x2640 ![0, 0, 3456] (split m c) slices_S32x4x7680_S32x4x2640_0_0_3456 := by
  unfold Pipeline.afterTail₀
  simp only [hostOps1, List.flatten_cons, List.flatten_nil, List.append_nil, List.cons_append, List.nil_append]
  after_results
  rw [array_end]
  rfl

theorem tail_second : Pipeline.afterTail₀ cfgs (dats m) 0 (V0 m) [hostOps1] c main_v12
    = extractStridedSlice S32x4x1536 ![0, 0, 6144] (split m c) slices_S32x4x7680_S32x4x1536_0_0_6144 := by
  unfold Pipeline.afterTail₀
  simp only [hostOps1, List.flatten_cons, List.flatten_nil, List.append_nil, List.cons_append, List.nil_append]
  after_results
  rw [array_end]
  rfl

theorem tail_third : Pipeline.afterTail₀ cfgs (dats m) 0 (V0 m) [hostOps1] c main_v13
    = extractStridedSlice S32x4x3360 ![0, 0, 0] (split m c) slices_S32x4x7680_S32x4x3360_0_0_0 := by
  unfold Pipeline.afterTail₀
  simp only [hostOps1, List.flatten_cons, List.flatten_nil, List.append_nil, List.cons_append, List.nil_append]
  after_results
  rw [array_end]
  rfl

theorem tail_last : Pipeline.afterTail₀ cfgs (dats m) 0 (V0 m) [hostOps1] c main_v15
    = shapeCast S32x3360 (extractStridedSlice S32x1x3360 ![0, 3, 0] (split m c)
      slices_S32x4x7680_S32x1x3360_0_3_0) shapeCasts_S32x1x3360_S32x3360 := by
  unfold Pipeline.afterTail₀
  simp only [hostOps1, List.flatten_cons, List.flatten_nil, List.append_nil, List.cons_append, List.nil_append]
  after_results
  rw [array_end]
  rfl

/-- The reference's projection of the launched arguments. -/
abbrev plain : FVec Ideal Reference7Ideal.S32x4x7536 .f32 := whole (xs m c) (gs m c) (ws m c)

theorem plain_apply (b : Fin 32) (s : Fin 4) (j : Fin 7536) :
    plain m c (ix3 b s j) = ∑ d, row m c b s d * ws m c (ix2 d j) := whole_apply _ _ _ b s j

end

/-- The reference's four results of the launched arguments. -/
def first (m : (ℓ : Loc nD τ sig) → Buf (Elt Ideal) ℓ) (c : Dev nD) : FVec Ideal S32x4x2640 .f32 :=
  extractStridedSlice S32x4x2640 ![0, 0, 0] (plain m c) Reference7Ideal.Gen.slices_S32x4x7536_S32x4x2640_0_0_0
def second (m : (ℓ : Loc nD τ sig) → Buf (Elt Ideal) ℓ) (c : Dev nD) : FVec Ideal S32x4x1536 .f32 :=
  extractStridedSlice S32x4x1536 ![0, 0, 2640] (plain m c) Reference7Ideal.Gen.slices_S32x4x7536_S32x4x1536_0_0_2640
def third (m : (ℓ : Loc nD τ sig) → Buf (Elt Ideal) ℓ) (c : Dev nD) : FVec Ideal S32x4x3360 .f32 :=
  extractStridedSlice S32x4x3360 ![0, 0, 4176] (plain m c) Reference7Ideal.Gen.slices_S32x4x7536_S32x4x3360_0_0_4176
def last (m : (ℓ : Loc nD τ sig) → Buf (Elt Ideal) ℓ) (c : Dev nD) : FVec Ideal S32x3360 .f32 :=
  shapeCast S32x3360 (extractStridedSlice S32x1x3360 ![0, 3, 0] (third m c)
    Reference7Ideal.Gen.slices_S32x4x3360_S32x1x3360_0_3_0) Reference7Ideal.Gen.shapeCasts_S32x1x3360_S32x3360

section
variable (m : (ℓ : Loc nD τ sig) → Buf (Elt Ideal) ℓ) (c : Dev nD)

theorem first_eq : extractStridedSlice S32x4x2640 ![0, 0, 3456] (split m c)
    slices_S32x4x7680_S32x4x2640_0_0_3456 = first m c := by
  funext i
  obtain ⟨b, s, j, rfl⟩ : ∃ (b : Fin 32) (s : Fin 4) (j : Fin 2640), i = ix3 b s j := ⟨i 0, i 1, i 2, eq_ix3 i⟩
  have hl : extractStridedSlice S32x4x2640 ![0, 0, 3456] (split m c) slices_S32x4x7680_S32x4x2640_0_0_3456
      (ix3 b s j) = split m c (ix3 b s ⟨3456 + j.val, by omega⟩) := by pointwise
  have hr : first m c (ix3 b s j) = plain m c (ix3 b s ⟨j.val, by omega⟩) := by pointwise [first]
  rw [hl, hr, split_apply, plain_apply]
  simp only [packed_first]

theorem second_eq : extractStridedSlice S32x4x1536 ![0, 0, 6144] (split m c)
    slices_S32x4x7680_S32x4x1536_0_0_6144 = second m c := by
  funext i
  obtain ⟨b, s, j, rfl⟩ : ∃ (b : Fin 32) (s : Fin 4) (j : Fin 1536), i = ix3 b s j := ⟨i 0, i 1, i 2, eq_ix3 i⟩
  have hl : extractStridedSlice S32x4x1536 ![0, 0, 6144] (split m c) slices_S32x4x7680_S32x4x1536_0_0_6144
      (ix3 b s j) = split m c (ix3 b s ⟨6144 + j.val, by omega⟩) := by pointwise
  have hr : second m c (ix3 b s j) = plain m c (ix3 b s ⟨2640 + j.val, by omega⟩) := by pointwise [second]
  rw [hl, hr, split_apply, plain_apply]
  simp only [packed_second]

theorem third_eq : extractStridedSlice S32x4x3360 ![0, 0, 0] (split m c)
    slices_S32x4x7680_S32x4x3360_0_0_0 = third m c := by
  funext i
  obtain ⟨b, s, j, rfl⟩ : ∃ (b : Fin 32) (s : Fin 4) (j : Fin 3360), i = ix3 b s j := ⟨i 0, i 1, i 2, eq_ix3 i⟩
  have hl : extractStridedSlice S32x4x3360 ![0, 0, 0] (split m c) slices_S32x4x7680_S32x4x3360_0_0_0
      (ix3 b s j) = split m c (ix3 b s ⟨j.val, by omega⟩) := by pointwise
  have hr : third m c (ix3 b s j) = plain m c (ix3 b s ⟨4176 + j.val, by omega⟩) := by pointwise [third]
  rw [hl, hr, split_apply, plain_apply]
  simp only [packed_third]

theorem last_eq : shapeCast S32x3360 (extractStridedSlice S32x1x3360 ![0, 3, 0] (split m c)
    slices_S32x4x7680_S32x1x3360_0_3_0) shapeCasts_S32x1x3360_S32x3360 = last m c := by
  funext i
  obtain ⟨b, j, rfl⟩ : ∃ (b : Fin 32) (j : Fin 3360), i = ix2 b j := ⟨i 0, i 1, eq_ix2 i⟩
  have hl : shapeCast S32x3360 (extractStridedSlice S32x1x3360 ![0, 3, 0] (split m c)
      slices_S32x4x7680_S32x1x3360_0_3_0) shapeCasts_S32x1x3360_S32x3360 (ix2 b j)
      = split m c (ix3 b 3 ⟨j.val, by omega⟩) := by pointwise
  have hr : last m c (ix2 b j) = plain m c (ix3 b 3 ⟨4176 + j.val, by omega⟩) := by pointwise [last, third]
  rw [hl, hr, split_apply, plain_apply]
  simp only [packed_third]

/-- The kernel runs and ends with the reference's four results of the same arguments. -/
theorem kernel_run (ρ : Dev nD → PrngReg) : θ_run defs (onTc (τ := τ) (main (F := Ideal))) ⟨m, fun _ => 0, ρ⟩
    fun r => ∀ c : Dev nD, r.2.mem ((c.tc : Thread nD τ).loc main_v11) = first m c
      ∧ r.2.mem ((c.tc : Thread nD τ).loc main_v12) = second m c
      ∧ r.2.mem ((c.tc : Thread nD τ).loc main_v13) = third m c
      ∧ r.2.mem ((c.tc : Thread nD τ).loc main_v15) = last m c :=
  (θ_run defs _ _).mono (fun r h c =>
      ⟨((h c).2 main_v11 (Pipeline.mem_restRefs_of main_v11 (by decide) (by decide))).trans
          ((tail_first m c).trans (first_eq m c)),
        ((h c).2 main_v12 (Pipeline.mem_restRefs_of main_v12 (by decide) (by decide))).trans
          ((tail_second m c).trans (second_eq m c)),
        ((h c).2 main_v13 (Pipeline.mem_restRefs_of main_v13 (by decide) (by decide))).trans
          ((tail_third m c).trans (third_eq m c)),
        ((h c).2 main_v15 (Pipeline.mem_restRefs_of main_v15 (by decide) (by decide))).trans
          ((tail_last m c).trans (last_eq m c))⟩)
    (run_main m ρ)

end

/-- Both programs run, leave their arguments, and end with equal results. -/
theorem agree : algebraic_Kernel7Ideal_Reference7Ideal := by
  intro m ρ m' ρ' _ hm
  refine ⟨first m, second m, third m, last m, ?_, ?_⟩
  · exact (θ_run defs _ _).mono (fun r h c => ⟨(h.1 c).1, (h.1 c).2.1, (h.1 c).2.2.1, (h.1 c).2.2.2, h.2 c⟩)
      (θ_run_and (kernel_run m ρ) (unchanged m ρ))
  · exact reference_run m' ρ' (xs m) (gs m) (ws m) (fun c => (hm c).1) (fun c => (hm c).2.1) (fun c => (hm c).2.2)

end Cert.ProjSmall

end
-- ==== Proof.PrepRun.lean ====
module
public import proofs.«01_k».proof.Proof.Gen.Kernel5Ideal.Frame
public import Idealize.ShloMosaic.Lib.Claim

@[expose] public section
set_option maxRecDepth 16384
noncomputable section

/-! The body of the head preparation at a grid point: what each of its output buffers holds after it, and the
run of the whole program from there. -/

namespace Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! ## What a head's columns become -/

/-- Columns `o` to `o + 127` of a packed row block. -/
abbrev colsAt (o : Nat) (ho : o + 128 ≤ 7680) : Rect S256x7680 :=
  Rect.unit (s := S256x7680) ![0, o] S256x128.size (by intro a; match a with | ⟨0, _⟩ => exact Nat.le_refl 256 | ⟨1, _⟩ => exact ho)
/-- One row of the gains. -/
abbrev gainAt (k : Fin 8) : Rect S8x128 :=
  Rect.unit (s := S8x128) ![k.val, 0] S1x128.size (by intro a; match a with | ⟨0, _⟩ => exact k.isLt | ⟨1, _⟩ => exact Nat.le_refl 128)
/-- One of the three tables of a rotation. -/
abbrev tableAt (k : Fin 3) : Rect S3x256x128 :=
  Rect.unit (s := S3x256x128) ![k.val, 0, 0] S1x256x128.size
    (by intro a; match a with | ⟨0, _⟩ => exact k.isLt | ⟨1, _⟩ => exact Nat.le_refl 256 | ⟨2, _⟩ => exact Nat.le_refl 128)

/-- A row over its root mean square, by the gain. -/
def normed (x : Vec F S256x128 .f32) (g : Vec F S1x128 .f32) : FVec F S256x128 .f32 :=
  mulf (mulf (shapeCast S256x128 x shapeCasts_S256x128_S256x128)
    (broadcastTo S256x128 (rsqrt (addf (divf (shapeCast S256x1 (multiReduction .add [1] S256
      (mulf (shapeCast S256x128 x shapeCasts_S256x128_S256x128) (shapeCast S256x128 x shapeCasts_S256x128_S256x128))
      0x00000000#32 reduces_S256x128_S256 (.inl rfl) rfl) shapeCasts_S256_S256x1)
      (broadcast S256x1 (Scalar.ofBits .f32 0x43000000#32))) (broadcast S256x1 (Scalar.ofBits .f32 0x358637BD#32))))
      broadcasts_S256x1_S256x128))
    (broadcastTo S256x128 (shapeCast S1x128 g shapeCasts_S1x128_S1x128) broadcasts_S1x128_S256x128)

/-- A row turned by the three tables, its neighbours `p` and `q` places away. -/
def turned (p q : BitVec 32) (y : FVec F S256x128 .f32) (t0 t1 t2 : Vec F S1x256x128 .f32) : FVec F S256x128 .f32 :=
  addf (addf (mulf y (shapeCast S256x128 t0 shapeCasts_S1x256x128_S256x128))
    (mulf (dynamicRotate 1 p none y rotates_S256x128_d1) (shapeCast S256x128 t1 shapeCasts_S1x256x128_S256x128)))
    (mulf (dynamicRotate 1 q none y rotates_S256x128_d1) (shapeCast S256x128 t2 shapeCasts_S1x256x128_S256x128))

/-- The columns that are the index key's, of the block that holds the key and the index weights. -/
def isKey : IVec S256x128 1 :=
  cmpi .slt (iota .tc S256x128 32 [1] iota_S256x128_d1_w32) (broadcast S256x128 64#32)

/-- The index key's row over its root mean square, by the gain; the index weights beside it go along. -/
def keyed (x : Vec F S256x128 .f32) (g : Vec F S1x128 .f32) : FVec F S256x128 .f32 :=
  mulf (mulf (shapeCast S256x128 x shapeCasts_S256x128_S256x128)
    (broadcastTo S256x128 (rsqrt (addf (mulf (shapeCast S256x1 (multiReduction .add [1] S256
      (select isKey (mulf (shapeCast S256x128 x shapeCasts_S256x128_S256x128) (shapeCast S256x128 x shapeCasts_S256x128_S256x128))
        (broadcast S256x128 (Scalar.ofBits .f32 0x00000000#32)))
      0x00000000#32 reduces_S256x128_S256 (.inl rfl) rfl) shapeCasts_S256_S256x1)
      (broadcast S256x1 (Scalar.ofBits .f32 0x3C800000#32))) (broadcast S256x1 (Scalar.ofBits .f32 0x358637BD#32))))
      broadcasts_S256x1_S256x128))
    (broadcastTo S256x128 (shapeCast S1x128 g shapeCasts_S1x128_S1x128) broadcasts_S1x128_S256x128)

section
variable (x0 : Vec F S256x7680 .f32) (x1 : Vec F S3x256x128 .f32) (x3 : Vec F S8x128 .f32)

/-- Head `h` of the query or key columns from `b` on: normed by gain `k`, then turned. -/
def headPay (b : Nat) (hb : b + 512 ≤ 7680) (k : Fin 8) (h : Fin 4) : FVec F S256x128 .f32 :=
  turned 16#32 112#32 (normed (View.ld x0 (colsAt (b + 128 * h.val) (by omega))) (View.ld x3 (gainAt k)))
    (View.ld x1 (tableAt 0)) (View.ld x1 (tableAt 1)) (View.ld x1 (tableAt 2))

/-- Head `h` of the value columns from `b` on. -/
def valPay (b : Nat) (hb : b + 512 ≤ 7680) (h : Fin 4) : FVec F S256x128 .f32 :=
  shapeCast S256x128 (View.ld x0 (colsAt (b + 128 * h.val) (by omega))) shapeCasts_S256x128_S256x128

/-- Two index heads, turned. -/
def idxPay (h : Fin 8) : FVec F S256x128 .f32 :=
  turned 8#32 120#32 (shapeCast S256x128 (View.ld x0 (colsAt (4992 + 128 * h.val) (by omega))) shapeCasts_S256x128_S256x128)
    (View.ld x1 (tableAt 0)) (View.ld x1 (tableAt 1)) (View.ld x1 (tableAt 2))

/-- The index key, normed and turned, and the index weights scaled. -/
def keyPay : FVec F S256x128 .f32 :=
  select isKey (turned 8#32 120#32 (keyed (View.ld x0 (colsAt 6016 (by omega))) (View.ld x3 (gainAt 4)))
    (View.ld x1 (tableAt 0)) (View.ld x1 (tableAt 1)) (View.ld x1 (tableAt 2)))
    (mulf (shapeCast S256x128 (View.ld x0 (colsAt 6016 (by omega))) shapeCasts_S256x128_S256x128)
      (broadcast S256x128 (Scalar.ofBits .f32 0x3D000000#32)))
end

/-! ## The output buffers -/

/-- Four heads side by side. -/
def sides (p : Fin 4 → FVec F S256x128 .f32) : Vec F S256x512 .f32 :=
  View.canon [⟨Rect.unit (s := S256x512) ![0, 384] S256x128.size inb_S256x512_S256x128_0_384, p 3⟩,
    ⟨Rect.unit (s := S256x512) ![0, 256] S256x128.size inb_S256x512_S256x128_0_256, p 2⟩,
    ⟨Rect.unit (s := S256x512) ![0, 128] S256x128.size inb_S256x512_S256x128_0_128, p 1⟩,
    ⟨Rect.unit (s := S256x512) ![0, 0] S256x128.size inb_S256x512_S256x128_0_0, p 0⟩]

theorem sides_cover (p3 p2 p1 p0 : FVec F S256x128 .f32) (y : S256x512.Idx) :
    ∃ pc ∈ ([⟨Rect.unit (s := S256x512) ![0, 384] S256x128.size inb_S256x512_S256x128_0_384, p3⟩,
    ⟨Rect.unit (s := S256x512) ![0, 256] S256x128.size inb_S256x512_S256x128_0_256, p2⟩,
    ⟨Rect.unit (s := S256x512) ![0, 128] S256x128.size inb_S256x512_S256x128_0_128, p1⟩,
    ⟨Rect.unit (s := S256x512) ![0, 0] S256x128.size inb_S256x512_S256x128_0_0, p0⟩] : List (View.Piece (Elt F) S256x512 .f32)), y ∈ pc.1.set :=
  View.cover_of_tiled ([⟨Rect.unit (s := S256x512) ![0, 384] S256x128.size inb_S256x512_S256x128_0_384, p3⟩,
    ⟨Rect.unit (s := S256x512) ![0, 256] S256x128.size inb_S256x512_S256x128_0_256, p2⟩,
    ⟨Rect.unit (s := S256x512) ![0, 128] S256x128.size inb_S256x512_S256x128_0_128, p1⟩,
    ⟨Rect.unit (s := S256x512) ![0, 0] S256x128.size inb_S256x512_S256x128_0_0, p0⟩] : List (View.Piece (Elt F) S256x512 .f32)) S256x128.size (by rfl) y

/-- Every fourth row from row `h` on. -/
abbrev rowsAt (h : Fin 4) : Rect S1024x128 :=
  ⟨(⟨![h.val, 0], S256x128.size, ![4, 1], by
      intro a
      match a with
      | ⟨0, _⟩ => exact .inr (by show h.val + 4 * (256 - 1) < 1024; omega)
      | ⟨1, _⟩ => exact .inr (by show 0 + 1 * (128 - 1) < 128; omega)⟩ : LoadRect S1024x128), spos_4_1⟩

/-- Four heads interleaved row by row. -/
def laced (p : Fin 4 → FVec F S256x128 .f32) : Vec F S1024x128 .f32 :=
  View.canon [⟨rowsAt 3, p 3⟩, ⟨rowsAt 2, p 2⟩, ⟨rowsAt 1, p 1⟩, ⟨rowsAt 0, p 0⟩]

theorem mem_rowsAt (h : Fin 4) (y : S1024x128.Idx) (e : (y 0).val % 4 = h.val) : y ∈ (rowsAt h).set := by
  have h0 : (y 0).val < 1024 := (y 0).isLt
  have h1 : (y 1).val < 128 := (y 1).isLt
  refine LoadRect.mem_set _ |>.mpr fun a => ?_
  match a with
  | ⟨0, _⟩ => exact ⟨(y 0).val / 4, by show (y 0).val / 4 < 256; omega, by show (y 0).val = h.val + 4 * ((y 0).val / 4); omega⟩
  | ⟨1, _⟩ => exact ⟨(y 1).val, h1, by show (y 1).val = 0 + 1 * (y 1).val; omega⟩

theorem laced_cover (p3 p2 p1 p0 : FVec F S256x128 .f32) (y : S1024x128.Idx) :
    ∃ pc ∈ ([⟨rowsAt 3, p3⟩, ⟨rowsAt 2, p2⟩, ⟨rowsAt 1, p1⟩, ⟨rowsAt 0, p0⟩] : List (View.Piece (Elt F) S1024x128 .f32)),
      y ∈ pc.1.set := by
  have : (y 0).val % 4 = 0 ∨ (y 0).val % 4 = 1 ∨ (y 0).val % 4 = 2 ∨ (y 0).val % 4 = 3 := by omega
  rcases this with e | e | e | e
  · exact ⟨⟨rowsAt 0, p0⟩, .tail _ (.tail _ (.tail _ (.head _))), mem_rowsAt 0 y e⟩
  · exact ⟨⟨rowsAt 1, p1⟩, .tail _ (.tail _ (.head _)), mem_rowsAt 1 y e⟩
  · exact ⟨⟨rowsAt 2, p2⟩, .tail _ (.head _), mem_rowsAt 2 y e⟩
  · exact ⟨⟨rowsAt 3, p3⟩, .head _, mem_rowsAt 3 y e⟩

/-- Eight pairs of index heads side by side. -/
def pairs (p : Fin 8 → FVec F S256x128 .f32) : Vec F S256x1024 .f32 :=
  View.canon [⟨Rect.unit (s := S256x1024) ![0, 896] S256x128.size inb_S256x1024_S256x128_0_896, p 7⟩,
    ⟨Rect.unit (s := S256x1024) ![0, 768] S256x128.size inb_S256x1024_S256x128_0_768, p 6⟩,
    ⟨Rect.unit (s := S256x1024) ![0, 640] S256x128.size inb_S256x1024_S256x128_0_640, p 5⟩,
    ⟨Rect.unit (s := S256x1024) ![0, 512] S256x128.size inb_S256x1024_S256x128_0_512, p 4⟩,
    ⟨Rect.unit (s := S256x1024) ![0, 384] S256x128.size inb_S256x1024_S256x128_0_384, p 3⟩,
    ⟨Rect.unit (s := S256x1024) ![0, 256] S256x128.size inb_S256x1024_S256x128_0_256, p 2⟩,
    ⟨Rect.unit (s := S256x1024) ![0, 128] S256x128.size inb_S256x1024_S256x128_0_128, p 1⟩,
    ⟨Rect.unit (s := S256x1024) ![0, 0] S256x128.size inb_S256x1024_S256x128_0_0, p 0⟩]

theorem pairs_cover (p7 p6 p5 p4 p3 p2 p1 p0 : FVec F S256x128 .f32) (y : S256x1024.Idx) :
    ∃ pc ∈ ([⟨Rect.unit (s := S256x1024) ![0, 896] S256x128.size inb_S256x1024_S256x128_0_896, p7⟩,
    ⟨Rect.unit (s := S256x1024) ![0, 768] S256x128.size inb_S256x1024_S256x128_0_768, p6⟩,
    ⟨Rect.unit (s := S256x1024) ![0, 640] S256x128.size inb_S256x1024_S256x128_0_640, p5⟩,
    ⟨Rect.unit (s := S256x1024) ![0, 512] S256x128.size inb_S256x1024_S256x128_0_512, p4⟩,
    ⟨Rect.unit (s := S256x1024) ![0, 384] S256x128.size inb_S256x1024_S256x128_0_384, p3⟩,
    ⟨Rect.unit (s := S256x1024) ![0, 256] S256x128.size inb_S256x1024_S256x128_0_256, p2⟩,
    ⟨Rect.unit (s := S256x1024) ![0, 128] S256x128.size inb_S256x1024_S256x128_0_128, p1⟩,
    ⟨Rect.unit (s := S256x1024) ![0, 0] S256x128.size inb_S256x1024_S256x128_0_0, p0⟩] : List (View.Piece (Elt F) S256x1024 .f32)), y ∈ pc.1.set :=
  View.cover_of_tiled ([⟨Rect.unit (s := S256x1024) ![0, 896] S256x128.size inb_S256x1024_S256x128_0_896, p7⟩,
    ⟨Rect.unit (s := S256x1024) ![0, 768] S256x128.size inb_S256x1024_S256x128_0_768, p6⟩,
    ⟨Rect.unit (s := S256x1024) ![0, 640] S256x128.size inb_S256x1024_S256x128_0_640, p5⟩,
    ⟨Rect.unit (s := S256x1024) ![0, 512] S256x128.size inb_S256x1024_S256x128_0_512, p4⟩,
    ⟨Rect.unit (s := S256x1024) ![0, 384] S256x128.size inb_S256x1024_S256x128_0_384, p3⟩,
    ⟨Rect.unit (s := S256x1024) ![0, 256] S256x128.size inb_S256x1024_S256x128_0_256, p2⟩,
    ⟨Rect.unit (s := S256x1024) ![0, 128] S256x128.size inb_S256x1024_S256x128_0_128, p1⟩,
    ⟨Rect.unit (s := S256x1024) ![0, 0] S256x128.size inb_S256x1024_S256x128_0_0, p0⟩] : List (View.Piece (Elt F) S256x1024 .f32)) S256x128.size (by rfl) y

/-- The one piece of the index key's buffer. -/
def single (p : FVec F S256x128 .f32) : Vec F S256x128 .f32 :=
  View.canon [⟨Rect.unit (s := S256x128) ![0, 0] S256x128.size inb_S256x128_S256x128_0_0, p⟩]

theorem single_cover (p : FVec F S256x128 .f32) (y : S256x128.Idx) :
    ∃ pc ∈ ([⟨Rect.unit (s := S256x128) ![0, 0] S256x128.size inb_S256x128_S256x128_0_0, p⟩] : List (View.Piece (Elt F) S256x128 .f32)), y ∈ pc.1.set :=
  View.cover_of_tiled ([⟨Rect.unit (s := S256x128) ![0, 0] S256x128.size inb_S256x128_S256x128_0_0, p⟩] : List (View.Piece (Elt F) S256x128 .f32)) S256x128.size (by rfl) y

section
variable (x0 : Vec F S256x7680 .f32) (x1 x2 : Vec F S3x256x128 .f32) (x3 : Vec F S8x128 .f32)
/-- The group A's queries. -/
def prep4 : Vec F S256x512 .f32 := sides (headPay x0 x1 x3 3456 (by omega) 0)
/-- The group A's keys. -/
def prep5 : Vec F S256x512 .f32 := sides (headPay x0 x1 x3 3968 (by omega) 1)
/-- The group A's values. -/
def prep6 : Vec F S256x512 .f32 := sides (valPay x0 4480 (by omega))
/-- The index queries. -/
def prep7 : Vec F S256x1024 .f32 := pairs (idxPay x0 x2)
/-- The index key and weights. -/
def prep8 : Vec F S256x128 .f32 := single (keyPay x0 x2 x3)
/-- The group B's queries. -/
def prep9 : Vec F S256x512 .f32 := sides (headPay x0 x1 x3 6144 (by omega) 2)
/-- The group B's keys. -/
def prep10 : Vec F S256x512 .f32 := sides (headPay x0 x1 x3 6656 (by omega) 3)
/-- The group B's values. -/
def prep11 : Vec F S256x512 .f32 := sides (valPay x0 7168 (by omega))
/-- The group A's keys by rows. -/
def prep12 : Vec F S1024x128 .f32 := laced (headPay x0 x1 x3 3968 (by omega) 1)
/-- The group A's values by rows. -/
def prep13 : Vec F S1024x128 .f32 := laced (valPay x0 4480 (by omega))
/-- The group B's keys by rows. -/
def prep14 : Vec F S1024x128 .f32 := laced (headPay x0 x1 x3 6656 (by omega) 3)
/-- The group B's values by rows. -/
def prep15 : Vec F S1024x128 .f32 := laced (valPay x0 7168 (by omega))
end

/-! ## The body's triple -/

set_option maxHeartbeats 4000000 in
/-- The body on whole buffers, the inputs' at `x0` to `x3` and the outputs' at anything, leaves the inputs' as they were
    and each output's at the value named above. -/
theorem sound_kernel (c : Dev nD) (E : Set ℕ) (i : grid0.Coords) (arg1 : Memref sig .tc .vmem S256x7680 .f32) (harg1 : arg1.IsWhole) (arg2 : Memref sig .tc .vmem S3x256x128 .f32) (harg2 : arg2.IsWhole) (arg3 : Memref sig .tc .vmem S3x256x128 .f32) (harg3 : arg3.IsWhole) (arg4 : Memref sig .tc .vmem S8x128 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1024 .f32) (harg8 : arg8.IsWhole) (arg9 : Memref sig .tc .vmem S256x128 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole)
    (x0 : Vec F S256x7680 .f32) (x1 : Vec F S3x256x128 .f32) (x2 : Vec F S3x256x128 .f32) (x3 : Vec F S8x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (prep4 x0 x1 x3) ∗ owns (c : Thread nD τ) arg6 fullShare (prep5 x0 x1 x3) ∗ owns (c : Thread nD τ) arg7 fullShare (prep6 x0) ∗ owns (c : Thread nD τ) arg8 fullShare (prep7 x0 x2) ∗ owns (c : Thread nD τ) arg9 fullShare (prep8 x0 x2 x3) ∗ owns (c : Thread nD τ) arg10 fullShare (prep9 x0 x1 x3) ∗ owns (c : Thread nD τ) arg11 fullShare (prep10 x0 x1 x3) ∗ owns (c : Thread nD τ) arg12 fullShare (prep11 x0) ∗ owns (c : Thread nD τ) arg13 fullShare (prep12 x0 x1 x3) ∗ owns (c : Thread nD τ) arg14 fullShare (prep13 x0) ∗ owns (c : Thread nD τ) arg15 fullShare (prep14 x0 x1 x3) ∗ owns (c : Thread nD τ) arg16 fullShare (prep15 x0)) -∗ K ⟨⟩))
      ⊢ wp frame (wpE (defs₀ (F := F)) Variants.none c none) E (cc0__prep_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold cc0__prep_kernel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr; swap; · iexact H4
    ipureintro; exact View.read_writes_eq_canon _ _ _ (sides_cover _ _ _ _)
  isplitl [H5]
  · iexists _; isplitr; swap; · iexact H5
    ipureintro; exact View.read_writes_eq_canon _ _ _ (sides_cover _ _ _ _)
  isplitl [H6]
  · iexists _; isplitr; swap; · iexact H6
    ipureintro; exact View.read_writes_eq_canon _ _ _ (sides_cover _ _ _ _)
  isplitl [H7]
  · iexists _; isplitr; swap; · iexact H7
    ipureintro; exact View.read_writes_eq_canon _ _ _ (pairs_cover _ _ _ _ _ _ _ _)
  isplitl [H8]
  · iexists _; isplitr; swap; · iexact H8
    ipureintro; exact View.read_writes_eq_canon _ _ _ (single_cover _)
  isplitl [H9]
  · iexists _; isplitr; swap; · iexact H9
    ipureintro; exact View.read_writes_eq_canon _ _ _ (sides_cover _ _ _ _)
  isplitl [H10]
  · iexists _; isplitr; swap; · iexact H10
    ipureintro; exact View.read_writes_eq_canon _ _ _ (sides_cover _ _ _ _)
  isplitl [H11]
  · iexists _; isplitr; swap; · iexact H11
    ipureintro; exact View.read_writes_eq_canon _ _ _ (sides_cover _ _ _ _)
  isplitl [H12]
  · iexists _; isplitr; swap; · iexact H12
    ipureintro; exact View.read_writes_eq_canon _ _ _ (laced_cover _ _ _ _)
  isplitl [H13]
  · iexists _; isplitr; swap; · iexact H13
    ipureintro; exact View.read_writes_eq_canon _ _ _ (laced_cover _ _ _ _)
  isplitl [H14]
  · iexists _; isplitr; swap; · iexact H14
    ipureintro; exact View.read_writes_eq_canon _ _ _ (laced_cover _ _ _ _)
  · iexists _; isplitr; swap; · iexact H15
    ipureintro; exact View.read_writes_eq_canon _ _ _ (laced_cover _ _ _ _)

/-! ## The proof data -/

variable (m : (ℓ : Loc nD τ sig) → Buf (Elt F) ℓ) (ρ : Dev nD → PrngReg)

/-- The arrays as the region finds them; after the body at point `t` each input's buffer at its block and each output's
    at the value named above of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => prep4 (iblk m c 0 t) (iblk m c 1 t) (iblk m c 3 t)
    | ⟨5, _⟩ => prep5 (iblk m c 0 t) (iblk m c 1 t) (iblk m c 3 t)
    | ⟨6, _⟩ => prep6 (iblk m c 0 t)
    | ⟨7, _⟩ => prep7 (iblk m c 0 t) (iblk m c 2 t)
    | ⟨8, _⟩ => prep8 (iblk m c 0 t) (iblk m c 2 t) (iblk m c 3 t)
    | ⟨9, _⟩ => prep9 (iblk m c 0 t) (iblk m c 1 t) (iblk m c 3 t)
    | ⟨10, _⟩ => prep10 (iblk m c 0 t) (iblk m c 1 t) (iblk m c 3 t)
    | ⟨11, _⟩ => prep11 (iblk m c 0 t)
    | ⟨12, _⟩ => prep12 (iblk m c 0 t) (iblk m c 1 t) (iblk m c 3 t)
    | ⟨13, _⟩ => prep13 (iblk m c 0 t)
    | ⟨14, _⟩ => prep14 (iblk m c 0 t) (iblk m c 1 t) (iblk m c 3 t)
    | ⟨15, _⟩ => prep15 (iblk m c 0 t)
    | ⟨_ + 16, h⟩ => absurd (show _ + 16 < 16 from h) (by omega)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = prep4 (iblk m c 0 t) (iblk m c 1 t) (iblk m c 3 t) := by dsimp only [dats]
theorem after0_5 (c : Dev nD) (t : Fin cfg0.N) : (dats m 0 c).after 5 t = prep5 (iblk m c 0 t) (iblk m c 1 t) (iblk m c 3 t) := by dsimp only [dats]
theorem after0_6 (c : Dev nD) (t : Fin cfg0.N) : (dats m 0 c).after 6 t = prep6 (iblk m c 0 t) := by dsimp only [dats]
theorem after0_7 (c : Dev nD) (t : Fin cfg0.N) : (dats m 0 c).after 7 t = prep7 (iblk m c 0 t) (iblk m c 2 t) := by dsimp only [dats]
theorem after0_8 (c : Dev nD) (t : Fin cfg0.N) : (dats m 0 c).after 8 t = prep8 (iblk m c 0 t) (iblk m c 2 t) (iblk m c 3 t) := by dsimp only [dats]
theorem after0_9 (c : Dev nD) (t : Fin cfg0.N) : (dats m 0 c).after 9 t = prep9 (iblk m c 0 t) (iblk m c 1 t) (iblk m c 3 t) := by dsimp only [dats]
theorem after0_10 (c : Dev nD) (t : Fin cfg0.N) : (dats m 0 c).after 10 t = prep10 (iblk m c 0 t) (iblk m c 1 t) (iblk m c 3 t) := by dsimp only [dats]
theorem after0_11 (c : Dev nD) (t : Fin cfg0.N) : (dats m 0 c).after 11 t = prep11 (iblk m c 0 t) := by dsimp only [dats]
theorem after0_12 (c : Dev nD) (t : Fin cfg0.N) : (dats m 0 c).after 12 t = prep12 (iblk m c 0 t) (iblk m c 1 t) (iblk m c 3 t) := by dsimp only [dats]
theorem after0_13 (c : Dev nD) (t : Fin cfg0.N) : (dats m 0 c).after 13 t = prep13 (iblk m c 0 t) := by dsimp only [dats]
theorem after0_14 (c : Dev nD) (t : Fin cfg0.N) : (dats m 0 c).after 14 t = prep14 (iblk m c 0 t) (iblk m c 1 t) (iblk m c 3 t) := by dsimp only [dats]
theorem after0_15 (c : Dev nD) (t : Fin cfg0.N) : (dats m 0 c).after 15 t = prep15 (iblk m c 0 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every run ends with the arrays at what the blocks give and the later lines' buffers after them, every counter zero. -/
theorem run_quiet : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun c => .rfl) (hout := fun c => .rfl)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiet m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiet m ρ))

end Cert.Kernel5Ideal.Gen
end
-- ==== Proof.PrepPure.lean ====
module
public import Idealize.ShloMosaic.PureOps.Ideal.Laws
public import Idealize.ShloMosaic.Lib.Pointwise

@[expose] public section
noncomputable section

/-! A head's row over its root mean square, and its rotation, over the extended reals. -/

namespace Cert.Prep
open Idealize.ShloMosaic

/-- One element of a row over its root mean square and by the gain; `w` is the number of its elements. -/
def nrm {n : ℕ} (w : EReal) (x g : Fin n → EReal) (e : Fin n) : EReal :=
  x e * Ideal.rsqrt (Ideal.div (∑ k, x k * x k) w + Ideal.ofBits FTy.f32 897988541#32) * g e

/-- A row turned: the first `n` elements against the next `n`, the others as they are. -/
def spin {n N : ℕ} (hn : n + n ≤ N) (y : Fin N → EReal) (c s : Fin n → EReal) (d : Fin N) : EReal :=
  if h : d.val < n then y d * c ⟨d.val, h⟩ - y ⟨n + d.val, by omega⟩ * s ⟨d.val, h⟩
  else if h' : d.val < n + n then y d * c ⟨d.val - n, by omega⟩ + y ⟨d.val - n, by omega⟩ * s ⟨d.val - n, by omega⟩
  else y d

/-- The factor of an element itself, -/
def own {n : ℕ} (c : Fin n → EReal) (d : ℕ) : EReal :=
  if h : d < n then c ⟨d, h⟩ else if h' : d < n + n then c ⟨d - n, by omega⟩ else 1
/-- that of the one `n` places before it, -/
def before {n : ℕ} (s : Fin n → EReal) (d : ℕ) : EReal :=
  if d < n then 0 else if h' : n ≤ d ∧ d < n + n then s ⟨d - n, by omega⟩ else 0
/-- and that of the one `n` places after it. -/
def after {n : ℕ} (s : Fin n → EReal) (d : ℕ) : EReal :=
  if h : d < n then - s ⟨d, h⟩ else 0

/-- The three factors turn the row. -/
theorem spin_eq {n N : ℕ} (hn : n + n ≤ N) (y : Fin N → EReal) (c s : Fin n → EReal) (d : Fin N) (p q : EReal)
    (hp : (h : n ≤ d.val ∧ d.val < n + n) → p = y ⟨d.val - n, by omega⟩)
    (hq : (h : d.val < n) → q = y ⟨n + d.val, by omega⟩) :
    y d * own c d.val + p * before s d.val + q * after s d.val = spin hn y c s d := by
  unfold own before after spin
  by_cases h : d.val < n
  · simp only [h, dif_pos, if_pos]
    rw [hq h, mul_zero, add_zero, mul_neg, sub_eq_add_neg]
  · by_cases h' : d.val < n + n
    · simp only [h, h', dif_pos, dif_neg, if_neg, not_false_eq_true, not_lt.mp h, and_self]
      rw [hp ⟨not_lt.mp h, h'⟩, mul_zero, add_zero]
    · simp only [h, h', dif_neg, if_neg, not_false_eq_true, and_false]
      simp only [mul_zero, add_zero, mul_one]

end Cert.Prep

end
-- ==== Proof.PrepRef.lean ====
module
public import proofs.«01_k».proof.Proof.PrepPure
public import proofs.«01_k».proof.Proof.Gen.Reference5Ideal.Run
public import Idealize.ShloMosaic.Lib.Pointwise
public import Idealize.ShloMosaic.Lib.Pipeline.Value

@[expose] public section
set_option maxRecDepth 16384
noncomputable section

/-! The reference's head preparation, element by element. -/

namespace Cert.Prep
open Cert.Reference5Ideal Cert.Reference5Ideal.Gen Idealize.ShloMosaic

/-- The angles of a head of 128 elements: positions by frequencies, -/
def angles : FVec Ideal S2048x16 .f32 :=
  mulf (broadcastInDim S2048x16 ![0, 1] bcast_S2048x1_S2048x16_0_1 (broadcastInDim S2048x1 ![0] bcast_S2048_S2048x1_0
      (sitofp .f32 (iotaInDim S2048 32 0))))
    (broadcastInDim S2048x16 ![0, 1] bcast_S1x16_S2048x16_0_1 (broadcastInDim S1x16 ![1] bcast_S16_S1x16_1
      (Host.powf (broadcastInDim S16 ![] bcast_S_S16 (constant S_ .f32 0x48F42400#32))
        (Host.divf (mulf (broadcastInDim S16 ![] bcast_S_S16 (constant S_ .f32 0xC0000000#32)) (sitofp .f32 (iotaInDim S16 32 0)))
          (broadcastInDim S16 ![] bcast_S_S16 (constant S_ .f32 0x42000000#32))))))

/-- and of one of 64. -/
def angles8 : FVec Ideal S2048x8 .f32 :=
  mulf (broadcastInDim S2048x8 ![0, 1] bcast_S2048x1_S2048x8_0_1 (broadcastInDim S2048x1 ![0] bcast_S2048_S2048x1_0
      (sitofp .f32 (iotaInDim S2048 32 0))))
    (broadcastInDim S2048x8 ![0, 1] bcast_S1x8_S2048x8_0_1 (broadcastInDim S1x8 ![1] bcast_S8_S1x8_1
      (Host.powf (broadcastInDim S8 ![] bcast_S_S8 (constant S_ .f32 0x48F42400#32))
        (Host.divf (mulf (broadcastInDim S8 ![] bcast_S_S8 (constant S_ .f32 0xC0000000#32)) (sitofp .f32 (iotaInDim S8 32 0)))
          (broadcastInDim S8 ![] bcast_S_S8 (constant S_ .f32 0x41800000#32))))))

/-- The cosines and sines of a position. -/
def cosA (s : Fin 2048) (i : Fin 16) : EReal := Host.cos angles (ix2 s i)
def sinA (s : Fin 2048) (i : Fin 16) : EReal := Host.sin angles (ix2 s i)
def cosI (s : Fin 2048) (i : Fin 8) : EReal := Host.cos angles8 (ix2 s i)
def sinI (s : Fin 2048) (i : Fin 8) : EReal := Host.sin angles8 (ix2 s i)

/-- The reference's norm of the heads. -/
def rNorm (x : FVec Ideal S4x2048x4x128 .f32) (g : FVec Ideal S128 .f32) : FVec Ideal S4x2048x4x128 .f32 :=
  mulf (mulf x (broadcastInDim S4x2048x4x128 ![0, 1, 2, 3] bcast_S4x2048x4x1_S4x2048x4x128_0_1_2_3 (Host.rsqrt (addf (Host.divf
    (broadcastInDim S4x2048x4x1 ![0, 1, 2] bcast_S4x2048x4_S4x2048x4x1_0_1_2 (Host.reduceAdd (mulf x x)
      (constant S_ .f32 0x00000000#32) reducesTo_S4x2048x4x128_S4x2048x4_d3 h_S_))
      (broadcastInDim S4x2048x4x1 ![] bcast_S_S4x2048x4x1 (constant S_ .f32 0x43000000#32)))
    (broadcastInDim S4x2048x4x1 ![] bcast_S_S4x2048x4x1 (constant S_ .f32 0x358637BD#32))))))
    (broadcastInDim S4x2048x4x128 ![0, 1, 2, 3] bcast_S1x1x1x128_S4x2048x4x128_0_1_2_3
      (broadcastInDim S1x1x1x128 ![3] bcast_S128_S1x1x1x128_3 g))

theorem rNorm_apply (x : FVec Ideal S4x2048x4x128 .f32) (g : FVec Ideal S128 .f32) (b : Fin 4) (s : Fin 2048) (h : Fin 4)
    (d : Fin 128) : rNorm x g (ix4 b s h d)
      = nrm (Ideal.ofBits FTy.f32 0x43000000#32) (fun e => x (ix4 b s h e)) (fun e => g (ix1 e)) d := by
  pointwise [rNorm]
  rfl

/-- The reference's norm of the index key. -/
def rNorm8 (x : FVec Ideal S4x2048x64 .f32) (g : FVec Ideal S64 .f32) : FVec Ideal S4x2048x1x64 .f32 :=
  broadcastInDim S4x2048x1x64 ![0, 1, 3] bcast_S4x2048x64_S4x2048x1x64_0_1_3 (mulf (mulf x
    (broadcastInDim S4x2048x64 ![0, 1, 2] bcast_S4x2048x1_S4x2048x64_0_1_2 (Host.rsqrt (addf (Host.divf
      (broadcastInDim S4x2048x1 ![0, 1] bcast_S4x2048_S4x2048x1_0_1 (Host.reduceAdd (mulf x x)
        (constant S_ .f32 0x00000000#32) reducesTo_S4x2048x64_S4x2048_d2 h_S_))
      (broadcastInDim S4x2048x1 ![] bcast_S_S4x2048x1 (constant S_ .f32 0x42800000#32)))
      (broadcastInDim S4x2048x1 ![] bcast_S_S4x2048x1 (constant S_ .f32 0x358637BD#32))))))
    (broadcastInDim S4x2048x64 ![0, 1, 2] bcast_S1x1x64_S4x2048x64_0_1_2 (broadcastInDim S1x1x64 ![2] bcast_S64_S1x1x64_2 g)))

theorem rNorm8_apply (x : FVec Ideal S4x2048x64 .f32) (g : FVec Ideal S64 .f32) (b : Fin 4) (s : Fin 2048)
    (d : Fin 64) : rNorm8 x g (ix4 b s 0 d)
      = nrm (Ideal.ofBits FTy.f32 0x42800000#32) (fun e => x (ix3 b s e)) (fun e => g (ix1 e)) d := by
  pointwise [rNorm8]
  rfl

/-- The reference's rotation of the heads: its three pieces, -/
abbrev turns (y : FVec Ideal S4x2048x4x128 .f32) (C S : FVec Ideal S2048x1x16 .f32) : List ((s : Shape) × (s.Idx → EReal)) :=
  let y1 := extractStridedSlice S4x2048x4x16 ![0, 0, 0, 0] y slices_S4x2048x4x128_S4x2048x4x16_0_0_0_0
  let y2 := extractStridedSlice S4x2048x4x16 ![0, 0, 0, 16] y slices_S4x2048x4x128_S4x2048x4x16_0_0_0_16
  let c4 := broadcastInDim S4x2048x4x16 ![0, 1, 2, 3] bcast_S1x2048x1x16_S4x2048x4x16_0_1_2_3
    (broadcastInDim S1x2048x1x16 ![1, 2, 3] bcast_S2048x1x16_S1x2048x1x16_1_2_3 C)
  let s4 := broadcastInDim S4x2048x4x16 ![0, 1, 2, 3] bcast_S1x2048x1x16_S4x2048x4x16_0_1_2_3
    (broadcastInDim S1x2048x1x16 ![1, 2, 3] bcast_S2048x1x16_S1x2048x1x16_1_2_3 S)
  [⟨S4x2048x4x16, subf (F := Ideal) (φ := .f32) (mulf y1 c4) (mulf y2 s4)⟩,
    ⟨S4x2048x4x16, addf (F := Ideal) (φ := .f32) (mulf y2 c4) (mulf y1 s4)⟩,
    ⟨S4x2048x4x96, extractStridedSlice S4x2048x4x96 ![0, 0, 0, 32] y slices_S4x2048x4x128_S4x2048x4x96_0_0_0_32⟩]

/-- side by side. -/
def rSpin (y : FVec Ideal S4x2048x4x128 .f32) : FVec Ideal S4x2048x4x128 .f32 :=
  concatenate S4x2048x4x128 3 (turns y
    (broadcastInDim S2048x1x16 ![0, 2] bcast_S2048x16_S2048x1x16_0_2 (Host.cos angles))
    (broadcastInDim S2048x1x16 ![0, 2] bcast_S2048x16_S2048x1x16_0_2 (Host.sin angles)))
    concatenates_S4x2048x4x16_S4x2048x4x16_S4x2048x4x96_S4x2048x4x128_d3

theorem rSpin_apply (y : FVec Ideal S4x2048x4x128 .f32) (b : Fin 4) (s : Fin 2048) (h : Fin 4) (d : Fin 128) :
    rSpin y (ix4 b s h d) = spin (by omega : 16 + 16 ≤ 128) (fun e => y (ix4 b s h e)) (cosA s) (sinA s) d := by
  unfold rSpin spin cosA sinA
  generalize Host.cos angles = C
  generalize Host.sin angles = S
  by_cases h1 : d.val < 16
  · rw [dif_pos h1]
    refine (concatenate_apply_piece (t := S4x2048x4x128) 3 (turns y _ _) _ _ 0 (by show 0 < 3; omega) S4x2048x4x16 _ rfl rfl 0 rfl
      (ix4 b s h (⟨d.val, h1⟩ : Fin 16)) ?_ (Nat.zero_add _)).trans ?_
    · intro a ha
      match a with
      | ⟨0, _⟩ => rfl
      | ⟨1, _⟩ => rfl
      | ⟨2, _⟩ => rfl
      | ⟨3, _⟩ => exact absurd rfl ha
    · pointwise
  · rw [dif_neg h1]
    by_cases h2 : d.val < 16 + 16
    · rw [dif_pos h2]
      refine (concatenate_apply_piece (t := S4x2048x4x128) 3 (turns y _ _) _ _ 1 (by show 1 < 3; omega) S4x2048x4x16 _ rfl rfl 16 rfl
        (ix4 b s h (⟨d.val - 16, by omega⟩ : Fin 16)) ?_ (by show 16 + (d.val - 16) = d.val; omega)).trans ?_
      · intro a ha
        match a with
        | ⟨0, _⟩ => rfl
        | ⟨1, _⟩ => rfl
        | ⟨2, _⟩ => rfl
        | ⟨3, _⟩ => exact absurd rfl ha
      · pointwise
        rw [show (⟨16 + (d.val - 16), by omega⟩ : Fin 128) = d from Fin.ext (by show 16 + (d.val - 16) = d.val; omega)]
    · rw [dif_neg h2]
      refine (concatenate_apply_piece (t := S4x2048x4x128) 3 (turns y _ _) _ _ 2 (by show 2 < 3; omega) S4x2048x4x96 _ rfl rfl 32 rfl
        (ix4 b s h (⟨d.val - 32, by omega⟩ : Fin 96)) ?_ (by show 32 + (d.val - 32) = d.val; omega)).trans ?_
      · intro a ha
        match a with
        | ⟨0, _⟩ => rfl
        | ⟨1, _⟩ => rfl
        | ⟨2, _⟩ => rfl
        | ⟨3, _⟩ => exact absurd rfl ha
      · pointwise
        rw [show (⟨32 + (d.val - 32), by omega⟩ : Fin 128) = d from Fin.ext (by show 32 + (d.val - 32) = d.val; omega)]

/-- The reference's rotation of the index heads: its three pieces, -/
abbrev turnsI (y : FVec Ideal S4x2048x16x64 .f32) (C S : FVec Ideal S2048x1x8 .f32) : List ((s : Shape) × (s.Idx → EReal)) :=
  let y1 := extractStridedSlice S4x2048x16x8 ![0, 0, 0, 0] y slices_S4x2048x16x64_S4x2048x16x8_0_0_0_0
  let y2 := extractStridedSlice S4x2048x16x8 ![0, 0, 0, 8] y slices_S4x2048x16x64_S4x2048x16x8_0_0_0_8
  let c4 := broadcastInDim S4x2048x16x8 ![0, 1, 2, 3] bcast_S1x2048x1x8_S4x2048x16x8_0_1_2_3
    (broadcastInDim S1x2048x1x8 ![1, 2, 3] bcast_S2048x1x8_S1x2048x1x8_1_2_3 C)
  let s4 := broadcastInDim S4x2048x16x8 ![0, 1, 2, 3] bcast_S1x2048x1x8_S4x2048x16x8_0_1_2_3
    (broadcastInDim S1x2048x1x8 ![1, 2, 3] bcast_S2048x1x8_S1x2048x1x8_1_2_3 S)
  [⟨S4x2048x16x8, subf (F := Ideal) (φ := .f32) (mulf y1 c4) (mulf y2 s4)⟩,
    ⟨S4x2048x16x8, addf (F := Ideal) (φ := .f32) (mulf y2 c4) (mulf y1 s4)⟩,
    ⟨S4x2048x16x48, extractStridedSlice S4x2048x16x48 ![0, 0, 0, 16] y slices_S4x2048x16x64_S4x2048x16x48_0_0_0_16⟩]

/-- side by side. -/
def rSpinI (y : FVec Ideal S4x2048x16x64 .f32) : FVec Ideal S4x2048x16x64 .f32 :=
  concatenate S4x2048x16x64 3 (turnsI y
    (broadcastInDim S2048x1x8 ![0, 2] bcast_S2048x8_S2048x1x8_0_2 (Host.cos angles8))
    (broadcastInDim S2048x1x8 ![0, 2] bcast_S2048x8_S2048x1x8_0_2 (Host.sin angles8)))
    concatenates_S4x2048x16x8_S4x2048x16x8_S4x2048x16x48_S4x2048x16x64_d3

theorem rSpinI_apply (y : FVec Ideal S4x2048x16x64 .f32) (b : Fin 4) (s : Fin 2048) (h : Fin 16) (d : Fin 64) :
    rSpinI y (ix4 b s h d) = spin (by omega : 8 + 8 ≤ 64) (fun e => y (ix4 b s h e)) (cosI s) (sinI s) d := by
  unfold rSpinI spin cosI sinI
  generalize Host.cos angles8 = C
  generalize Host.sin angles8 = S
  by_cases h1 : d.val < 8
  · rw [dif_pos h1]
    refine (concatenate_apply_piece (t := S4x2048x16x64) 3 (turnsI y _ _) _ _ 0 (by show 0 < 3; omega) S4x2048x16x8 _ rfl rfl 0 rfl
      (ix4 b s h (⟨d.val, h1⟩ : Fin 8)) ?_ (Nat.zero_add _)).trans ?_
    · intro a ha
      match a with
      | ⟨0, _⟩ => rfl
      | ⟨1, _⟩ => rfl
      | ⟨2, _⟩ => rfl
      | ⟨3, _⟩ => exact absurd rfl ha
    · pointwise
  · rw [dif_neg h1]
    by_cases h2 : d.val < 8 + 8
    · rw [dif_pos h2]
      refine (concatenate_apply_piece (t := S4x2048x16x64) 3 (turnsI y _ _) _ _ 1 (by show 1 < 3; omega) S4x2048x16x8 _ rfl rfl 8 rfl
        (ix4 b s h (⟨d.val - 8, by omega⟩ : Fin 8)) ?_ (by show 8 + (d.val - 8) = d.val; omega)).trans ?_
      · intro a ha
        match a with
        | ⟨0, _⟩ => rfl
        | ⟨1, _⟩ => rfl
        | ⟨2, _⟩ => rfl
        | ⟨3, _⟩ => exact absurd rfl ha
      · pointwise
        rw [show (⟨8 + (d.val - 8), by omega⟩ : Fin 64) = d from Fin.ext (by show 8 + (d.val - 8) = d.val; omega)]
    · rw [dif_neg h2]
      refine (concatenate_apply_piece (t := S4x2048x16x64) 3 (turnsI y _ _) _ _ 2 (by show 2 < 3; omega) S4x2048x16x48 _ rfl rfl 16 rfl
        (ix4 b s h (⟨d.val - 16, by omega⟩ : Fin 48)) ?_ (by show 16 + (d.val - 16) = d.val; omega)).trans ?_
      · intro a ha
        match a with
        | ⟨0, _⟩ => rfl
        | ⟨1, _⟩ => rfl
        | ⟨2, _⟩ => rfl
        | ⟨3, _⟩ => exact absurd rfl ha
      · pointwise
        rw [show (⟨16 + (d.val - 16), by omega⟩ : Fin 64) = d from Fin.ext (by show 16 + (d.val - 16) = d.val; omega)]

/-- The reference's rotation of the index key: its three pieces, -/
abbrev turnsK (y : FVec Ideal S4x2048x1x64 .f32) (C S : FVec Ideal S2048x1x8 .f32) : List ((s : Shape) × (s.Idx → EReal)) :=
  let y1 := extractStridedSlice S4x2048x1x8 ![0, 0, 0, 0] y slices_S4x2048x1x64_S4x2048x1x8_0_0_0_0
  let y2 := extractStridedSlice S4x2048x1x8 ![0, 0, 0, 8] y slices_S4x2048x1x64_S4x2048x1x8_0_0_0_8
  let c4 := broadcastInDim S4x2048x1x8 ![0, 1, 2, 3] bcast_S1x2048x1x8_S4x2048x1x8_0_1_2_3
    (broadcastInDim S1x2048x1x8 ![1, 2, 3] bcast_S2048x1x8_S1x2048x1x8_1_2_3 C)
  let s4 := broadcastInDim S4x2048x1x8 ![0, 1, 2, 3] bcast_S1x2048x1x8_S4x2048x1x8_0_1_2_3
    (broadcastInDim S1x2048x1x8 ![1, 2, 3] bcast_S2048x1x8_S1x2048x1x8_1_2_3 S)
  [⟨S4x2048x1x8, subf (F := Ideal) (φ := .f32) (mulf y1 c4) (mulf y2 s4)⟩,
    ⟨S4x2048x1x8, addf (F := Ideal) (φ := .f32) (mulf y2 c4) (mulf y1 s4)⟩,
    ⟨S4x2048x1x48, extractStridedSlice S4x2048x1x48 ![0, 0, 0, 16] y slices_S4x2048x1x64_S4x2048x1x48_0_0_0_16⟩]

/-- side by side. -/
def rSpinK (y : FVec Ideal S4x2048x1x64 .f32) : FVec Ideal S4x2048x1x64 .f32 :=
  concatenate S4x2048x1x64 3 (turnsK y
    (broadcastInDim S2048x1x8 ![0, 2] bcast_S2048x8_S2048x1x8_0_2 (Host.cos angles8))
    (broadcastInDim S2048x1x8 ![0, 2] bcast_S2048x8_S2048x1x8_0_2 (Host.sin angles8)))
    concatenates_S4x2048x1x8_S4x2048x1x8_S4x2048x1x48_S4x2048x1x64_d3

theorem rSpinK_apply (y : FVec Ideal S4x2048x1x64 .f32) (b : Fin 4) (s : Fin 2048) (d : Fin 64) :
    rSpinK y (ix4 b s 0 d) = spin (by omega : 8 + 8 ≤ 64) (fun e => y (ix4 b s 0 e)) (cosI s) (sinI s) d := by
  unfold rSpinK spin cosI sinI
  generalize Host.cos angles8 = C
  generalize Host.sin angles8 = S
  by_cases h1 : d.val < 8
  · rw [dif_pos h1]
    refine (concatenate_apply_piece (t := S4x2048x1x64) 3 (turnsK y _ _) _ _ 0 (by show 0 < 3; omega) S4x2048x1x8 _ rfl rfl 0 rfl
      (ix4 b s 0 (⟨d.val, h1⟩ : Fin 8)) ?_ (Nat.zero_add _)).trans ?_
    · intro a ha
      match a with
      | ⟨0, _⟩ => rfl
      | ⟨1, _⟩ => rfl
      | ⟨2, _⟩ => rfl
      | ⟨3, _⟩ => exact absurd rfl ha
    · pointwise
  · rw [dif_neg h1]
    by_cases h2 : d.val < 8 + 8
    · rw [dif_pos h2]
      refine (concatenate_apply_piece (t := S4x2048x1x64) 3 (turnsK y _ _) _ _ 1 (by show 1 < 3; omega) S4x2048x1x8 _ rfl rfl 8 rfl
        (ix4 b s 0 (⟨d.val - 8, by omega⟩ : Fin 8)) ?_ (by show 8 + (d.val - 8) = d.val; omega)).trans ?_
      · intro a ha
        match a with
        | ⟨0, _⟩ => rfl
        | ⟨1, _⟩ => rfl
        | ⟨2, _⟩ => rfl
        | ⟨3, _⟩ => exact absurd rfl ha
      · pointwise
        rw [show (⟨8 + (d.val - 8), by omega⟩ : Fin 64) = d from Fin.ext (by show 8 + (d.val - 8) = d.val; omega)]
    · rw [dif_neg h2]
      refine (concatenate_apply_piece (t := S4x2048x1x64) 3 (turnsK y _ _) _ _ 2 (by show 2 < 3; omega) S4x2048x1x48 _ rfl rfl 16 rfl
        (ix4 b s 0 (⟨d.val - 16, by omega⟩ : Fin 48)) ?_ (by show 16 + (d.val - 16) = d.val; omega)).trans ?_
      · intro a ha
        match a with
        | ⟨0, _⟩ => rfl
        | ⟨1, _⟩ => rfl
        | ⟨2, _⟩ => rfl
        | ⟨3, _⟩ => exact absurd rfl ha
      · pointwise
        rw [show (⟨16 + (d.val - 16), by omega⟩ : Fin 64) = d from Fin.ext (by show 16 + (d.val - 16) = d.val; omega)]

/-! ## The results, as functions of the columns -/

/-- Columns `o` on of a sequence's rows. -/
def partA {n : ℕ} (x : FVec Ideal S4x2048x2640 .f32) (o : ℕ) (ho : o + n ≤ 2640) (b : Fin 4) (s : Fin 2048) (j : Fin n) : EReal :=
  x (ix3 b s ⟨o + j.val, by omega⟩)
def partB {n : ℕ} (x : FVec Ideal S4x2048x1536 .f32) (o : ℕ) (ho : o + n ≤ 1536) (b : Fin 4) (s : Fin 2048) (j : Fin n) : EReal :=
  x (ix3 b s ⟨o + j.val, by omega⟩)

/-- Queries or keys: normed and turned. -/
def headsOf (col : Fin 4 → Fin 2048 → Fin 512 → EReal) (g : FVec Ideal S128 .f32) (b : Fin 4) (s : Fin 2048) (h : Fin 4)
    (d : Fin 128) : EReal :=
  spin (by omega : 16 + 16 ≤ 128) (nrm (Ideal.ofBits FTy.f32 0x43000000#32) (fun e => col b s ⟨128 * h.val + e.val, by omega⟩)
    (fun e => g (ix1 e))) (cosA s) (sinA s) d
/-- Values. -/
def valsOf (col : Fin 4 → Fin 2048 → Fin 512 → EReal) (b : Fin 4) (s : Fin 2048) (h : Fin 4) (d : Fin 128) : EReal :=
  col b s ⟨128 * h.val + d.val, by omega⟩
/-- Index queries. -/
def idxOf (col : Fin 4 → Fin 2048 → Fin 1024 → EReal) (b : Fin 4) (s : Fin 2048) (h : Fin 16) (d : Fin 64) : EReal :=
  spin (by omega : 8 + 8 ≤ 64) (fun e => col b s ⟨64 * h.val + e.val, by omega⟩) (cosI s) (sinI s) d
/-- The index key. -/
def keyOf (col : Fin 4 → Fin 2048 → Fin 64 → EReal) (g : FVec Ideal S64 .f32) (b : Fin 4) (s : Fin 2048) (d : Fin 64) : EReal :=
  spin (by omega : 8 + 8 ≤ 64) (nrm (Ideal.ofBits FTy.f32 0x42800000#32) (col b s) (fun e => g (ix1 e))) (cosI s) (sinI s) d
/-- The index weights. -/
def weightOf (col : Fin 4 → Fin 2048 → Fin 16 → EReal) (b : Fin 4) (s : Fin 2048) (d : Fin 16) : EReal :=
  col b s d * Ideal.ofBits FTy.f32 0x3D000000#32

/-- An array of its elements. -/
def arr4 (f : Fin 4 → Fin 2048 → Fin 4 → Fin 128 → EReal) : FVec Ideal S4x2048x4x128 .f32 := fun i => f (i 0) (i 1) (i 2) (i 3)
def arrI (f : Fin 4 → Fin 2048 → Fin 16 → Fin 64 → EReal) : FVec Ideal S4x2048x16x64 .f32 := fun i => f (i 0) (i 1) (i 2) (i 3)
def arrK (f : Fin 4 → Fin 2048 → Fin 64 → EReal) : FVec Ideal S4x2048x64 .f32 := fun i => f (i 0) (i 1) (i 2)
def arrW (f : Fin 4 → Fin 2048 → Fin 16 → EReal) : FVec Ideal S4x2048x16 .f32 := fun i => f (i 0) (i 1) (i 2)

section
variable (x : FVec Ideal S4x2048x2640 .f32) (y : FVec Ideal S4x2048x1536 .f32)

theorem cast4 (z : FVec Ideal S4x2048x512 .f32) (b : Fin 4) (s : Fin 2048) (h : Fin 4) (d : Fin 128) :
    shapeCast S4x2048x4x128 z shapeCasts_S4x2048x512_S4x2048x4x128 (ix4 b s h d) = z (ix3 b s ⟨128 * h.val + d.val, by omega⟩) := by
  pointwise
  exact congrArg (fun j => z (ix3 b s j)) (Fin.ext (by dsimp only; omega))

theorem castI (z : FVec Ideal S4x2048x1024 .f32) (b : Fin 4) (s : Fin 2048) (h : Fin 16) (d : Fin 64) :
    shapeCast S4x2048x16x64 z shapeCasts_S4x2048x1024_S4x2048x16x64 (ix4 b s h d) = z (ix3 b s ⟨64 * h.val + d.val, by omega⟩) := by
  pointwise
  exact congrArg (fun j => z (ix3 b s j)) (Fin.ext (by dsimp only; omega))

theorem heads_eq (z : FVec Ideal S4x2048x512 .f32) (g : FVec Ideal S128 .f32) (col : Fin 4 → Fin 2048 → Fin 512 → EReal)
    (hz : ∀ b s j, z (ix3 b s j) = col b s j) :
    rSpin (rNorm (shapeCast S4x2048x4x128 z shapeCasts_S4x2048x512_S4x2048x4x128) g) = arr4 (headsOf col g) := by
  funext i
  obtain ⟨b, s, h, d, rfl⟩ : ∃ (b : Fin 4) (s : Fin 2048) (h : Fin 4) (d : Fin 128), i = ix4 b s h d := ⟨i 0, i 1, i 2, i 3, eq_ix4 i⟩
  rw [rSpin_apply]
  simp only [rNorm_apply, cast4, hz]
  rfl

theorem vals_eq (z : FVec Ideal S4x2048x512 .f32) (col : Fin 4 → Fin 2048 → Fin 512 → EReal)
    (hz : ∀ b s j, z (ix3 b s j) = col b s j) :
    shapeCast S4x2048x4x128 z shapeCasts_S4x2048x512_S4x2048x4x128 = arr4 (valsOf col) := by
  funext i
  obtain ⟨b, s, h, d, rfl⟩ : ∃ (b : Fin 4) (s : Fin 2048) (h : Fin 4) (d : Fin 128), i = ix4 b s h d := ⟨i 0, i 1, i 2, i 3, eq_ix4 i⟩
  rw [cast4, hz]
  rfl

theorem idx_eq (z : FVec Ideal S4x2048x1024 .f32) (col : Fin 4 → Fin 2048 → Fin 1024 → EReal)
    (hz : ∀ b s j, z (ix3 b s j) = col b s j) :
    rSpinI (shapeCast S4x2048x16x64 z shapeCasts_S4x2048x1024_S4x2048x16x64) = arrI (idxOf col) := by
  funext i
  obtain ⟨b, s, h, d, rfl⟩ : ∃ (b : Fin 4) (s : Fin 2048) (h : Fin 16) (d : Fin 64), i = ix4 b s h d := ⟨i 0, i 1, i 2, i 3, eq_ix4 i⟩
  rw [rSpinI_apply]
  simp only [castI, hz]
  rfl

theorem key_eq (z : FVec Ideal S4x2048x64 .f32) (g : FVec Ideal S64 .f32) (col : Fin 4 → Fin 2048 → Fin 64 → EReal)
    (hz : ∀ b s j, z (ix3 b s j) = col b s j) :
    shapeCast S4x2048x64 (rSpinK (rNorm8 z g)) shapeCasts_S4x2048x1x64_S4x2048x64 = arrK (keyOf col g) := by
  funext i
  obtain ⟨b, s, d, rfl⟩ : ∃ (b : Fin 4) (s : Fin 2048) (d : Fin 64), i = ix3 b s d := ⟨i 0, i 1, i 2, eq_ix3 i⟩
  have e : shapeCast S4x2048x64 (rSpinK (rNorm8 z g)) shapeCasts_S4x2048x1x64_S4x2048x64 (ix3 b s d)
      = rSpinK (rNorm8 z g) (ix4 b s 0 d) := by
    generalize rSpinK (rNorm8 z g) = w
    pointwise
  rw [e, rSpinK_apply]
  simp only [rNorm8_apply, hz]
  rfl
end

end Cert.Prep

end
-- ==== Proof.PrepTab.lean ====
module
public import proofs.«01_k».proof.Proof.PrepRef
public import proofs.«01_k».proof.Proof.Gen.Kernel5Ideal.Launch

@[expose] public section
set_option maxRecDepth 16384
noncomputable section

/-! The kernel's tables of factors, element by element. -/

namespace Cert.Prep
open Cert.Kernel5Ideal Cert.Kernel5Ideal.Gen Idealize.ShloMosaic

/-- Three stretches of a table's lanes side by side. -/
abbrev stretches (a b : FVec Ideal S2048x16 .f32) (z : FVec Ideal S2048x96 .f32) : List ((s : Shape) × (s.Idx → EReal)) :=
  [⟨S2048x16, a⟩, ⟨S2048x16, b⟩, ⟨S2048x96, z⟩]
def beside (a b : FVec Ideal S2048x16 .f32) (z : FVec Ideal S2048x96 .f32) : FVec Ideal S2048x128 .f32 :=
  concatenate S2048x128 1 (stretches a b z) concatenates_S2048x16_S2048x16_S2048x96_S2048x128_d1

theorem beside_apply (a b : FVec Ideal S2048x16 .f32) (z : FVec Ideal S2048x96 .f32) (s : Fin 2048) (d : Fin 128) :
    beside a b z (ix2 s d) = if h : d.val < 16 then a (ix2 s ⟨d.val, h⟩)
      else if h' : d.val < 16 + 16 then b (ix2 s ⟨d.val - 16, by omega⟩) else z (ix2 s ⟨d.val - 32, by omega⟩) := by
  unfold beside
  by_cases h1 : d.val < 16
  · rw [dif_pos h1]
    refine concatenate_apply_piece (t := S2048x128) 1 (stretches a b z) _ _ 0 (by show 0 < 3; omega) S2048x16 _ rfl rfl 0 rfl
      (ix2 s (⟨d.val, h1⟩ : Fin 16)) ?_ (Nat.zero_add _)
    intro e he
    match e with
    | ⟨0, _⟩ => rfl
    | ⟨1, _⟩ => exact absurd rfl he
  · rw [dif_neg h1]
    by_cases h2 : d.val < 16 + 16
    · rw [dif_pos h2]
      refine concatenate_apply_piece (t := S2048x128) 1 (stretches a b z) _ _ 1 (by show 1 < 3; omega) S2048x16 _ rfl rfl 16 rfl
        (ix2 s (⟨d.val - 16, by omega⟩ : Fin 16)) ?_ (by show 16 + (d.val - 16) = d.val; omega)
      intro e he
      match e with
      | ⟨0, _⟩ => rfl
      | ⟨1, _⟩ => exact absurd rfl he
    · rw [dif_neg h2]
      refine concatenate_apply_piece (t := S2048x128) 1 (stretches a b z) _ _ 2 (by show 2 < 3; omega) S2048x96 _ rfl rfl 32 rfl
        (ix2 s (⟨d.val - 32, by omega⟩ : Fin 96)) ?_ (by show 32 + (d.val - 32) = d.val; omega)
      intro e he
      match e with
      | ⟨0, _⟩ => rfl
      | ⟨1, _⟩ => exact absurd rfl he

/-- The same of a half of the lanes. -/
abbrev stretchesI (a b : FVec Ideal S2048x8 .f32) (z : FVec Ideal S2048x48 .f32) : List ((s : Shape) × (s.Idx → EReal)) :=
  [⟨S2048x8, a⟩, ⟨S2048x8, b⟩, ⟨S2048x48, z⟩]
def besideI (a b : FVec Ideal S2048x8 .f32) (z : FVec Ideal S2048x48 .f32) : FVec Ideal S2048x64 .f32 :=
  concatenate S2048x64 1 (stretchesI a b z) concatenates_S2048x8_S2048x8_S2048x48_S2048x64_d1

theorem besideI_apply (a b : FVec Ideal S2048x8 .f32) (z : FVec Ideal S2048x48 .f32) (s : Fin 2048) (d : Fin 64) :
    besideI a b z (ix2 s d) = if h : d.val < 8 then a (ix2 s ⟨d.val, h⟩)
      else if h' : d.val < 8 + 8 then b (ix2 s ⟨d.val - 8, by omega⟩) else z (ix2 s ⟨d.val - 16, by omega⟩) := by
  unfold besideI
  by_cases h1 : d.val < 8
  · rw [dif_pos h1]
    refine concatenate_apply_piece (t := S2048x64) 1 (stretchesI a b z) _ _ 0 (by show 0 < 3; omega) S2048x8 _ rfl rfl 0 rfl
      (ix2 s (⟨d.val, h1⟩ : Fin 8)) ?_ (Nat.zero_add _)
    intro e he
    match e with
    | ⟨0, _⟩ => rfl
    | ⟨1, _⟩ => exact absurd rfl he
  · rw [dif_neg h1]
    by_cases h2 : d.val < 8 + 8
    · rw [dif_pos h2]
      refine concatenate_apply_piece (t := S2048x64) 1 (stretchesI a b z) _ _ 1 (by show 1 < 3; omega) S2048x8 _ rfl rfl 8 rfl
        (ix2 s (⟨d.val - 8, by omega⟩ : Fin 8)) ?_ (by show 8 + (d.val - 8) = d.val; omega)
      intro e he
      match e with
      | ⟨0, _⟩ => rfl
      | ⟨1, _⟩ => exact absurd rfl he
    · rw [dif_neg h2]
      refine concatenate_apply_piece (t := S2048x64) 1 (stretchesI a b z) _ _ 2 (by show 2 < 3; omega) S2048x48 _ rfl rfl 16 rfl
        (ix2 s (⟨d.val - 16, by omega⟩ : Fin 48)) ?_ (by show 16 + (d.val - 16) = d.val; omega)
      intro e he
      match e with
      | ⟨0, _⟩ => rfl
      | ⟨1, _⟩ => exact absurd rfl he

/-- Zeros and ones of the lanes that stay. -/
def zeros16 : FVec Ideal S2048x16 .f32 := broadcastInDim S2048x16 ![] bcast_S_S2048x16 (constant S_ .f32 0x00000000#32)
def zeros96 : FVec Ideal S2048x96 .f32 := broadcastInDim S2048x96 ![] bcast_S_S2048x96 (constant S_ .f32 0x00000000#32)
def ones96 : FVec Ideal S2048x96 .f32 :=
  addf zeros96 (broadcastInDim S2048x96 ![] bcast_S_S2048x96 (constant S_ .f32 0x3F800000#32))
def zeros8 : FVec Ideal S2048x8 .f32 := broadcastInDim S2048x8 ![] bcast_S_S2048x8 (constant S_ .f32 0x00000000#32)
def zeros48 : FVec Ideal S2048x48 .f32 := broadcastInDim S2048x48 ![] bcast_S_S2048x48 (constant S_ .f32 0x00000000#32)
def ones48 : FVec Ideal S2048x48 .f32 :=
  addf zeros48 (broadcastInDim S2048x48 ![] bcast_S_S2048x48 (constant S_ .f32 0x3F800000#32))

theorem zeros16_apply (s : Fin 2048) (d : Fin 16) : zeros16 (ix2 s d) = 0 := by
  pointwise [zeros16]
theorem zeros96_apply (s : Fin 2048) (d : Fin 96) : zeros96 (ix2 s d) = 0 := by
  pointwise [zeros96]
theorem ones96_apply (s : Fin 2048) (d : Fin 96) : ones96 (ix2 s d) = 1 := by
  pointwise [ones96]
  rw [zeros96_apply]
  exact zero_add _
theorem zeros8_apply (s : Fin 2048) (d : Fin 8) : zeros8 (ix2 s d) = 0 := by
  pointwise [zeros8]
theorem zeros48_apply (s : Fin 2048) (d : Fin 48) : zeros48 (ix2 s d) = 0 := by
  pointwise [zeros48]
theorem ones48_apply (s : Fin 2048) (d : Fin 48) : ones48 (ix2 s d) = 1 := by
  pointwise [ones48]
  rw [zeros48_apply]
  exact zero_add _

/-! ## The three factors -/

theorem own_eq (s : Fin 2048) (d : Fin 128) :
    beside (Host.cos angles) (Host.cos angles) ones96 (ix2 s d) = own (cosA s) d.val := by
  rw [beside_apply, own]
  simp only [ones96_apply]
  rfl
theorem before_eq (s : Fin 2048) (d : Fin 128) :
    beside zeros16 (Host.sin angles) zeros96 (ix2 s d) = before (sinA s) d.val := by
  rw [beside_apply, before]
  simp only [zeros16_apply, zeros96_apply]
  by_cases h : d.val < 16
  · rw [dif_pos h, if_pos h]
  · rw [dif_neg h, if_neg h]
    by_cases h' : d.val < 16 + 16
    · rw [dif_pos h', dif_pos ⟨not_lt.mp h, h'⟩]; rfl
    · rw [dif_neg h', dif_neg fun e => h' e.2]
theorem after_eq (s : Fin 2048) (d : Fin 128) :
    beside (Host.negf (Host.sin angles)) zeros16 zeros96 (ix2 s d) = after (sinA s) d.val := by
  rw [beside_apply, after]
  simp only [zeros16_apply, zeros96_apply, dite_eq_ite, ite_self]
  rfl

theorem ownI_eq (s : Fin 2048) (d : Fin 64) :
    besideI (Host.cos angles8) (Host.cos angles8) ones48 (ix2 s d) = own (cosI s) d.val := by
  rw [besideI_apply, own]
  simp only [ones48_apply]
  rfl
theorem beforeI_eq (s : Fin 2048) (d : Fin 64) :
    besideI zeros8 (Host.sin angles8) zeros48 (ix2 s d) = before (sinI s) d.val := by
  rw [besideI_apply, before]
  simp only [zeros8_apply, zeros48_apply]
  by_cases h : d.val < 8
  · rw [dif_pos h, if_pos h]
  · rw [dif_neg h, if_neg h]
    by_cases h' : d.val < 8 + 8
    · rw [dif_pos h', dif_pos ⟨not_lt.mp h, h'⟩]; rfl
    · rw [dif_neg h', dif_neg fun e => h' e.2]
theorem afterI_eq (s : Fin 2048) (d : Fin 64) :
    besideI (Host.negf (Host.sin angles8)) zeros8 zeros48 (ix2 s d) = after (sinI s) d.val := by
  rw [besideI_apply, after]
  simp only [zeros8_apply, zeros48_apply, dite_eq_ite, ite_self]
  rfl

/-! ## The tables, one above the other -/

/-- A table of 128 lanes laid under the heads, -/
def laid (p : FVec Ideal S2048x128 .f32) : FVec Ideal S1x2048x128 .f32 :=
  broadcastInDim S1x2048x128 ![1, 2] bcast_S2048x128_S1x2048x128_1_2
    (shapeCast S2048x128 (broadcastInDim S1x2048x1x128 ![0, 1, 2, 3] bcast_S1x2048x1x128_S1x2048x1x128_0_1_2_3
      (shapeCast S1x2048x1x128 p shapeCasts_S2048x128_S1x2048x1x128)) shapeCasts_S1x2048x1x128_S2048x128)
/-- and one of 64 laid twice. -/
def laidI (p : FVec Ideal S2048x64 .f32) : FVec Ideal S1x2048x128 .f32 :=
  broadcastInDim S1x2048x128 ![1, 2] bcast_S2048x128_S1x2048x128_1_2
    (shapeCast S2048x128 (broadcastInDim S1x2048x2x64 ![0, 1, 2, 3] bcast_S1x2048x1x64_S1x2048x2x64_0_1_2_3
      (shapeCast S1x2048x1x64 p shapeCasts_S2048x64_S1x2048x1x64)) shapeCasts_S1x2048x2x64_S2048x128)

theorem laid_apply (p : FVec Ideal S2048x128 .f32) (s : Fin 2048) (d : Fin 128) : laid p (ix3 0 s d) = p (ix2 s d) := by
  pointwise [laid]

theorem laidI_apply (p : FVec Ideal S2048x64 .f32) (s : Fin 2048) (j : Fin 2) (d : Fin 64) :
    laidI p (ix3 0 s ⟨64 * j.val + d.val, by omega⟩) = p (ix2 s d) := by
  pointwise [laidI]

/-- Three tables one above the other. -/
abbrev layers (p q r : FVec Ideal S1x2048x128 .f32) : List ((s : Shape) × (s.Idx → EReal)) :=
  [⟨S1x2048x128, p⟩, ⟨S1x2048x128, q⟩, ⟨S1x2048x128, r⟩]
def stack (p q r : FVec Ideal S1x2048x128 .f32) : FVec Ideal S3x2048x128 .f32 :=
  concatenate S3x2048x128 0 (layers p q r) concatenates_S1x2048x128_S1x2048x128_S1x2048x128_S3x2048x128_d0

theorem stack_apply (p q r : FVec Ideal S1x2048x128 .f32) (s : Fin 2048) (d : Fin 128) :
    stack p q r (ix3 0 s d) = p (ix3 0 s d) ∧ stack p q r (ix3 1 s d) = q (ix3 0 s d) ∧ stack p q r (ix3 2 s d) = r (ix3 0 s d) := by
  have ha : ∀ (k : Fin 3) (e : Fin 3), e ≠ 0 → ((ix3 (0 : Fin 1) s d : S1x2048x128.Idx) e).val = ((ix3 k s d : S3x2048x128.Idx) e).val := by
    intro k e he
    match e with
    | ⟨0, _⟩ => exact absurd rfl he
    | ⟨1, _⟩ => rfl
    | ⟨2, _⟩ => rfl
  unfold stack
  refine ⟨?_, ?_, ?_⟩
  · exact concatenate_apply_piece (t := S3x2048x128) 0 (layers p q r) _ _ 0 (by show 0 < 3; omega) S1x2048x128 _ rfl rfl 0 rfl
      (ix3 0 s d) (fun e he => ha 0 e he) rfl
  · exact concatenate_apply_piece (t := S3x2048x128) 0 (layers p q r) _ _ 1 (by show 1 < 3; omega) S1x2048x128 _ rfl rfl 1 rfl
      (ix3 0 s d) (fun e he => ha 1 e he) rfl
  · exact concatenate_apply_piece (t := S3x2048x128) 0 (layers p q r) _ _ 2 (by show 2 < 3; omega) S1x2048x128 _ rfl rfl 2 rfl
      (ix3 0 s d) (fun e he => ha 2 e he) rfl

/-- The heads' table. -/
def table : FVec Ideal S3x2048x128 .f32 :=
  stack (laid (beside (Host.cos angles) (Host.cos angles) ones96)) (laid (beside zeros16 (Host.sin angles) zeros96))
    (laid (beside (Host.negf (Host.sin angles)) zeros16 zeros96))
/-- The index heads' table. -/
def tableI : FVec Ideal S3x2048x128 .f32 :=
  stack (laidI (besideI (Host.cos angles8) (Host.cos angles8) ones48)) (laidI (besideI zeros8 (Host.sin angles8) zeros48))
    (laidI (besideI (Host.negf (Host.sin angles8)) zeros8 zeros48))

theorem table_at (s : Fin 2048) (d : Fin 128) : table (ix3 0 s d) = own (cosA s) d.val
    ∧ table (ix3 1 s d) = before (sinA s) d.val ∧ table (ix3 2 s d) = after (sinA s) d.val :=
  ⟨(stack_apply _ _ _ s d).1.trans ((laid_apply _ s d).trans (own_eq s d)),
    (stack_apply _ _ _ s d).2.1.trans ((laid_apply _ s d).trans (before_eq s d)),
    (stack_apply _ _ _ s d).2.2.trans ((laid_apply _ s d).trans (after_eq s d))⟩

theorem tableI_at (s : Fin 2048) (j : Fin 2) (d : Fin 64) :
    tableI (ix3 0 s ⟨64 * j.val + d.val, by omega⟩) = own (cosI s) d.val
    ∧ tableI (ix3 1 s ⟨64 * j.val + d.val, by omega⟩) = before (sinI s) d.val
    ∧ tableI (ix3 2 s ⟨64 * j.val + d.val, by omega⟩) = after (sinI s) d.val :=
  ⟨(stack_apply _ _ _ s _).1.trans ((laidI_apply _ s j d).trans (ownI_eq s d)),
    (stack_apply _ _ _ s _).2.1.trans ((laidI_apply _ s j d).trans (beforeI_eq s d)),
    (stack_apply _ _ _ s _).2.2.trans ((laidI_apply _ s j d).trans (afterI_eq s d))⟩

/-! ## The packed columns and the gains -/

/-- The packed columns' three groups. -/
abbrev packs (x : FVec Ideal S4x2048x2640 .f32) (y : FVec Ideal S4x2048x1536 .f32) : List ((s : Shape) × (s.Idx → EReal)) :=
  [⟨S4x2048x3456, broadcastInDim S4x2048x3456 ![] bcast_S_S4x2048x3456 (constant (F := Ideal) S_ .f32 0x00000000#32)⟩,
    ⟨S4x2048x2688, pad S4x2048x2688 ![0, 0, 0] ![0, 0, 48] ![0, 0, 0] x (sitofp (F := Ideal) .f32 (constantI S_ 32 0#32))
      pads_S4x2048x2640_S4x2048x2688_000_000_0480 h_S_⟩,
    ⟨S4x2048x1536, y⟩]
def columns (x : FVec Ideal S4x2048x2640 .f32) (y : FVec Ideal S4x2048x1536 .f32) : FVec Ideal S4x2048x7680 .f32 :=
  concatenate S4x2048x7680 2 (packs x y) concatenates_S4x2048x3456_S4x2048x2688_S4x2048x1536_S4x2048x7680_d2

theorem columns_a (x : FVec Ideal S4x2048x2640 .f32) (y : FVec Ideal S4x2048x1536 .f32) (b : Fin 4) (s : Fin 2048) (j : Fin 2640) :
    columns x y (ix3 b s ⟨3456 + j.val, by omega⟩) = x (ix3 b s j) := by
  unfold columns
  refine (concatenate_apply_piece (t := S4x2048x7680) 2 (packs x y) _ _ 1 (by show 1 < 3; omega) S4x2048x2688 _ rfl rfl 3456 rfl
    (ix3 b s (⟨j.val, by omega⟩ : Fin 2688)) ?_ ?_).trans ?_
  · intro a ha
    match a with
    | ⟨0, _⟩ => rfl
    | ⟨1, _⟩ => rfl
    | ⟨2, _⟩ => exact absurd rfl ha
  · rfl
  · pointwise
theorem columns_b (x : FVec Ideal S4x2048x2640 .f32) (y : FVec Ideal S4x2048x1536 .f32) (b : Fin 4) (s : Fin 2048) (j : Fin 1536) :
    columns x y (ix3 b s ⟨6144 + j.val, by omega⟩) = y (ix3 b s j) := by
  unfold columns
  refine concatenate_apply_piece (t := S4x2048x7680) 2 (packs x y) _ _ 2 (by show 2 < 3; omega) S4x2048x1536 _ rfl rfl 6144 rfl
    (ix3 b s j) ?_ ?_
  · intro a ha
    match a with
    | ⟨0, _⟩ => rfl
    | ⟨1, _⟩ => rfl
    | ⟨2, _⟩ => exact absurd rfl ha
  · rfl

/-- One gain as a row, -/
def gainRow (g : FVec Ideal S128 .f32) : FVec Ideal S1x128 .f32 := broadcastInDim S1x128 ![1] bcast_S128_S1x128_1 g
theorem gainRow_apply (g : FVec Ideal S128 .f32) (e : Fin 128) : gainRow g (ix2 0 e) = g (ix1 e) := by
  pointwise [gainRow]
/-- the index key's with zeros after it, -/
def longer (g : FVec Ideal S64 .f32) : FVec Ideal S128 .f32 :=
  pad S128 ![0] ![64] ![0] g (sitofp (F := Ideal) .f32 (constantI S_ 32 0#32)) pads_S64_S128_0640 h_S_
theorem longer_apply (g : FVec Ideal S64 .f32) (e : Fin 64) : longer g (ix1 ⟨e.val, by omega⟩) = g (ix1 e) := by
  pointwise [longer]
/-- and the rows one above the other. -/
abbrev gainRows (g2 g3 g5 g6 : FVec Ideal S128 .f32) (g4 : FVec Ideal S64 .f32) : List ((s : Shape) × (s.Idx → EReal)) :=
  let z := gainRow (broadcastInDim S128 ![] bcast_S_S128 (constant (F := Ideal) S_ .f32 0x00000000#32))
  [⟨S1x128, gainRow g2⟩, ⟨S1x128, gainRow g3⟩, ⟨S1x128, gainRow g5⟩, ⟨S1x128, gainRow g6⟩, ⟨S1x128, gainRow (longer g4)⟩,
    ⟨S1x128, z⟩, ⟨S1x128, z⟩, ⟨S1x128, z⟩]
def gains (g2 g3 g5 g6 : FVec Ideal S128 .f32) (g4 : FVec Ideal S64 .f32) : FVec Ideal S8x128 .f32 :=
  concatenate S8x128 0 (gainRows g2 g3 g5 g6 g4) concatenates_S1x128_S1x128_S1x128_S1x128_S1x128_S1x128_S1x128_S1x128_S8x128_d0

theorem gains_at (g2 g3 g5 g6 : FVec Ideal S128 .f32) (g4 : FVec Ideal S64 .f32) :
    (∀ e : Fin 128, gains g2 g3 g5 g6 g4 (ix2 0 e) = g2 (ix1 e)) ∧ (∀ e : Fin 128, gains g2 g3 g5 g6 g4 (ix2 1 e) = g3 (ix1 e))
    ∧ (∀ e : Fin 128, gains g2 g3 g5 g6 g4 (ix2 2 e) = g5 (ix1 e)) ∧ (∀ e : Fin 128, gains g2 g3 g5 g6 g4 (ix2 3 e) = g6 (ix1 e))
    ∧ (∀ e : Fin 64, gains g2 g3 g5 g6 g4 (ix2 4 ⟨e.val, by omega⟩) = g4 (ix1 e)) := by
  have ha : ∀ (k : Fin 8) (d : Fin 128) (e : Fin 2), e ≠ 0 → ((ix2 (0 : Fin 1) d : S1x128.Idx) e).val = ((ix2 k d : S8x128.Idx) e).val := by
    intro k d e he
    match e with
    | ⟨0, _⟩ => exact absurd rfl he
    | ⟨1, _⟩ => rfl
  unfold gains
  refine ⟨fun e => ?_, fun e => ?_, fun e => ?_, fun e => ?_, fun e => ?_⟩
  · exact (concatenate_apply_piece (t := S8x128) 0 (gainRows g2 g3 g5 g6 g4) _ _ 0 (by show 0 < 8; omega) S1x128 _ rfl rfl 0 rfl
      (ix2 0 e) (fun a h => ha 0 e a h) rfl).trans (gainRow_apply g2 e)
  · exact (concatenate_apply_piece (t := S8x128) 0 (gainRows g2 g3 g5 g6 g4) _ _ 1 (by show 1 < 8; omega) S1x128 _ rfl rfl 1 rfl
      (ix2 0 e) (fun a h => ha 1 e a h) rfl).trans (gainRow_apply g3 e)
  · exact (concatenate_apply_piece (t := S8x128) 0 (gainRows g2 g3 g5 g6 g4) _ _ 2 (by show 2 < 8; omega) S1x128 _ rfl rfl 2 rfl
      (ix2 0 e) (fun a h => ha 2 e a h) rfl).trans (gainRow_apply g5 e)
  · exact (concatenate_apply_piece (t := S8x128) 0 (gainRows g2 g3 g5 g6 g4) _ _ 3 (by show 3 < 8; omega) S1x128 _ rfl rfl 3 rfl
      (ix2 0 e) (fun a h => ha 3 e a h) rfl).trans (gainRow_apply g6 e)
  · exact (concatenate_apply_piece (t := S8x128) 0 (gainRows g2 g3 g5 g6 g4) _ _ 4 (by show 4 < 8; omega) S1x128 _ rfl rfl 4 rfl
      (ix2 0 ⟨e.val, by omega⟩) (fun a h => ha 4 ⟨e.val, by omega⟩ a h) rfl).trans
      ((gainRow_apply (longer g4) ⟨e.val, by omega⟩).trans (longer_apply g4 e))

end Cert.Prep

end
-- ==== Proof.PrepHost.lean ====
module
public import proofs.«01_k».proof.Proof.PrepRun
public import proofs.«01_k».proof.Proof.PrepTab
public import Idealize.ShloMosaic.Lib.Tactic
public import Idealize.ShloMosaic.Lib.Pipeline.Value

@[expose] public section
set_option maxRecDepth 16384
noncomputable section

/-! What the head preparation's kernel finds in its input arrays and in their blocks. -/

namespace Cert.Prep
open Cert.Kernel5Ideal Cert.Kernel5Ideal.Gen Idealize.ShloMosaic Idealize.ShloMosaic.TcCoe Idealize.SL.Sem

variable (m : (ℓ : Loc nD τ sig) → Buf (Elt Ideal) ℓ) (c : Dev nD)

/-- The arguments as launched. -/
abbrev pas : FVec Ideal S4x2048x2640 .f32 := m ((c.tc : Thread nD τ).loc main_arg0)
abbrev pbs : FVec Ideal S4x2048x1536 .f32 := m ((c.tc : Thread nD τ).loc main_arg1)
abbrev gain2 : FVec Ideal S128 .f32 := m ((c.tc : Thread nD τ).loc main_arg2)
abbrev gain3 : FVec Ideal S128 .f32 := m ((c.tc : Thread nD τ).loc main_arg3)
abbrev gain4 : FVec Ideal S64 .f32 := m ((c.tc : Thread nD τ).loc main_arg4)
abbrev gain5 : FVec Ideal S128 .f32 := m ((c.tc : Thread nD τ).loc main_arg5)
abbrev gain6 : FVec Ideal S128 .f32 := m ((c.tc : Thread nD τ).loc main_arg6)

theorem columns_in : V m c main_v87 = shapeCast S8192x7680 (columns (pas m c) (pbs m c)) shapeCasts_S4x2048x7680_S8192x7680 := by
  unfold V V0
  simp only [hostOps0, hostOps0_1, hostOps0_2, hostOps0_3, hostOps0_4, List.flatten_cons, List.flatten_nil,
    List.append_nil, List.cons_append, List.nil_append]
  after_results
  rfl

theorem gains_in : V m c main_v13 = gains (gain2 m c) (gain3 m c) (gain5 m c) (gain6 m c) (gain4 m c) := by
  unfold V V0
  simp only [hostOps0, hostOps0_1, hostOps0_2, hostOps0_3, hostOps0_4, List.flatten_cons, List.flatten_nil,
    List.append_nil, List.cons_append, List.nil_append]
  after_results
  rfl

theorem table_in : V m c main_v50 = table := by
  unfold V V0
  simp only [hostOps0, hostOps0_1, hostOps0_2, hostOps0_3, hostOps0_4, List.flatten_cons, List.flatten_nil,
    List.append_nil, List.cons_append, List.nil_append]
  after_results
  rfl

theorem tableI_in : V m c main_v86 = tableI := by
  unfold V V0
  simp only [hostOps0, hostOps0_1, hostOps0_2, hostOps0_3, hostOps0_4, List.flatten_cons, List.flatten_nil,
    List.append_nil, List.cons_append, List.nil_append]
  after_results
  rfl

/-- Where each window's block lies at a grid point. -/
theorem tiles : ∀ t : Fin cfg0.N,
    (win0_0.index t (0 : Fin 2) = t.val ∧ win0_0.index t (1 : Fin 2) = 0)
    ∧ (win0_1.index t (0 : Fin 3) = 0 ∧ win0_1.index t (1 : Fin 3) = t.val % 8 ∧ win0_1.index t (2 : Fin 3) = 0)
    ∧ (win0_2.index t (0 : Fin 3) = 0 ∧ win0_2.index t (1 : Fin 3) = t.val % 8 ∧ win0_2.index t (2 : Fin 3) = 0)
    ∧ (win0_3.index t (0 : Fin 2) = 0 ∧ win0_3.index t (1 : Fin 2) = 0) :=
  (by decide +kernel : ∀ t : Fin grid0.N, _)

/-- A whole row of the packed columns. -/
def wide (b : Fin 4) (s : Fin 2048) (J : Fin 7680) : EReal := columns (pas m c) (pbs m c) (ix3 b s J)

theorem block_p (t : Fin cfg0.N) (b : Fin 4) (s : Fin 2048) (r : Fin 256) (J : Fin 7680)
    (hR : 2048 * b.val + s.val = 256 * t.val + r.val) : iblk m c 0 t (ix2 r J) = wide m c b s J := by
  unfold iblk
  rw [View.read_apply]
  have e : V m c main_v87 (ix2 (⟨2048 * b.val + s.val, by omega⟩ : Fin 8192) J) = wide m c b s J := by
    rw [columns_in, wide]
    generalize columns (pas m c) (pbs m c) = z
    pointwise
  refine Eq.trans ?_ e
  show V m c main_v87 _ = _
  congr 1
  funext a
  apply Fin.ext
  have h := (tiles t).1
  match a with
  | ⟨0, _⟩ => show win0_0.index t 0 * 256 + 1 * r.val = 2048 * b.val + s.val; omega
  | ⟨1, _⟩ => show win0_0.index t 1 * 7680 + 1 * J.val = J.val; omega

theorem block_tab (t : Fin cfg0.N) (b : Fin 4) (s : Fin 2048) (k : Fin 3) (r : Fin 256) (d : Fin 128)
    (hR : 2048 * b.val + s.val = 256 * t.val + r.val) : iblk m c 1 t (ix3 k r d) = table (ix3 k s d) := by
  unfold iblk
  rw [View.read_apply]
  show V m c main_v50 _ = _
  rw [table_in]
  congr 1
  funext a
  apply Fin.ext
  have h := (tiles t).2.1
  match a with
  | ⟨0, _⟩ => show win0_1.index t 0 * 3 + 1 * k.val = k.val; omega
  | ⟨1, _⟩ => show win0_1.index t 1 * 256 + 1 * r.val = s.val; omega
  | ⟨2, _⟩ => show win0_1.index t 2 * 128 + 1 * d.val = d.val; omega

theorem block_tabI (t : Fin cfg0.N) (b : Fin 4) (s : Fin 2048) (k : Fin 3) (r : Fin 256) (d : Fin 128)
    (hR : 2048 * b.val + s.val = 256 * t.val + r.val) : iblk m c 2 t (ix3 k r d) = tableI (ix3 k s d) := by
  unfold iblk
  rw [View.read_apply]
  show V m c main_v86 _ = _
  rw [tableI_in]
  congr 1
  funext a
  apply Fin.ext
  have h := (tiles t).2.2.1
  match a with
  | ⟨0, _⟩ => show win0_2.index t 0 * 3 + 1 * k.val = k.val; omega
  | ⟨1, _⟩ => show win0_2.index t 1 * 256 + 1 * r.val = s.val; omega
  | ⟨2, _⟩ => show win0_2.index t 2 * 128 + 1 * d.val = d.val; omega

theorem block_g (t : Fin cfg0.N) (k : Fin 8) (e : Fin 128) : iblk m c 3 t (ix2 k e)
    = gains (gain2 m c) (gain3 m c) (gain5 m c) (gain6 m c) (gain4 m c) (ix2 k e) := by
  unfold iblk
  rw [View.read_apply]
  show V m c main_v13 _ = _
  rw [gains_in]
  congr 1
  funext a
  apply Fin.ext
  have h := (tiles t).2.2.2
  match a with
  | ⟨0, _⟩ => show win0_3.index t 0 * 8 + 1 * k.val = k.val; omega
  | ⟨1, _⟩ => show win0_3.index t 1 * 128 + 1 * e.val = e.val; omega

end Cert.Prep

end
-- ==== Proof.PrepPay.lean ====
module
public import proofs.«01_k».proof.Proof.PrepPure
public import proofs.«01_k».proof.Proof.PrepRun
public import Idealize.ShloMosaic.Lib.Pointwise
public import Idealize.ShloMosaic.Lib.KernelVsHost
public import Idealize.ShloMosaic.Lib.Pipeline.Value
public import Idealize.ShloMosaic.Lib.Pipeline.ValueKit.Tiles

@[expose] public section
set_option maxRecDepth 16384
noncomputable section

/-! What the head preparation's body stores, element by element. -/

namespace Cert.Prep
open Cert.Kernel5Ideal Cert.Kernel5Ideal.Gen Idealize.ShloMosaic

/-- The mean's divisor of a head, 128, and of the index key, 64. -/
abbrev w128 : EReal := Ideal.ofBits FTy.f32 0x43000000#32
abbrev w64 : EReal := Ideal.ofBits FTy.f32 0x42800000#32

theorem normed_apply (x : Vec Ideal S256x128 .f32) (g : Vec Ideal S1x128 .f32) (r : Fin 256) (d : Fin 128) :
    normed (F := Ideal) x g (ix2 r d) = nrm w128 (fun k => x (ix2 r k)) (fun k => g (ix2 0 k)) d := by
  pointwise [normed]
  rfl

/-- A row's rotation by `n` places. -/
theorem rolled (p : BitVec 32) (n : ℕ) (hp : p.toNat % 128 = n) (y : FVec Ideal S256x128 .f32) (r : Fin 256) (d : Fin 128) :
    dynamicRotate 1 p none y rotates_S256x128_d1 (ix2 r d)
      = y (ix2 r ⟨(d.val + 128 - n) % 128, Nat.mod_lt _ (by decide)⟩) :=
  dynamicRotate_apply (1 : Fin 2) p y rotates_S256x128_d1 _ _ (fun b => by
    match b with
    | ⟨0, _⟩ => rfl
    | ⟨1, _⟩ => show (d.val + 128 - n) % 128 = (d.val + 128 - p.toNat % 128) % 128; rw [hp])

theorem turned_apply (p q : BitVec 32) (n k : ℕ) (hp : p.toNat % 128 = n) (hq : q.toNat % 128 = k)
    (y : FVec Ideal S256x128 .f32) (t0 t1 t2 : Vec Ideal S1x256x128 .f32) (r : Fin 256) (d : Fin 128) :
    turned (F := Ideal) p q y t0 t1 t2 (ix2 r d) = y (ix2 r d) * t0 (ix3 0 r d)
      + y (ix2 r ⟨(d.val + 128 - n) % 128, Nat.mod_lt _ (by decide)⟩) * t1 (ix3 0 r d)
      + y (ix2 r ⟨(d.val + 128 - k) % 128, Nat.mod_lt _ (by decide)⟩) * t2 (ix3 0 r d) := by
  rw [← rolled p n hp y r d, ← rolled q k hq y r d]
  have e : ∀ t : Vec Ideal S1x256x128 .f32, shapeCast S256x128 t shapeCasts_S1x256x128_S256x128 (ix2 r d) = t (ix3 0 r d) := by
    intro t; pointwise
  rw [← e t0, ← e t1, ← e t2]
  rfl

theorem isKey_apply (r : Fin 256) (d : Fin 128) : isKey (ix2 r d) = if d.val < 64 then 1#1 else 0#1 := by
  have e : isKey (ix2 r d) = BitVec.ofBool (BitVec.slt (BitVec.ofNat 32 d.val) 64#32) := by
    pointwise [isKey]
    rfl
  rw [e]
  clear e
  revert d; decide

theorem sum_key (f : Fin 128 → EReal) : (∑ k : Fin 128, if k.val < 64 then f k else 0) = ∑ k : Fin 64, f ⟨k.val, by omega⟩ := by
  refine (Fin.sum_univ_add (a := 64) (b := 64) fun k : Fin 128 => if k.val < 64 then f k else 0).trans ?_
  have h2 : (∑ k : Fin 64, (fun k : Fin 128 => if k.val < 64 then f k else 0) (Fin.natAdd 64 k)) = 0 :=
    Finset.sum_eq_zero fun k _ => if_neg (by show ¬ (64 + k.val < 64); omega)
  rw [h2, add_zero]
  exact Finset.sum_congr rfl fun k _ => if_pos k.isLt

/-- A multiplication by the 64th part is the division by 64. -/
theorem part64 (a : EReal) : a * Ideal.ofBits FTy.f32 0x3C800000#32 = Ideal.div a w64 := by
  have h1 : Ideal.ofBits FTy.f32 0x3C800000#32 = (((1 : ℝ) / 64 : ℝ) : EReal) := by
    simp [Ideal.ofBits, Ideal.ieee, -EReal.coe_mul]; norm_num
  have h2 : w64 = ((64 : ℝ) : EReal) := by
    simp [w64, Ideal.ofBits, Ideal.ieee, -EReal.coe_mul]; norm_num
  rw [h1, h2, Ideal.div, if_neg (by exact_mod_cast (by norm_num : (64 : ℝ) ≠ 0)), ← EReal.coe_inv]
  norm_num

theorem keyed_apply (x : Vec Ideal S256x128 .f32) (g : Vec Ideal S1x128 .f32) (r : Fin 256) (d : Fin 64) :
    keyed (F := Ideal) x g (ix2 r ⟨d.val, by omega⟩)
      = nrm w64 (fun k : Fin 64 => x (ix2 r ⟨k.val, by omega⟩)) (fun k => g (ix2 0 ⟨k.val, by omega⟩)) d := by
  pointwise [keyed]
  have hs : (∑ k : Fin 128, Scalar.select (isKey (ix2 r k)) (x (ix2 r k) * x (ix2 r k)) (0 : EReal))
      = ∑ k : Fin 64, x (ix2 r ⟨k.val, by omega⟩) * x (ix2 r ⟨k.val, by omega⟩) := by
    refine Eq.trans (Finset.sum_congr rfl fun k _ => ?_) (sum_key fun k => x (ix2 r k) * x (ix2 r k))
    rw [isKey_apply]
    by_cases hk : k.val < 64
    · rw [if_pos hk, if_pos hk]; rfl
    · rw [if_neg hk, if_neg hk]; rfl
  refine congrArg (· * g (ix2 0 ⟨d.val, by omega⟩)) (congrArg (fun z => x (ix2 r ⟨d.val, by omega⟩) * Ideal.rsqrt (z + _)) ?_)
  exact (congrArg (· * _) hs).trans (part64 _)

section
variable (x0 : Vec Ideal S256x7680 .f32) (x1 : Vec Ideal S3x256x128 .f32) (x3 : Vec Ideal S8x128 .f32)

theorem cols_apply (o : ℕ) (ho : o + 128 ≤ 7680) (r : Fin 256) (e : Fin 128) :
    View.ld x0 (colsAt o ho) (ix2 r e) = x0 (ix2 r ⟨o + e.val, by omega⟩) :=
  View.ld_unit_apply_of x0 _ _ _ (ix2 r e) (ix2 r ⟨o + e.val, by omega⟩) (fun a => by
    match a with
    | ⟨0, _⟩ => exact (Nat.zero_add _).symm
    | ⟨1, _⟩ => rfl)

theorem gain_apply (k : Fin 8) (e : Fin 128) : View.ld x3 (gainAt k) (ix2 0 e) = x3 (ix2 k e) :=
  View.ld_unit_apply_of x3 _ _ _ (ix2 0 e) (ix2 k e) (fun a => by
    match a with
    | ⟨0, _⟩ => rfl
    | ⟨1, _⟩ => exact (Nat.zero_add _).symm)

theorem table_apply (k : Fin 3) (r : Fin 256) (e : Fin 128) : View.ld x1 (tableAt k) (ix3 0 r e) = x1 (ix3 k r e) :=
  View.ld_unit_apply_of x1 _ _ _ (ix3 0 r e) (ix3 k r e) (fun a => by
    match a with
    | ⟨0, _⟩ => rfl
    | ⟨1, _⟩ => exact (Nat.zero_add _).symm
    | ⟨2, _⟩ => exact (Nat.zero_add _).symm)

/-- A head, where the tables' row holds the factors of `c` and `s`. -/
theorem headPay_apply (b : ℕ) (hb : b + 512 ≤ 7680) (k : Fin 8) (h : Fin 4) (r : Fin 256) (d : Fin 128) (c s : Fin 16 → EReal)
    (h0 : x1 (ix3 0 r d) = own c d.val) (h1 : x1 (ix3 1 r d) = before s d.val) (h2 : x1 (ix3 2 r d) = after s d.val) :
    headPay x0 x1 x3 b hb k h (ix2 r d) = spin (by omega : 16 + 16 ≤ 128)
      (nrm w128 (fun e => x0 (ix2 r ⟨b + 128 * h.val + e.val, by omega⟩)) (fun e => x3 (ix2 k e))) c s d := by
  unfold headPay
  rw [turned_apply _ _ 16 112 rfl rfl, table_apply, table_apply, table_apply, h0, h1, h2]
  rw [normed_apply, normed_apply, normed_apply, show (fun k => View.ld x0 (colsAt (b + 128 * h.val) (by omega)) (ix2 r k))
      = fun e : Fin 128 => x0 (ix2 r ⟨b + 128 * h.val + e.val, by omega⟩) from funext fun e => cols_apply x0 _ _ r e,
    show (fun e => View.ld x3 (gainAt k) (ix2 0 e)) = fun e => x3 (ix2 k e) from funext fun e => gain_apply x3 k e]
  refine spin_eq (by omega : 16 + 16 ≤ 128) (nrm w128 (fun e => x0 (ix2 r ⟨b + 128 * h.val + e.val, by omega⟩)) (fun e => x3 (ix2 k e)))
    c s d _ _ (fun hd => ?_) (fun hd => ?_)
  · exact congrArg _ (Fin.ext (by show (d.val + 128 - 16) % 128 = d.val - 16; omega))
  · exact congrArg _ (Fin.ext (by show (d.val + 128 - 112) % 128 = 16 + d.val; omega))

theorem valPay_apply (b : ℕ) (hb : b + 512 ≤ 7680) (h : Fin 4) (r : Fin 256) (d : Fin 128) :
    valPay x0 b hb h (ix2 r d) = x0 (ix2 r ⟨b + 128 * h.val + d.val, by omega⟩) := by
  unfold valPay
  rw [← cols_apply x0 (b + 128 * h.val) (by omega)]
  generalize View.ld x0 (colsAt (b + 128 * h.val) (by omega)) = z
  pointwise

/-- One of the two index heads of a pair. -/
theorem idxPay_apply (h : Fin 8) (j : Fin 2) (r : Fin 256) (d : Fin 64) (c s : Fin 8 → EReal)
    (h0 : x1 (ix3 0 r ⟨64 * j.val + d.val, by omega⟩) = own c d.val)
    (h1 : x1 (ix3 1 r ⟨64 * j.val + d.val, by omega⟩) = before s d.val)
    (h2 : x1 (ix3 2 r ⟨64 * j.val + d.val, by omega⟩) = after s d.val) :
    idxPay x0 x1 h (ix2 r ⟨64 * j.val + d.val, by omega⟩) = spin (by omega : 8 + 8 ≤ 64)
      (fun e => x0 (ix2 r ⟨4992 + 128 * h.val + 64 * j.val + e.val, by omega⟩)) c s d := by
  unfold idxPay
  have hz : ∀ e : Fin 128, shapeCast S256x128 (View.ld x0 (colsAt (4992 + 128 * h.val) (by omega))) shapeCasts_S256x128_S256x128 (ix2 r e)
      = x0 (ix2 r ⟨4992 + 128 * h.val + e.val, by omega⟩) := by
    intro e
    rw [← cols_apply x0 (4992 + 128 * h.val) (by omega)]
    generalize View.ld x0 (colsAt (4992 + 128 * h.val) (by omega)) = z
    pointwise
  rw [turned_apply _ _ 8 120 rfl rfl, table_apply, table_apply, table_apply, h0, h1, h2]
  simp only [hz]
  rw [show (⟨4992 + 128 * h.val + (64 * j.val + d.val), by omega⟩ : Fin 7680) = ⟨4992 + 128 * h.val + 64 * j.val + d.val, by omega⟩
    from Fin.ext (by show 4992 + 128 * h.val + (64 * j.val + d.val) = 4992 + 128 * h.val + 64 * j.val + d.val; omega)]
  refine spin_eq (by omega : 8 + 8 ≤ 64) (fun e => x0 (ix2 r ⟨4992 + 128 * h.val + 64 * j.val + e.val, by omega⟩)) c s d _ _
    (fun hd => ?_) (fun hd => ?_)
  · refine congrArg x0 (congrArg (ix2 r) (Fin.ext ?_))
    show 4992 + 128 * h.val + (64 * j.val + d.val + 128 - 8) % 128 = 4992 + 128 * h.val + 64 * j.val + (d.val - 8)
    omega
  · refine congrArg x0 (congrArg (ix2 r) (Fin.ext ?_))
    show 4992 + 128 * h.val + (64 * j.val + d.val + 128 - 120) % 128 = 4992 + 128 * h.val + 64 * j.val + (8 + d.val)
    omega

/-- The index key. -/
theorem keyPay_key (r : Fin 256) (d : Fin 64) (c s : Fin 8 → EReal)
    (h0 : x1 (ix3 0 r ⟨d.val, by omega⟩) = own c d.val) (h1 : x1 (ix3 1 r ⟨d.val, by omega⟩) = before s d.val)
    (h2 : x1 (ix3 2 r ⟨d.val, by omega⟩) = after s d.val) :
    keyPay x0 x1 x3 (ix2 r ⟨d.val, by omega⟩) = spin (by omega : 8 + 8 ≤ 64)
      (nrm w64 (fun e : Fin 64 => x0 (ix2 r ⟨6016 + e.val, by omega⟩)) (fun e => x3 (ix2 4 ⟨e.val, by omega⟩))) c s d := by
  have hd64 : isKey (ix2 r (⟨d.val, by omega⟩ : Fin 128)) = 1#1 := (isKey_apply r _).trans (if_pos d.isLt)
  have e : keyPay x0 x1 x3 (ix2 r ⟨d.val, by omega⟩)
      = turned (F := Ideal) 8#32 120#32 (keyed (View.ld x0 (colsAt 6016 (by omega))) (View.ld x3 (gainAt 4)))
        (View.ld x1 (tableAt 0)) (View.ld x1 (tableAt 1)) (View.ld x1 (tableAt 2)) (ix2 r ⟨d.val, by omega⟩) := by
    unfold keyPay
    show Scalar.select (isKey _) _ _ = _
    rw [hd64]
    rfl
  rw [e, turned_apply _ _ 8 120 rfl rfl, table_apply, table_apply, table_apply, h0, h1, h2]
  have hk : ∀ e : Fin 64, keyed (F := Ideal) (View.ld x0 (colsAt 6016 (by omega))) (View.ld x3 (gainAt 4)) (ix2 r ⟨e.val, by omega⟩)
      = nrm w64 (fun e : Fin 64 => x0 (ix2 r ⟨6016 + e.val, by omega⟩)) (fun e => x3 (ix2 4 ⟨e.val, by omega⟩)) e := by
    intro e
    rw [keyed_apply, show (fun k : Fin 64 => View.ld x0 (colsAt 6016 (by omega)) (ix2 r ⟨k.val, by omega⟩))
        = fun e : Fin 64 => x0 (ix2 r ⟨6016 + e.val, by omega⟩) from funext fun k => cols_apply x0 _ _ r _,
      show (fun k : Fin 64 => View.ld x3 (gainAt 4) (ix2 0 ⟨k.val, by omega⟩)) = fun e : Fin 64 => x3 (ix2 4 ⟨e.val, by omega⟩)
        from funext fun k => gain_apply x3 4 _]
  rw [hk]
  refine spin_eq (by omega : 8 + 8 ≤ 64)
    (nrm w64 (fun e : Fin 64 => x0 (ix2 r ⟨6016 + e.val, by omega⟩)) (fun e => x3 (ix2 4 ⟨e.val, by omega⟩)))
    c s d _ _ (fun hd => ?_) (fun hd => ?_)
  · refine Eq.trans (congrArg _ (congrArg (ix2 r) (Fin.ext ?_))) (hk ⟨d.val - 8, by omega⟩)
    · show (d.val + 128 - 8) % 128 = d.val - 8; omega
  · refine Eq.trans (congrArg _ (congrArg (ix2 r) (Fin.ext ?_))) (hk ⟨8 + d.val, by omega⟩)
    · show (d.val + 128 - 120) % 128 = 8 + d.val; omega

/-- The index weights. -/
theorem keyPay_weight (r : Fin 256) (d : Fin 64) :
    keyPay x0 x1 x3 (ix2 r ⟨64 + d.val, by omega⟩)
      = x0 (ix2 r ⟨6080 + d.val, by omega⟩) * Ideal.ofBits FTy.f32 0x3D000000#32 := by
  have hd64 : isKey (ix2 r (⟨64 + d.val, by omega⟩ : Fin 128)) = 0#1 :=
    (isKey_apply r _).trans (if_neg (by show ¬ 64 + d.val < 64; omega))
  have e : keyPay x0 x1 x3 (ix2 r ⟨64 + d.val, by omega⟩)
      = shapeCast S256x128 (View.ld x0 (colsAt 6016 (by omega))) shapeCasts_S256x128_S256x128 (ix2 r ⟨64 + d.val, by omega⟩)
        * Ideal.ofBits FTy.f32 0x3D000000#32 := by
    unfold keyPay
    show Scalar.select (isKey _) _ _ = _
    rw [hd64]
    rfl
  rw [e]
  have hz : x0 (ix2 r ⟨6080 + d.val, by omega⟩) = View.ld x0 (colsAt 6016 (by omega)) (ix2 r ⟨64 + d.val, by omega⟩) := by
    rw [cols_apply]
    exact congrArg x0 (congrArg (ix2 r) (Fin.ext (by show 6080 + d.val = 6016 + (64 + d.val); omega)))
  rw [hz]
  generalize View.ld x0 (colsAt 6016 (by omega)) = z
  pointwise
end

/-! ## The buffers -/

theorem sides_eq (p : Fin 4 → FVec Ideal S256x128 .f32) (T : Vec Ideal S256x512 .f32)
    (hT : ∀ (h : Fin 4) (r : Fin 256) (d : Fin 128), p h (ix2 r d) = T (ix2 r ⟨128 * h.val + d.val, by omega⟩)) : sides p = T := by
  funext y
  have key : ∀ (h : Fin 4) (off : Fin 2 → ℕ) (inb) (h0 : off 0 = 0) (h1 : off 1 = 128 * h.val)
      (x : S256x128.Idx), p h x = T ((Rect.unit (s := S256x512) off S256x128.size inb).emb x) := by
    intro h off inb h0 h1 x
    obtain ⟨r, d, rfl⟩ : ∃ (r : Fin 256) (d : Fin 128), x = ix2 r d := ⟨x 0, x 1, eq_ix2 x⟩
    rw [hT]
    refine congrArg T (funext fun a => Fin.ext ?_)
    match a with
    | ⟨0, _⟩ => show r.val = off 0 + 1 * r.val; omega
    | ⟨1, _⟩ => show 128 * h.val + d.val = off 1 + 1 * d.val; omega
  refine View.canon_apply_of_pieces T _ ?_ y (sides_cover _ _ _ _ y)
  intro q hq x
  simp only [List.mem_cons, List.not_mem_nil, or_false] at hq
  rcases hq with rfl | rfl | rfl | rfl
  · exact key 3 _ inb_S256x512_S256x128_0_384 rfl rfl x
  · exact key 2 _ inb_S256x512_S256x128_0_256 rfl rfl x
  · exact key 1 _ inb_S256x512_S256x128_0_128 rfl rfl x
  · exact key 0 _ inb_S256x512_S256x128_0_0 rfl rfl x

theorem pairs_eq (p : Fin 8 → FVec Ideal S256x128 .f32) (T : Vec Ideal S256x1024 .f32)
    (hT : ∀ (h : Fin 8) (r : Fin 256) (d : Fin 128), p h (ix2 r d) = T (ix2 r ⟨128 * h.val + d.val, by omega⟩)) : pairs p = T := by
  funext y
  have key : ∀ (h : Fin 8) (off : Fin 2 → ℕ) (inb) (h0 : off 0 = 0) (h1 : off 1 = 128 * h.val)
      (x : S256x128.Idx), p h x = T ((Rect.unit (s := S256x1024) off S256x128.size inb).emb x) := by
    intro h off inb h0 h1 x
    obtain ⟨r, d, rfl⟩ : ∃ (r : Fin 256) (d : Fin 128), x = ix2 r d := ⟨x 0, x 1, eq_ix2 x⟩
    rw [hT]
    refine congrArg T (funext fun a => Fin.ext ?_)
    match a with
    | ⟨0, _⟩ => show r.val = off 0 + 1 * r.val; omega
    | ⟨1, _⟩ => show 128 * h.val + d.val = off 1 + 1 * d.val; omega
  refine View.canon_apply_of_pieces T _ ?_ y (pairs_cover _ _ _ _ _ _ _ _ y)
  intro q hq x
  simp only [List.mem_cons, List.not_mem_nil, or_false] at hq
  rcases hq with rfl | rfl | rfl | rfl | rfl | rfl | rfl | rfl
  · exact key 7 _ inb_S256x1024_S256x128_0_896 rfl rfl x
  · exact key 6 _ inb_S256x1024_S256x128_0_768 rfl rfl x
  · exact key 5 _ inb_S256x1024_S256x128_0_640 rfl rfl x
  · exact key 4 _ inb_S256x1024_S256x128_0_512 rfl rfl x
  · exact key 3 _ inb_S256x1024_S256x128_0_384 rfl rfl x
  · exact key 2 _ inb_S256x1024_S256x128_0_256 rfl rfl x
  · exact key 1 _ inb_S256x1024_S256x128_0_128 rfl rfl x
  · exact key 0 _ inb_S256x1024_S256x128_0_0 rfl rfl x

theorem laced_eq (p : Fin 4 → FVec Ideal S256x128 .f32) (T : Vec Ideal S1024x128 .f32)
    (hT : ∀ (h : Fin 4) (r : Fin 256) (d : Fin 128), p h (ix2 r d) = T (ix2 ⟨4 * r.val + h.val, by omega⟩ d)) : laced p = T := by
  funext y
  have key : ∀ (h : Fin 4) (x : S256x128.Idx), p h x = T ((rowsAt h).emb x) := by
    intro h x
    obtain ⟨r, d, rfl⟩ : ∃ (r : Fin 256) (d : Fin 128), x = ix2 r d := ⟨x 0, x 1, eq_ix2 x⟩
    rw [hT]
    refine congrArg T (funext fun a => Fin.ext ?_)
    match a with
    | ⟨0, _⟩ => show 4 * r.val + h.val = h.val + 4 * r.val; omega
    | ⟨1, _⟩ => show d.val = 0 + 1 * d.val; omega
  refine View.canon_apply_of_pieces T _ ?_ y (laced_cover _ _ _ _ y)
  intro q hq x
  simp only [List.mem_cons, List.not_mem_nil, or_false] at hq
  rcases hq with rfl | rfl | rfl | rfl
  · exact key 3 x
  · exact key 2 x
  · exact key 1 x
  · exact key 0 x

theorem single_eq (p : FVec Ideal S256x128 .f32) : single p = p := by
  unfold single
  exact View.canon_unit_zero (by funext a; revert a; decide) _ _

end Cert.Prep

end
-- ==== Proof.PrepStore.lean ====
module
public import proofs.«01_k».proof.Proof.PrepHost
public import proofs.«01_k».proof.Proof.PrepPay

@[expose] public section
set_option maxRecDepth 16384
noncomputable section

/-! What a grid point of the head preparation stores, and the layouts of the result arrays. -/

namespace Cert.Prep
open Cert.Kernel5Ideal Cert.Kernel5Ideal.Gen Idealize.ShloMosaic Idealize.ShloMosaic.TcCoe Idealize.SL.Sem

section
variable (m : (ℓ : Loc nD τ sig) → Buf (Elt Ideal) ℓ) (c : Dev nD)

/-- Columns `p` on of the packed rows. -/
def grab {n : ℕ} (p : ℕ) (hp : p + n ≤ 7680) (b : Fin 4) (s : Fin 2048) (j : Fin n) : EReal :=
  wide m c b s ⟨p + j.val, by omega⟩

theorem grab_a {n : ℕ} (p o : ℕ) (hp : p + n ≤ 7680) (ho : o + n ≤ 2640) (e : p = 3456 + o) :
    grab (n := n) m c p hp = partA (pas m c) o ho := by
  subst e
  funext b s j
  unfold grab wide partA
  rw [← columns_a (pas m c) (pbs m c) b s ⟨o + j.val, by omega⟩]
  exact congrArg (fun J => columns (pas m c) (pbs m c) (ix3 b s J)) (Fin.ext (Nat.add_assoc _ _ _))

theorem grab_b {n : ℕ} (p o : ℕ) (hp : p + n ≤ 7680) (ho : o + n ≤ 1536) (e : p = 6144 + o) :
    grab (n := n) m c p hp = partB (pbs m c) o ho := by
  subst e
  funext b s j
  unfold grab wide partB
  rw [← columns_b (pas m c) (pbs m c) b s ⟨o + j.val, by omega⟩]
  exact congrArg (fun J => columns (pas m c) (pbs m c) (ix3 b s J)) (Fin.ext (Nat.add_assoc _ _ _))

variable (t : Fin cfg0.N) (b : Fin 4) (s : Fin 2048) (r : Fin 256) (hR : 2048 * b.val + s.val = 256 * t.val + r.val)
include hR

theorem head_store (p : ℕ) (hp : p + 512 ≤ 7680) (k : Fin 8) (g : FVec Ideal S128 .f32)
    (hg : ∀ e : Fin 128, gains (gain2 m c) (gain3 m c) (gain5 m c) (gain6 m c) (gain4 m c) (ix2 k e) = g (ix1 e))
    (h : Fin 4) (d : Fin 128) :
    headPay (iblk m c 0 t) (iblk m c 1 t) (iblk m c 3 t) p hp k h (ix2 r d) = headsOf (grab m c p hp) g b s h d := by
  rw [headPay_apply _ _ _ p hp k h r d (cosA s) (sinA s)
    ((block_tab m c t b s 0 r d hR).trans (table_at s d).1) ((block_tab m c t b s 1 r d hR).trans (table_at s d).2.1)
    ((block_tab m c t b s 2 r d hR).trans (table_at s d).2.2)]
  unfold headsOf grab
  simp only [block_p m c t b s r _ hR, block_g, hg, Nat.add_assoc]

theorem val_store (p : ℕ) (hp : p + 512 ≤ 7680) (h : Fin 4) (d : Fin 128) :
    valPay (iblk m c 0 t) p hp h (ix2 r d) = valsOf (grab m c p hp) b s h d := by
  rw [valPay_apply]
  unfold valsOf grab
  simp only [block_p m c t b s r _ hR, Nat.add_assoc]

theorem idx_store (h : Fin 8) (j : Fin 2) (d : Fin 64) :
    idxPay (iblk m c 0 t) (iblk m c 2 t) h (ix2 r ⟨64 * j.val + d.val, by omega⟩)
      = idxOf (grab m c 4992 (by omega)) b s ⟨2 * h.val + j.val, by omega⟩ d := by
  rw [idxPay_apply _ _ h j r d (cosI s) (sinI s)
    ((block_tabI m c t b s 0 r _ hR).trans (tableI_at s j d).1) ((block_tabI m c t b s 1 r _ hR).trans (tableI_at s j d).2.1)
    ((block_tabI m c t b s 2 r _ hR).trans (tableI_at s j d).2.2)]
  unfold idxOf grab
  simp only [block_p m c t b s r _ hR]
  refine congrArg (fun x => spin _ x (cosI s) (sinI s) d) (funext fun e => congrArg (wide m c b s) (Fin.ext ?_))
  show 4992 + 128 * h.val + 64 * j.val + e.val = 4992 + (64 * (2 * h.val + j.val) + e.val)
  omega

theorem key_store (d : Fin 64) :
    keyPay (iblk m c 0 t) (iblk m c 2 t) (iblk m c 3 t) (ix2 r ⟨d.val, by omega⟩)
      = keyOf (grab m c 6016 (by omega)) (gain4 m c) b s d := by
  have e : ∀ k : Fin 3, iblk m c 2 t (ix3 k r ⟨d.val, by omega⟩) = tableI (ix3 k s ⟨64 * (0 : Fin 2).val + d.val, by
      show 64 * 0 + d.val < 128; omega⟩) := fun k => (block_tabI m c t b s k r _ hR).trans
    (congrArg (fun l => tableI (ix3 k s l)) (Fin.ext (by show d.val = 64 * 0 + d.val; omega)))
  rw [keyPay_key _ _ _ r d (cosI s) (sinI s) ((e 0).trans (tableI_at s 0 d).1) ((e 1).trans (tableI_at s 0 d).2.1)
    ((e 2).trans (tableI_at s 0 d).2.2)]
  unfold keyOf grab
  simp only [block_p m c t b s r _ hR, block_g, (gains_at (gain2 m c) (gain3 m c) (gain5 m c) (gain6 m c) (gain4 m c)).2.2.2.2]

theorem weight_store (d : Fin 64) :
    keyPay (iblk m c 0 t) (iblk m c 2 t) (iblk m c 3 t) (ix2 r ⟨64 + d.val, by omega⟩)
      = grab (n := 64) m c 6080 (by omega) b s d * Ideal.ofBits FTy.f32 0x3D000000#32 := by
  rw [keyPay_weight, block_p m c t b s r _ hR, grab]
end

/-! ## Layouts -/

/-- Heads side by side, a row for each position, -/
def flatQ (f : Fin 4 → Fin 2048 → Fin 4 → Fin 128 → EReal) : FVec Ideal S8192x512 .f32 := fun i =>
  f ⟨(i 0).val / 2048, Nat.div_lt_of_lt_mul (i 0).isLt⟩ ⟨(i 0).val % 2048, Nat.mod_lt _ (by decide)⟩
    ⟨(i 1).val / 128, Nat.div_lt_of_lt_mul (i 1).isLt⟩ ⟨(i 1).val % 128, Nat.mod_lt _ (by decide)⟩
/-- index heads likewise, -/
def flatI (f : Fin 4 → Fin 2048 → Fin 16 → Fin 64 → EReal) : FVec Ideal S8192x1024 .f32 := fun i =>
  f ⟨(i 0).val / 2048, Nat.div_lt_of_lt_mul (i 0).isLt⟩ ⟨(i 0).val % 2048, Nat.mod_lt _ (by decide)⟩
    ⟨(i 1).val / 64, Nat.div_lt_of_lt_mul (i 1).isLt⟩ ⟨(i 1).val % 64, Nat.mod_lt _ (by decide)⟩
/-- a row for each head of each position, -/
def flatR (f : Fin 4 → Fin 2048 → Fin 4 → Fin 128 → EReal) : FVec Ideal S32768x128 .f32 := fun i =>
  f ⟨(i 0).val / 8192, Nat.div_lt_of_lt_mul (i 0).isLt⟩ ⟨(i 0).val / 4 % 2048, Nat.mod_lt _ (by decide)⟩
    ⟨(i 0).val % 4, Nat.mod_lt _ (by decide)⟩ ⟨(i 1).val, (i 1).isLt⟩
/-- and the index key before the weights. -/
def flatK (f g : Fin 4 → Fin 2048 → Fin 64 → EReal) : FVec Ideal S8192x128 .f32 := fun i =>
  if h : (i 1).val < 64 then
    f ⟨(i 0).val / 2048, Nat.div_lt_of_lt_mul (i 0).isLt⟩ ⟨(i 0).val % 2048, Nat.mod_lt _ (by decide)⟩ ⟨(i 1).val, h⟩
  else g ⟨(i 0).val / 2048, Nat.div_lt_of_lt_mul (i 0).isLt⟩ ⟨(i 0).val % 2048, Nat.mod_lt _ (by decide)⟩
    ⟨(i 1).val - 64, by have h1 : (i 1).val < 128 := (i 1).isLt; omega⟩

theorem at4 {A B C D : ℕ} (f : Fin A → Fin B → Fin C → Fin D → EReal) {a a' : Fin A} {b b' : Fin B} {c c' : Fin C} {d d' : Fin D}
    (ha : a.val = a'.val) (hb : b.val = b'.val) (hc : c.val = c'.val) (hd : d.val = d'.val) : f a b c d = f a' b' c' d' := by
  rw [Fin.ext ha, Fin.ext hb, Fin.ext hc, Fin.ext hd]
theorem at3 {A B C : ℕ} (f : Fin A → Fin B → Fin C → EReal) {a a' : Fin A} {b b' : Fin B} {c c' : Fin C}
    (ha : a.val = a'.val) (hb : b.val = b'.val) (hc : c.val = c'.val) : f a b c = f a' b' c' := by
  rw [Fin.ext ha, Fin.ext hb, Fin.ext hc]

theorem flatQ_at (f : Fin 4 → Fin 2048 → Fin 4 → Fin 128 → EReal) (R : Fin 8192) (J : Fin 512) (b : Fin 4) (s : Fin 2048)
    (h : Fin 4) (d : Fin 128) (hR : R.val = 2048 * b.val + s.val) (hJ : J.val = 128 * h.val + d.val) :
    flatQ f (ix2 R J) = f b s h d :=
  at4 f (by show R.val / 2048 = b.val; omega) (by show R.val % 2048 = s.val; omega)
    (by show J.val / 128 = h.val; omega) (by show J.val % 128 = d.val; omega)
theorem flatI_at (f : Fin 4 → Fin 2048 → Fin 16 → Fin 64 → EReal) (R : Fin 8192) (J : Fin 1024) (b : Fin 4) (s : Fin 2048)
    (h : Fin 16) (d : Fin 64) (hR : R.val = 2048 * b.val + s.val) (hJ : J.val = 64 * h.val + d.val) :
    flatI f (ix2 R J) = f b s h d :=
  at4 f (by show R.val / 2048 = b.val; omega) (by show R.val % 2048 = s.val; omega)
    (by show J.val / 64 = h.val; omega) (by show J.val % 64 = d.val; omega)
theorem flatR_at (f : Fin 4 → Fin 2048 → Fin 4 → Fin 128 → EReal) (R : Fin 32768) (b : Fin 4) (s : Fin 2048)
    (h : Fin 4) (d : Fin 128) (hR : R.val = 4 * (2048 * b.val + s.val) + h.val) :
    flatR f (ix2 R d) = f b s h d :=
  at4 f (by show R.val / 8192 = b.val; omega) (by show R.val / 4 % 2048 = s.val; omega)
    (by show R.val % 4 = h.val; omega) rfl
theorem flatK_key (f g : Fin 4 → Fin 2048 → Fin 64 → EReal) (R : Fin 8192) (J : Fin 128) (b : Fin 4) (s : Fin 2048)
    (d : Fin 64) (hR : R.val = 2048 * b.val + s.val) (hJ : J.val = d.val) : flatK f g (ix2 R J) = f b s d := by
  have hd := d.isLt
  exact (dif_pos (show J.val < 64 by omega)).trans
    (at3 f (by show R.val / 2048 = b.val; omega) (by show R.val % 2048 = s.val; omega) hJ)
theorem flatK_weight (f g : Fin 4 → Fin 2048 → Fin 64 → EReal) (R : Fin 8192) (J : Fin 128) (b : Fin 4) (s : Fin 2048)
    (d : Fin 64) (hR : R.val = 2048 * b.val + s.val) (hJ : J.val = 64 + d.val) : flatK f g (ix2 R J) = g b s d :=
  (dif_neg (show ¬ J.val < 64 by omega)).trans
    (at3 g (by show R.val / 2048 = b.val; omega) (by show R.val % 2048 = s.val; omega) (by show J.val - 64 = d.val; omega))

/-- The host tells the heads apart. -/
theorem apart_q (f : Fin 4 → Fin 2048 → Fin 4 → Fin 128 → EReal) :
    shapeCast S4x2048x4x128 (flatQ f) shapeCasts_S8192x512_S4x2048x4x128 = arr4 f := by
  funext i
  obtain ⟨b, s, h, d, rfl⟩ : ∃ (b : Fin 4) (s : Fin 2048) (h : Fin 4) (d : Fin 128), i = ix4 b s h d := ⟨i 0, i 1, i 2, i 3, eq_ix4 i⟩
  refine Eq.trans ?_ (flatQ_at f ⟨b.val * 2048 + s.val, by omega⟩ ⟨h.val * 128 + d.val, by omega⟩ b s h d
    (by dsimp only; omega) (by dsimp only; omega))
  generalize flatQ f = z
  pointwise
theorem apart_i (f : Fin 4 → Fin 2048 → Fin 16 → Fin 64 → EReal) :
    shapeCast S4x2048x16x64 (flatI f) shapeCasts_S8192x1024_S4x2048x16x64 = arrI f := by
  funext i
  obtain ⟨b, s, h, d, rfl⟩ : ∃ (b : Fin 4) (s : Fin 2048) (h : Fin 16) (d : Fin 64), i = ix4 b s h d := ⟨i 0, i 1, i 2, i 3, eq_ix4 i⟩
  refine Eq.trans ?_ (flatI_at f ⟨b.val * 2048 + s.val, by omega⟩ ⟨h.val * 64 + d.val, by omega⟩ b s h d
    (by dsimp only; omega) (by dsimp only; omega))
  generalize flatI f = z
  pointwise
theorem apart_r (f : Fin 4 → Fin 2048 → Fin 4 → Fin 128 → EReal) :
    shapeCast S4x2048x4x128 (flatR f) shapeCasts_S32768x128_S4x2048x4x128 = arr4 f := by
  funext i
  obtain ⟨b, s, h, d, rfl⟩ : ∃ (b : Fin 4) (s : Fin 2048) (h : Fin 4) (d : Fin 128), i = ix4 b s h d := ⟨i 0, i 1, i 2, i 3, eq_ix4 i⟩
  refine Eq.trans ?_ (flatR_at f ⟨b.val * 8192 + s.val * 4 + h.val, by omega⟩ b s h d (by dsimp only; omega))
  generalize flatR f = z
  pointwise
theorem apart_k (f g : Fin 4 → Fin 2048 → Fin 64 → EReal) :
    shapeCast S4x2048x64 (extractStridedSlice S8192x64 ![0, 0] (flatK f g) slices_S8192x128_S8192x64_0_0)
      shapeCasts_S8192x64_S4x2048x64 = arrK f := by
  funext i
  obtain ⟨b, s, d, rfl⟩ : ∃ (b : Fin 4) (s : Fin 2048) (d : Fin 64), i = ix3 b s d := ⟨i 0, i 1, i 2, eq_ix3 i⟩
  refine Eq.trans ?_ (flatK_key f g ⟨b.val * 2048 + s.val, by omega⟩ ⟨d.val, by omega⟩ b s d (by dsimp only; omega) rfl)
  generalize flatK f g = z
  pointwise
theorem apart_w (f g : Fin 4 → Fin 2048 → Fin 64 → EReal) :
    shapeCast S4x2048x16 (extractStridedSlice S8192x16 ![0, 64] (flatK f g) slices_S8192x128_S8192x16_0_64)
      shapeCasts_S8192x16_S4x2048x16 = arrW (fun b s j => g b s ⟨j.val, by omega⟩) := by
  funext i
  obtain ⟨b, s, d, rfl⟩ : ∃ (b : Fin 4) (s : Fin 2048) (d : Fin 16), i = ix3 b s d := ⟨i 0, i 1, i 2, eq_ix3 i⟩
  refine Eq.trans ?_ (flatK_weight f g ⟨b.val * 2048 + s.val, by omega⟩ ⟨64 + d.val, by omega⟩ b s ⟨d.val, by omega⟩
    (by dsimp only; omega) rfl)
  generalize flatK f g = z
  pointwise

end Cert.Prep

end
-- ==== Proof.PrepBlock.lean ====
module
public import proofs.«01_k».proof.Proof.PrepStore
public import proofs.«01_k».proof.Proof.Gen.Kernel5Ideal.Points

@[expose] public section
set_option maxRecDepth 16384
noncomputable section

/-! What the head preparation's kernel leaves in its result arrays. -/

namespace Cert.Prep
open Cert.Kernel5Ideal Cert.Kernel5Ideal.Gen Idealize.ShloMosaic Idealize.ShloMosaic.TcCoe Idealize.SL.Sem

/-- Every output's block lies at the grid point's own rows. -/
theorem rows_at : ∀ t : Fin cfg0.N,
    (win0_4.index t (0 : Fin 2) = t.val ∧ win0_4.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_12.index t (0 : Fin 2) = t.val ∧ win0_12.index t (1 : Fin 2) = 0)
    ∧ (win0_13.index t (0 : Fin 2) = t.val ∧ win0_13.index t (1 : Fin 2) = 0)
    ∧ (win0_14.index t (0 : Fin 2) = t.val ∧ win0_14.index t (1 : Fin 2) = 0)
    ∧ (win0_15.index t (0 : Fin 2) = t.val ∧ win0_15.index t (1 : Fin 2) = 0) :=
  (by decide +kernel : ∀ t : Fin grid0.N, _)

/-- The position of a grid point's row. -/
theorem place (t : Fin cfg0.N) (r : Fin 256) : ∃ (b : Fin 4) (s : Fin 2048), 2048 * b.val + s.val = 256 * t.val + r.val := by
  have hN : t.val < 32 := lt_of_lt_of_eq t.isLt N_0
  exact ⟨⟨(256 * t.val + r.val) / 2048, by omega⟩, ⟨(256 * t.val + r.val) % 2048, by omega⟩, by dsimp only; omega⟩

/-! ## Every element of a result array is in the block of some grid point -/

theorem covered4 (i : S8192x512.Idx) :
    ∃ t : Fin cfg0.N, (cfg0.win 4).flush t = true ∧ i ∈ ((cfg0.win 4).blk t).view.set := by
  have h0 : (i 0).val < 8192 := (i 0).isLt
  have h1 : (i 1).val < 512 := (i 1).isLt
  have hN : (i 0).val / 256 < cfg0.N := by rw [show cfg0.N = 32 from N_0]; omega
  have h := (rows_at ⟨(i 0).val / 256, hN⟩).1
  refine ⟨⟨(i 0).val / 256, hN⟩, flush0_4 _, ?_⟩
  show i ∈ ((View.whole main_v88_0).slice (win0_4.rect (⟨(i 0).val / 256, hN⟩ : Fin cfg0.N))).set
  rw [View.set_slice_whole, Rect.mem_set_unit]
  intro a
  dsimp only at h
  match a with
  | ⟨0, _⟩ => show win0_4.index _ (0 : Fin 2) * 256 ≤ (i 0).val ∧ (i 0).val < win0_4.index _ (0 : Fin 2) * 256 + 256; omega
  | ⟨1, _⟩ => show win0_4.index _ (1 : Fin 2) * 512 ≤ (i 1).val ∧ (i 1).val < win0_4.index _ (1 : Fin 2) * 512 + 512; omega

theorem covered7 (i : S8192x1024.Idx) :
    ∃ t : Fin cfg0.N, (cfg0.win 7).flush t = true ∧ i ∈ ((cfg0.win 7).blk t).view.set := by
  have h0 : (i 0).val < 8192 := (i 0).isLt
  have h1 : (i 1).val < 1024 := (i 1).isLt
  have hN : (i 0).val / 256 < cfg0.N := by rw [show cfg0.N = 32 from N_0]; omega
  have h := (rows_at ⟨(i 0).val / 256, hN⟩).2.1
  refine ⟨⟨(i 0).val / 256, hN⟩, flush0_7 _, ?_⟩
  show i ∈ ((View.whole main_v88_3).slice (win0_7.rect (⟨(i 0).val / 256, hN⟩ : Fin cfg0.N))).set
  rw [View.set_slice_whole, Rect.mem_set_unit]
  intro a
  dsimp only at h
  match a with
  | ⟨0, _⟩ => show win0_7.index _ (0 : Fin 2) * 256 ≤ (i 0).val ∧ (i 0).val < win0_7.index _ (0 : Fin 2) * 256 + 256; omega
  | ⟨1, _⟩ => show win0_7.index _ (1 : Fin 2) * 1024 ≤ (i 1).val ∧ (i 1).val < win0_7.index _ (1 : Fin 2) * 1024 + 1024; omega

theorem covered8 (i : S8192x128.Idx) :
    ∃ t : Fin cfg0.N, (cfg0.win 8).flush t = true ∧ i ∈ ((cfg0.win 8).blk t).view.set := by
  have h0 : (i 0).val < 8192 := (i 0).isLt
  have h1 : (i 1).val < 128 := (i 1).isLt
  have hN : (i 0).val / 256 < cfg0.N := by rw [show cfg0.N = 32 from N_0]; omega
  have h := (rows_at ⟨(i 0).val / 256, hN⟩).2.2.1
  refine ⟨⟨(i 0).val / 256, hN⟩, flush0_8 _, ?_⟩
  show i ∈ ((View.whole main_v88_4).slice (win0_8.rect (⟨(i 0).val / 256, hN⟩ : Fin cfg0.N))).set
  rw [View.set_slice_whole, Rect.mem_set_unit]
  intro a
  dsimp only at h
  match a with
  | ⟨0, _⟩ => show win0_8.index _ (0 : Fin 2) * 256 ≤ (i 0).val ∧ (i 0).val < win0_8.index _ (0 : Fin 2) * 256 + 256; omega
  | ⟨1, _⟩ => show win0_8.index _ (1 : Fin 2) * 128 ≤ (i 1).val ∧ (i 1).val < win0_8.index _ (1 : Fin 2) * 128 + 128; omega

theorem covered9 (i : S8192x512.Idx) :
    ∃ t : Fin cfg0.N, (cfg0.win 9).flush t = true ∧ i ∈ ((cfg0.win 9).blk t).view.set := by
  have h0 : (i 0).val < 8192 := (i 0).isLt
  have h1 : (i 1).val < 512 := (i 1).isLt
  have hN : (i 0).val / 256 < cfg0.N := by rw [show cfg0.N = 32 from N_0]; omega
  have h := (rows_at ⟨(i 0).val / 256, hN⟩).2.2.2.1
  refine ⟨⟨(i 0).val / 256, hN⟩, flush0_9 _, ?_⟩
  show i ∈ ((View.whole main_v88_5).slice (win0_9.rect (⟨(i 0).val / 256, hN⟩ : Fin cfg0.N))).set
  rw [View.set_slice_whole, Rect.mem_set_unit]
  intro a
  dsimp only at h
  match a with
  | ⟨0, _⟩ => show win0_9.index _ (0 : Fin 2) * 256 ≤ (i 0).val ∧ (i 0).val < win0_9.index _ (0 : Fin 2) * 256 + 256; omega
  | ⟨1, _⟩ => show win0_9.index _ (1 : Fin 2) * 512 ≤ (i 1).val ∧ (i 1).val < win0_9.index _ (1 : Fin 2) * 512 + 512; omega

theorem covered12 (i : S32768x128.Idx) :
    ∃ t : Fin cfg0.N, (cfg0.win 12).flush t = true ∧ i ∈ ((cfg0.win 12).blk t).view.set := by
  have h0 : (i 0).val < 32768 := (i 0).isLt
  have h1 : (i 1).val < 128 := (i 1).isLt
  have hN : (i 0).val / 1024 < cfg0.N := by rw [show cfg0.N = 32 from N_0]; omega
  have h := (rows_at ⟨(i 0).val / 1024, hN⟩).2.2.2.2.1
  refine ⟨⟨(i 0).val / 1024, hN⟩, flush0_12 _, ?_⟩
  show i ∈ ((View.whole main_v88_8).slice (win0_12.rect (⟨(i 0).val / 1024, hN⟩ : Fin cfg0.N))).set
  rw [View.set_slice_whole, Rect.mem_set_unit]
  intro a
  dsimp only at h
  match a with
  | ⟨0, _⟩ => show win0_12.index _ (0 : Fin 2) * 1024 ≤ (i 0).val ∧ (i 0).val < win0_12.index _ (0 : Fin 2) * 1024 + 1024; omega
  | ⟨1, _⟩ => show win0_12.index _ (1 : Fin 2) * 128 ≤ (i 1).val ∧ (i 1).val < win0_12.index _ (1 : Fin 2) * 128 + 128; omega

theorem covered13 (i : S32768x128.Idx) :
    ∃ t : Fin cfg0.N, (cfg0.win 13).flush t = true ∧ i ∈ ((cfg0.win 13).blk t).view.set := by
  have h0 : (i 0).val < 32768 := (i 0).isLt
  have h1 : (i 1).val < 128 := (i 1).isLt
  have hN : (i 0).val / 1024 < cfg0.N := by rw [show cfg0.N = 32 from N_0]; omega
  have h := (rows_at ⟨(i 0).val / 1024, hN⟩).2.2.2.2.2.1
  refine ⟨⟨(i 0).val / 1024, hN⟩, flush0_13 _, ?_⟩
  show i ∈ ((View.whole main_v88_9).slice (win0_13.rect (⟨(i 0).val / 1024, hN⟩ : Fin cfg0.N))).set
  rw [View.set_slice_whole, Rect.mem_set_unit]
  intro a
  dsimp only at h
  match a with
  | ⟨0, _⟩ => show win0_13.index _ (0 : Fin 2) * 1024 ≤ (i 0).val ∧ (i 0).val < win0_13.index _ (0 : Fin 2) * 1024 + 1024; omega
  | ⟨1, _⟩ => show win0_13.index _ (1 : Fin 2) * 128 ≤ (i 1).val ∧ (i 1).val < win0_13.index _ (1 : Fin 2) * 128 + 128; omega

theorem covered14 (i : S32768x128.Idx) :
    ∃ t : Fin cfg0.N, (cfg0.win 14).flush t = true ∧ i ∈ ((cfg0.win 14).blk t).view.set := by
  have h0 : (i 0).val < 32768 := (i 0).isLt
  have h1 : (i 1).val < 128 := (i 1).isLt
  have hN : (i 0).val / 1024 < cfg0.N := by rw [show cfg0.N = 32 from N_0]; omega
  have h := (rows_at ⟨(i 0).val / 1024, hN⟩).2.2.2.2.2.2.1
  refine ⟨⟨(i 0).val / 1024, hN⟩, flush0_14 _, ?_⟩
  show i ∈ ((View.whole main_v88_10).slice (win0_14.rect (⟨(i 0).val / 1024, hN⟩ : Fin cfg0.N))).set
  rw [View.set_slice_whole, Rect.mem_set_unit]
  intro a
  dsimp only at h
  match a with
  | ⟨0, _⟩ => show win0_14.index _ (0 : Fin 2) * 1024 ≤ (i 0).val ∧ (i 0).val < win0_14.index _ (0 : Fin 2) * 1024 + 1024; omega
  | ⟨1, _⟩ => show win0_14.index _ (1 : Fin 2) * 128 ≤ (i 1).val ∧ (i 1).val < win0_14.index _ (1 : Fin 2) * 128 + 128; omega

theorem covered15 (i : S32768x128.Idx) :
    ∃ t : Fin cfg0.N, (cfg0.win 15).flush t = true ∧ i ∈ ((cfg0.win 15).blk t).view.set := by
  have h0 : (i 0).val < 32768 := (i 0).isLt
  have h1 : (i 1).val < 128 := (i 1).isLt
  have hN : (i 0).val / 1024 < cfg0.N := by rw [show cfg0.N = 32 from N_0]; omega
  have h := (rows_at ⟨(i 0).val / 1024, hN⟩).2.2.2.2.2.2.2
  refine ⟨⟨(i 0).val / 1024, hN⟩, flush0_15 _, ?_⟩
  show i ∈ ((View.whole main_v88_11).slice (win0_15.rect (⟨(i 0).val / 1024, hN⟩ : Fin cfg0.N))).set
  rw [View.set_slice_whole, Rect.mem_set_unit]
  intro a
  dsimp only at h
  match a with
  | ⟨0, _⟩ => show win0_15.index _ (0 : Fin 2) * 1024 ≤ (i 0).val ∧ (i 0).val < win0_15.index _ (0 : Fin 2) * 1024 + 1024; omega
  | ⟨1, _⟩ => show win0_15.index _ (1 : Fin 2) * 128 ≤ (i 1).val ∧ (i 1).val < win0_15.index _ (1 : Fin 2) * 128 + 128; omega

/-! ## The result arrays -/

section
variable (m : (ℓ : Loc nD τ sig) → Buf (Elt Ideal) ℓ) (c : Dev nD)

/-- The index weights of the packed columns. -/
def heavy (b : Fin 4) (s : Fin 2048) (d : Fin 64) : EReal :=
  grab (n := 64) m c 6080 (by omega) b s d * Ideal.ofBits FTy.f32 0x3D000000#32

theorem of_sides (t : Fin cfg0.N) (p : Fin 4 → FVec Ideal S256x128 .f32) (f : Fin 4 → Fin 2048 → Fin 4 → Fin 128 → EReal)
    (hp : ∀ (b : Fin 4) (s : Fin 2048) (r : Fin 256), 2048 * b.val + s.val = 256 * t.val + r.val → ∀ (h : Fin 4) (d : Fin 128),
      p h (ix2 r d) = f b s h d) (r : Fin 256) (J : Fin 512) (R : Fin 8192) (hr : R.val = 256 * t.val + r.val) :
    sides p (ix2 r J) = flatQ f (ix2 R J) := by
  have hN : t.val < 32 := lt_of_lt_of_eq t.isLt N_0
  rw [sides_eq p (fun y => flatQ f (ix2 ⟨256 * t.val + (y 0).val, by have h : (y 0).val < 256 := (y 0).isLt; omega⟩ (y 1)))
    fun h r d => by
      obtain ⟨b, s, e⟩ := place t r
      exact (hp b s r e h d).trans (flatQ_at f _ _ b s h d e.symm rfl).symm]
  exact congrArg (fun R => flatQ f (ix2 R J)) (Fin.ext hr.symm)

theorem of_pairs (t : Fin cfg0.N) (p : Fin 8 → FVec Ideal S256x128 .f32) (f : Fin 4 → Fin 2048 → Fin 16 → Fin 64 → EReal)
    (hp : ∀ (b : Fin 4) (s : Fin 2048) (r : Fin 256), 2048 * b.val + s.val = 256 * t.val + r.val →
      ∀ (h : Fin 8) (j : Fin 2) (d : Fin 64), p h (ix2 r ⟨64 * j.val + d.val, by omega⟩) = f b s ⟨2 * h.val + j.val, by omega⟩ d)
    (r : Fin 256) (J : Fin 1024) (R : Fin 8192) (hr : R.val = 256 * t.val + r.val) :
    pairs p (ix2 r J) = flatI f (ix2 R J) := by
  have hN : t.val < 32 := lt_of_lt_of_eq t.isLt N_0
  rw [pairs_eq p (fun y => flatI f (ix2 ⟨256 * t.val + (y 0).val, by have h : (y 0).val < 256 := (y 0).isLt; omega⟩ (y 1)))
    fun h r d => by
      obtain ⟨b, s, e⟩ := place t r
      obtain ⟨j, l, hl⟩ : ∃ (j : Fin 2) (l : Fin 64), d.val = 64 * j.val + l.val :=
        ⟨⟨d.val / 64, by omega⟩, ⟨d.val % 64, by omega⟩, by dsimp only; omega⟩
      rw [show d = ⟨64 * j.val + l.val, by omega⟩ from Fin.ext hl]
      exact (hp b s r e h j l).trans (flatI_at f _ _ b s ⟨2 * h.val + j.val, by omega⟩ l e.symm
        (by show 128 * h.val + (64 * j.val + l.val) = 64 * (2 * h.val + j.val) + l.val; omega)).symm]
  exact congrArg (fun R => flatI f (ix2 R J)) (Fin.ext hr.symm)

theorem of_laced (t : Fin cfg0.N) (p : Fin 4 → FVec Ideal S256x128 .f32) (f : Fin 4 → Fin 2048 → Fin 4 → Fin 128 → EReal)
    (hp : ∀ (b : Fin 4) (s : Fin 2048) (r : Fin 256), 2048 * b.val + s.val = 256 * t.val + r.val → ∀ (h : Fin 4) (d : Fin 128),
      p h (ix2 r d) = f b s h d) (r : Fin 1024) (J : Fin 128) (R : Fin 32768) (hr : R.val = 1024 * t.val + r.val) :
    laced p (ix2 r J) = flatR f (ix2 R J) := by
  have hN : t.val < 32 := lt_of_lt_of_eq t.isLt N_0
  rw [laced_eq p (fun y => flatR f (ix2 ⟨1024 * t.val + (y 0).val, by have h : (y 0).val < 1024 := (y 0).isLt; omega⟩ (y 1)))
    fun h r d => by
      obtain ⟨b, s, e⟩ := place t r
      exact (hp b s r e h d).trans (flatR_at f _ b s h d (by
        show 1024 * t.val + (4 * r.val + h.val) = 4 * (2048 * b.val + s.val) + h.val; omega)).symm]
  exact congrArg (fun R => flatR f (ix2 R J)) (Fin.ext hr.symm)

theorem of_single (t : Fin cfg0.N) (r : Fin 256) (J : Fin 128) (R : Fin 8192) (hr : R.val = 256 * t.val + r.val) :
    single (keyPay (iblk m c 0 t) (iblk m c 2 t) (iblk m c 3 t)) (ix2 r J)
      = flatK (keyOf (grab m c 6016 (by omega)) (gain4 m c)) (heavy m c) (ix2 R J) := by
  rw [single_eq]
  obtain ⟨b, s, e⟩ := place t r
  by_cases h : J.val < 64
  · exact (key_store m c t b s r e ⟨J.val, h⟩).trans (flatK_key _ _ R J b s ⟨J.val, h⟩ (hr.trans e.symm) rfl).symm
  · have hJ : J.val = 64 + (J.val - 64) := by omega
    refine Eq.trans ?_ ((weight_store m c t b s r e ⟨J.val - 64, by omega⟩).trans
      (flatK_weight (keyOf (grab m c 6016 (by omega)) (gain4 m c)) (heavy m c) R J b s ⟨J.val - 64, by omega⟩ (hr.trans e.symm) hJ).symm)
    exact congrArg (fun J => keyPay (iblk m c 0 t) (iblk m c 2 t) (iblk m c 3 t) (ix2 r J)) (Fin.ext hJ)

theorem array4 : (dats m 0 c).arrAt 4 cfg0.N = flatQ (headsOf (grab m c 3456 (by omega)) (gain2 m c)) := by
  refine (dats m 0 c).arrAt_eq_of_cover 4 _ (fun t _ => ?_) covered4
  show (cfg0.win 4).cut (grid0.coords t) ((dats m 0 c).after 4 t) = _
  rw [after0_4]
  funext y
  have h := (rows_at t).1
  have hN : t.val < 32 := lt_of_lt_of_eq t.isLt N_0
  obtain ⟨r, J, rfl⟩ : ∃ (r : Fin 256) (J : Fin 512), y = ix2 r J := ⟨y 0, y 1, eq_ix2 y⟩
  refine (of_sides t _ (headsOf (grab m c 3456 (by omega)) (gain2 m c)) (fun b s r e h d => head_store m c t b s r e 3456 (by omega) 0 (gain2 m c) (gains_at (gain2 m c) (gain3 m c) (gain5 m c) (gain6 m c) (gain4 m c)).1 h d) r J ⟨256 * t.val + r.val, by omega⟩ rfl).trans ?_
  rw [View.read_apply]
  refine congrArg (flatQ (headsOf (grab m c 3456 (by omega)) (gain2 m c)))
    (?_ : _ = ((cfg0.win 4).blk t).view.emb (ix2 r J))
  funext a
  apply Fin.ext
  match a with
  | ⟨0, _⟩ => show 256 * t.val + r.val = win0_4.index t 0 * 256 + 1 * r.val; omega
  | ⟨1, _⟩ => show J.val = win0_4.index t 1 * 512 + 1 * J.val; omega

theorem array7 : (dats m 0 c).arrAt 7 cfg0.N = flatI (idxOf (grab m c 4992 (by omega))) := by
  refine (dats m 0 c).arrAt_eq_of_cover 7 _ (fun t _ => ?_) covered7
  show (cfg0.win 7).cut (grid0.coords t) ((dats m 0 c).after 7 t) = _
  rw [after0_7]
  funext y
  have h := (rows_at t).2.1
  have hN : t.val < 32 := lt_of_lt_of_eq t.isLt N_0
  obtain ⟨r, J, rfl⟩ : ∃ (r : Fin 256) (J : Fin 1024), y = ix2 r J := ⟨y 0, y 1, eq_ix2 y⟩
  refine (of_pairs t _ (idxOf (grab m c 4992 (by omega))) (fun b s r e h j d => idx_store m c t b s r e h j d) r J ⟨256 * t.val + r.val, by omega⟩ rfl).trans ?_
  rw [View.read_apply]
  refine congrArg (flatI (idxOf (grab m c 4992 (by omega))))
    (?_ : _ = ((cfg0.win 7).blk t).view.emb (ix2 r J))
  funext a
  apply Fin.ext
  match a with
  | ⟨0, _⟩ => show 256 * t.val + r.val = win0_7.index t 0 * 256 + 1 * r.val; omega
  | ⟨1, _⟩ => show J.val = win0_7.index t 1 * 1024 + 1 * J.val; omega

theorem array8 : (dats m 0 c).arrAt 8 cfg0.N = flatK (keyOf (grab m c 6016 (by omega)) (gain4 m c)) (heavy m c) := by
  refine (dats m 0 c).arrAt_eq_of_cover 8 _ (fun t _ => ?_) covered8
  show (cfg0.win 8).cut (grid0.coords t) ((dats m 0 c).after 8 t) = _
  rw [after0_8]
  funext y
  have h := (rows_at t).2.2.1
  have hN : t.val < 32 := lt_of_lt_of_eq t.isLt N_0
  obtain ⟨r, J, rfl⟩ : ∃ (r : Fin 256) (J : Fin 128), y = ix2 r J := ⟨y 0, y 1, eq_ix2 y⟩
  refine (of_single m c t r J ⟨256 * t.val + r.val, by omega⟩ rfl).trans ?_
  rw [View.read_apply]
  refine congrArg (flatK (keyOf (grab m c 6016 (by omega)) (gain4 m c)) (heavy m c))
    (?_ : _ = ((cfg0.win 8).blk t).view.emb (ix2 r J))
  funext a
  apply Fin.ext
  match a with
  | ⟨0, _⟩ => show 256 * t.val + r.val = win0_8.index t 0 * 256 + 1 * r.val; omega
  | ⟨1, _⟩ => show J.val = win0_8.index t 1 * 128 + 1 * J.val; omega

theorem array9 : (dats m 0 c).arrAt 9 cfg0.N = flatQ (headsOf (grab m c 6144 (by omega)) (gain5 m c)) := by
  refine (dats m 0 c).arrAt_eq_of_cover 9 _ (fun t _ => ?_) covered9
  show (cfg0.win 9).cut (grid0.coords t) ((dats m 0 c).after 9 t) = _
  rw [after0_9]
  funext y
  have h := (rows_at t).2.2.2.1
  have hN : t.val < 32 := lt_of_lt_of_eq t.isLt N_0
  obtain ⟨r, J, rfl⟩ : ∃ (r : Fin 256) (J : Fin 512), y = ix2 r J := ⟨y 0, y 1, eq_ix2 y⟩
  refine (of_sides t _ (headsOf (grab m c 6144 (by omega)) (gain5 m c)) (fun b s r e h d => head_store m c t b s r e 6144 (by omega) 2 (gain5 m c) (gains_at (gain2 m c) (gain3 m c) (gain5 m c) (gain6 m c) (gain4 m c)).2.2.1 h d) r J ⟨256 * t.val + r.val, by omega⟩ rfl).trans ?_
  rw [View.read_apply]
  refine congrArg (flatQ (headsOf (grab m c 6144 (by omega)) (gain5 m c)))
    (?_ : _ = ((cfg0.win 9).blk t).view.emb (ix2 r J))
  funext a
  apply Fin.ext
  match a with
  | ⟨0, _⟩ => show 256 * t.val + r.val = win0_9.index t 0 * 256 + 1 * r.val; omega
  | ⟨1, _⟩ => show J.val = win0_9.index t 1 * 512 + 1 * J.val; omega

theorem array12 : (dats m 0 c).arrAt 12 cfg0.N = flatR (headsOf (grab m c 3968 (by omega)) (gain3 m c)) := by
  refine (dats m 0 c).arrAt_eq_of_cover 12 _ (fun t _ => ?_) covered12
  show (cfg0.win 12).cut (grid0.coords t) ((dats m 0 c).after 12 t) = _
  rw [after0_12]
  funext y
  have h := (rows_at t).2.2.2.2.1
  have hN : t.val < 32 := lt_of_lt_of_eq t.isLt N_0
  obtain ⟨r, J, rfl⟩ : ∃ (r : Fin 1024) (J : Fin 128), y = ix2 r J := ⟨y 0, y 1, eq_ix2 y⟩
  refine (of_laced t _ (headsOf (grab m c 3968 (by omega)) (gain3 m c)) (fun b s r e h d => head_store m c t b s r e 3968 (by omega) 1 (gain3 m c) (gains_at (gain2 m c) (gain3 m c) (gain5 m c) (gain6 m c) (gain4 m c)).2.1 h d) r J ⟨1024 * t.val + r.val, by omega⟩ rfl).trans ?_
  rw [View.read_apply]
  refine congrArg (flatR (headsOf (grab m c 3968 (by omega)) (gain3 m c)))
    (?_ : _ = ((cfg0.win 12).blk t).view.emb (ix2 r J))
  funext a
  apply Fin.ext
  match a with
  | ⟨0, _⟩ => show 1024 * t.val + r.val = win0_12.index t 0 * 1024 + 1 * r.val; omega
  | ⟨1, _⟩ => show J.val = win0_12.index t 1 * 128 + 1 * J.val; omega

theorem array13 : (dats m 0 c).arrAt 13 cfg0.N = flatR (valsOf (grab m c 4480 (by omega))) := by
  refine (dats m 0 c).arrAt_eq_of_cover 13 _ (fun t _ => ?_) covered13
  show (cfg0.win 13).cut (grid0.coords t) ((dats m 0 c).after 13 t) = _
  rw [after0_13]
  funext y
  have h := (rows_at t).2.2.2.2.2.1
  have hN : t.val < 32 := lt_of_lt_of_eq t.isLt N_0
  obtain ⟨r, J, rfl⟩ : ∃ (r : Fin 1024) (J : Fin 128), y = ix2 r J := ⟨y 0, y 1, eq_ix2 y⟩
  refine (of_laced t _ (valsOf (grab m c 4480 (by omega))) (fun b s r e h d => val_store m c t b s r e 4480 (by omega) h d) r J ⟨1024 * t.val + r.val, by omega⟩ rfl).trans ?_
  rw [View.read_apply]
  refine congrArg (flatR (valsOf (grab m c 4480 (by omega))))
    (?_ : _ = ((cfg0.win 13).blk t).view.emb (ix2 r J))
  funext a
  apply Fin.ext
  match a with
  | ⟨0, _⟩ => show 1024 * t.val + r.val = win0_13.index t 0 * 1024 + 1 * r.val; omega
  | ⟨1, _⟩ => show J.val = win0_13.index t 1 * 128 + 1 * J.val; omega

theorem array14 : (dats m 0 c).arrAt 14 cfg0.N = flatR (headsOf (grab m c 6656 (by omega)) (gain6 m c)) := by
  refine (dats m 0 c).arrAt_eq_of_cover 14 _ (fun t _ => ?_) covered14
  show (cfg0.win 14).cut (grid0.coords t) ((dats m 0 c).after 14 t) = _
  rw [after0_14]
  funext y
  have h := (rows_at t).2.2.2.2.2.2.1
  have hN : t.val < 32 := lt_of_lt_of_eq t.isLt N_0
  obtain ⟨r, J, rfl⟩ : ∃ (r : Fin 1024) (J : Fin 128), y = ix2 r J := ⟨y 0, y 1, eq_ix2 y⟩
  refine (of_laced t _ (headsOf (grab m c 6656 (by omega)) (gain6 m c)) (fun b s r e h d => head_store m c t b s r e 6656 (by omega) 3 (gain6 m c) (gains_at (gain2 m c) (gain3 m c) (gain5 m c) (gain6 m c) (gain4 m c)).2.2.2.1 h d) r J ⟨1024 * t.val + r.val, by omega⟩ rfl).trans ?_
  rw [View.read_apply]
  refine congrArg (flatR (headsOf (grab m c 6656 (by omega)) (gain6 m c)))
    (?_ : _ = ((cfg0.win 14).blk t).view.emb (ix2 r J))
  funext a
  apply Fin.ext
  match a with
  | ⟨0, _⟩ => show 1024 * t.val + r.val = win0_14.index t 0 * 1024 + 1 * r.val; omega
  | ⟨1, _⟩ => show J.val = win0_14.index t 1 * 128 + 1 * J.val; omega

theorem array15 : (dats m 0 c).arrAt 15 cfg0.N = flatR (valsOf (grab m c 7168 (by omega))) := by
  refine (dats m 0 c).arrAt_eq_of_cover 15 _ (fun t _ => ?_) covered15
  show (cfg0.win 15).cut (grid0.coords t) ((dats m 0 c).after 15 t) = _
  rw [after0_15]
  funext y
  have h := (rows_at t).2.2.2.2.2.2.2
  have hN : t.val < 32 := lt_of_lt_of_eq t.isLt N_0
  obtain ⟨r, J, rfl⟩ : ∃ (r : Fin 1024) (J : Fin 128), y = ix2 r J := ⟨y 0, y 1, eq_ix2 y⟩
  refine (of_laced t _ (valsOf (grab m c 7168 (by omega))) (fun b s r e h d => val_store m c t b s r e 7168 (by omega) h d) r J ⟨1024 * t.val + r.val, by omega⟩ rfl).trans ?_
  rw [View.read_apply]
  refine congrArg (flatR (valsOf (grab m c 7168 (by omega))))
    (?_ : _ = ((cfg0.win 15).blk t).view.emb (ix2 r J))
  funext a
  apply Fin.ext
  match a with
  | ⟨0, _⟩ => show 1024 * t.val + r.val = win0_15.index t 0 * 1024 + 1 * r.val; omega
  | ⟨1, _⟩ => show J.val = win0_15.index t 1 * 128 + 1 * J.val; omega

end

end Cert.Prep

end
-- ==== Proof.PrepRefRun.lean ====
module
public import proofs.«01_k».proof.Proof.PrepRef

@[expose] public section
set_option maxRecDepth 16384
noncomputable section

/-! The reference's run, with its results as functions of its arguments' columns. -/

namespace Cert.Prep
open Cert.Reference5Ideal Cert.Reference5Ideal.Gen Cert.Reference5Ideal.Value Idealize.ShloMosaic Idealize.ShloMosaic.TcCoe
open Idealize.ShloMosaic.StableHlo

section
variable (V : Valuation τ sig (Elt Ideal))

theorem normed15 : res_main_v15 V = rNorm (shapeCast S4x2048x4x128 (extractStridedSlice S4x2048x512 ![0, 0, 0] (V (Proc.devRef .tc main_arg0)) slices_S4x2048x2640_S4x2048x512_0_0_0)
    shapeCasts_S4x2048x512_S4x2048x4x128) (V (Proc.devRef .tc main_arg2)) := rfl
theorem normed65 : res_main_v65 V = rNorm (shapeCast S4x2048x4x128 (extractStridedSlice S4x2048x512 ![0, 0, 512] (V (Proc.devRef .tc main_arg0)) slices_S4x2048x2640_S4x2048x512_0_0_512)
    shapeCasts_S4x2048x512_S4x2048x4x128) (V (Proc.devRef .tc main_arg3)) := rfl
theorem normed208 : res_main_v208 V = rNorm (shapeCast S4x2048x4x128 (extractStridedSlice S4x2048x512 ![0, 0, 0] (V (Proc.devRef .tc main_arg1)) slices_S4x2048x1536_S4x2048x512_0_0_0)
    shapeCasts_S4x2048x512_S4x2048x4x128) (V (Proc.devRef .tc main_arg5)) := rfl
theorem normed258 : res_main_v258 V = rNorm (shapeCast S4x2048x4x128 (extractStridedSlice S4x2048x512 ![0, 0, 512] (V (Proc.devRef .tc main_arg1)) slices_S4x2048x1536_S4x2048x512_0_0_512)
    shapeCasts_S4x2048x512_S4x2048x4x128) (V (Proc.devRef .tc main_arg6)) := rfl
theorem normed154 : res_main_v154 V = rNorm8 (extractStridedSlice S4x2048x64 ![0, 0, 2560] (V (Proc.devRef .tc main_arg0)) slices_S4x2048x2640_S4x2048x64_0_0_2560) (V (Proc.devRef .tc main_arg4)) := rfl
theorem angles28 : res_main_v28 V = angles := rfl
theorem angles78 : res_main_v78 V = angles := rfl
theorem angles221 : res_main_v221 V = angles := rfl
theorem angles271 : res_main_v271 V = angles := rfl
theorem angles117 : res_main_v117 V = angles8 := rfl
theorem angles167 : res_main_v167 V = angles8 := rfl

theorem out50 : val6 V (Proc.devRef .tc main_v50)
    = arr4 (headsOf (partA (V (Proc.devRef .tc main_arg0)) 0 (by omega)) (V (Proc.devRef .tc main_arg2))) := by
  refine (val6_main_v50 V).trans (Eq.trans ?_ (heads_eq (extractStridedSlice S4x2048x512 ![0, 0, 0] (V (Proc.devRef .tc main_arg0)) slices_S4x2048x2640_S4x2048x512_0_0_0)
    (V (Proc.devRef .tc main_arg2)) (partA (V (Proc.devRef .tc main_arg0)) 0 (by omega)) fun b s j => by pointwise [partA]))
  rw [← normed15]
  unfold rSpin turns
  rw [← angles28 V]
  rfl

theorem out100 : val6 V (Proc.devRef .tc main_v100)
    = arr4 (headsOf (partA (V (Proc.devRef .tc main_arg0)) 512 (by omega)) (V (Proc.devRef .tc main_arg3))) := by
  refine (val6_main_v100 V).trans (Eq.trans ?_ (heads_eq (extractStridedSlice S4x2048x512 ![0, 0, 512] (V (Proc.devRef .tc main_arg0)) slices_S4x2048x2640_S4x2048x512_0_0_512)
    (V (Proc.devRef .tc main_arg3)) (partA (V (Proc.devRef .tc main_arg0)) 512 (by omega)) fun b s j => by pointwise [partA]))
  rw [← normed65]
  unfold rSpin turns
  rw [← angles78 V]
  rfl

theorem out243 : val6 V (Proc.devRef .tc main_v243)
    = arr4 (headsOf (partB (V (Proc.devRef .tc main_arg1)) 0 (by omega)) (V (Proc.devRef .tc main_arg5))) := by
  refine (val6_main_v243 V).trans (Eq.trans ?_ (heads_eq (extractStridedSlice S4x2048x512 ![0, 0, 0] (V (Proc.devRef .tc main_arg1)) slices_S4x2048x1536_S4x2048x512_0_0_0)
    (V (Proc.devRef .tc main_arg5)) (partB (V (Proc.devRef .tc main_arg1)) 0 (by omega)) fun b s j => by pointwise [partB]))
  rw [← normed208]
  unfold rSpin turns
  rw [← angles221 V]
  rfl

theorem out293 : val6 V (Proc.devRef .tc main_v293)
    = arr4 (headsOf (partB (V (Proc.devRef .tc main_arg1)) 512 (by omega)) (V (Proc.devRef .tc main_arg6))) := by
  refine (val6_main_v293 V).trans (Eq.trans ?_ (heads_eq (extractStridedSlice S4x2048x512 ![0, 0, 512] (V (Proc.devRef .tc main_arg1)) slices_S4x2048x1536_S4x2048x512_0_0_512)
    (V (Proc.devRef .tc main_arg6)) (partB (V (Proc.devRef .tc main_arg1)) 512 (by omega)) fun b s j => by pointwise [partB]))
  rw [← normed258]
  unfold rSpin turns
  rw [← angles271 V]
  rfl

theorem out102 : val6 V (Proc.devRef .tc main_v102)
    = arr4 (valsOf (partA (V (Proc.devRef .tc main_arg0)) 1024 (by omega))) :=
  (val6_main_v102 V).trans (vals_eq (extractStridedSlice S4x2048x512 ![0, 0, 1024] (V (Proc.devRef .tc main_arg0)) slices_S4x2048x2640_S4x2048x512_0_0_1024)
    (partA (V (Proc.devRef .tc main_arg0)) 1024 (by omega)) fun b s j => by pointwise [partA])

theorem out295 : val6 V (Proc.devRef .tc main_v295)
    = arr4 (valsOf (partB (V (Proc.devRef .tc main_arg1)) 1024 (by omega))) :=
  (val6_main_v295 V).trans (vals_eq (extractStridedSlice S4x2048x512 ![0, 0, 1024] (V (Proc.devRef .tc main_arg1)) slices_S4x2048x1536_S4x2048x512_0_0_1024)
    (partB (V (Proc.devRef .tc main_arg1)) 1024 (by omega)) fun b s j => by pointwise [partB])

theorem out139 : val6 V (Proc.devRef .tc main_v139)
    = arrI (idxOf (partA (V (Proc.devRef .tc main_arg0)) 1536 (by omega))) := by
  refine (val6_main_v139 V).trans (Eq.trans ?_ (idx_eq (extractStridedSlice S4x2048x1024 ![0, 0, 1536] (V (Proc.devRef .tc main_arg0)) slices_S4x2048x2640_S4x2048x1024_0_0_1536)
    (partA (V (Proc.devRef .tc main_arg0)) 1536 (by omega)) fun b s j => by pointwise [partA]))
  unfold rSpinI turnsI
  rw [← angles117 V]
  rfl

theorem out190 : val6 V (Proc.devRef .tc main_v190)
    = arrK (keyOf (partA (V (Proc.devRef .tc main_arg0)) 2560 (by omega)) (V (Proc.devRef .tc main_arg4))) := by
  refine (val6_main_v190 V).trans (Eq.trans ?_ (key_eq (extractStridedSlice S4x2048x64 ![0, 0, 2560] (V (Proc.devRef .tc main_arg0)) slices_S4x2048x2640_S4x2048x64_0_0_2560)
    (V (Proc.devRef .tc main_arg4)) (partA (V (Proc.devRef .tc main_arg0)) 2560 (by omega)) fun b s j => by pointwise [partA]))
  rw [← normed154]
  unfold rSpinK turnsK
  rw [← angles167 V]
  rfl

theorem out193 : val6 V (Proc.devRef .tc main_v193)
    = arrW (weightOf (partA (V (Proc.devRef .tc main_arg0)) 2624 (by omega))) := by
  refine (val6_main_v193 V).trans ?_
  funext i
  obtain ⟨b, s, j, rfl⟩ : ∃ (b : Fin 4) (s : Fin 2048) (j : Fin 16), i = ix3 b s j := ⟨i 0, i 1, i 2, eq_ix3 i⟩
  generalize V (Proc.devRef .tc main_arg0) = x
  pointwise [partA, weightOf, arrW]
  first | done | rfl

end

section
open Idealize.SL.Sem

/-- The reference runs, ends with its nine results of its arguments, and leaves these. -/
theorem reference_run (m : (ℓ : Loc nD τ sig) → Buf (Elt Ideal) ℓ) (ρ : Dev nD → PrngReg)
    (x0 : (c : Dev nD) → FVec Ideal S4x2048x2640 .f32) (x1 : (c : Dev nD) → FVec Ideal S4x2048x1536 .f32)
    (x2 x3 : (c : Dev nD) → FVec Ideal S128 .f32) (x4 : (c : Dev nD) → FVec Ideal S64 .f32)
    (x5 x6 : (c : Dev nD) → FVec Ideal S128 .f32)
    (h0 : ∀ c : Dev nD, m ((c.tc : Thread nD τ).loc main_arg0) = x0 c)
    (h1 : ∀ c : Dev nD, m ((c.tc : Thread nD τ).loc main_arg1) = x1 c)
    (h2 : ∀ c : Dev nD, m ((c.tc : Thread nD τ).loc main_arg2) = x2 c)
    (h3 : ∀ c : Dev nD, m ((c.tc : Thread nD τ).loc main_arg3) = x3 c)
    (h4 : ∀ c : Dev nD, m ((c.tc : Thread nD τ).loc main_arg4) = x4 c)
    (h5 : ∀ c : Dev nD, m ((c.tc : Thread nD τ).loc main_arg5) = x5 c)
    (h6 : ∀ c : Dev nD, m ((c.tc : Thread nD τ).loc main_arg6) = x6 c) :
    θ_run defs (onTc (τ := τ) (main (F := Ideal))) ⟨m, fun _ => 0, ρ⟩
      fun r => ∀ c : Dev nD,
      r.2.mem ((c.tc : Thread nD τ).loc main_v50) = arr4 (headsOf (partA (x0 c) 0 (by omega)) (x2 c))
      ∧ r.2.mem ((c.tc : Thread nD τ).loc main_v100) = arr4 (headsOf (partA (x0 c) 512 (by omega)) (x3 c))
      ∧ r.2.mem ((c.tc : Thread nD τ).loc main_v102) = arr4 (valsOf (partA (x0 c) 1024 (by omega)))
      ∧ r.2.mem ((c.tc : Thread nD τ).loc main_v139) = arrI (idxOf (partA (x0 c) 1536 (by omega)))
      ∧ r.2.mem ((c.tc : Thread nD τ).loc main_v190) = arrK (keyOf (partA (x0 c) 2560 (by omega)) (x4 c))
      ∧ r.2.mem ((c.tc : Thread nD τ).loc main_v193) = arrW (weightOf (partA (x0 c) 2624 (by omega)))
      ∧ r.2.mem ((c.tc : Thread nD τ).loc main_v243) = arr4 (headsOf (partB (x1 c) 0 (by omega)) (x5 c))
      ∧ r.2.mem ((c.tc : Thread nD τ).loc main_v293) = arr4 (headsOf (partB (x1 c) 512 (by omega)) (x6 c))
      ∧ r.2.mem ((c.tc : Thread nD τ).loc main_v295) = arr4 (valsOf (partB (x1 c) 1024 (by omega)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  simp only [← h0, ← h1, ← h2, ← h3, ← h4, ← h5, ← h6]
  refine (θ_run defs _ _).mono (fun r h c => ?_) (Value.run (F := Ideal) m ρ)
  obtain ⟨a0, a1, a2, a3, a4, a5, a6, a7, a8, ha⟩ := h c
  exact ⟨a0.trans ((val6_main_v50 _).symm.trans (out50 _)), a1.trans ((val6_main_v100 _).symm.trans (out100 _)), a2.trans ((val6_main_v102 _).symm.trans (out102 _)), a3.trans ((val6_main_v139 _).symm.trans (out139 _)), a4.trans ((val6_main_v190 _).symm.trans (out190 _)), a5.trans ((val6_main_v193 _).symm.trans (out193 _)), a6.trans ((val6_main_v243 _).symm.trans (out243 _)), a7.trans ((val6_main_v293 _).symm.trans (out293 _)), a8.trans ((val6_main_v295 _).symm.trans (out295 _)), ha⟩

end

end Cert.Prep

end
-- ==== Proof.PrepEq.lean ====
module
public import proofs.«01_k».proof.Defs
public import proofs.«01_k».proof.Proof.PrepBlock
public import proofs.«01_k».proof.Proof.PrepRefRun

@[expose] public section
set_option maxRecDepth 16384
noncomputable section

/-! The head preparation's kernel and its reference agree over the extended reals. -/

namespace Cert.Prep
open Cert.Kernel5Ideal Cert.Kernel5Ideal.Gen Idealize.ShloMosaic Idealize.ShloMosaic.TcCoe Idealize.SL.Sem

section
variable (m : (ℓ : Loc nD τ sig) → Buf (Elt Ideal) ℓ) (c : Dev nD)

/-! The nine results of the launched arguments. -/

def out0 : FVec Ideal S4x2048x4x128 .f32 := arr4 (headsOf (partA (pas m c) 0 (by omega)) (gain2 m c))
def out1 : FVec Ideal S4x2048x4x128 .f32 := arr4 (headsOf (partA (pas m c) 512 (by omega)) (gain3 m c))
def out2 : FVec Ideal S4x2048x4x128 .f32 := arr4 (valsOf (partA (pas m c) 1024 (by omega)))
def out3 : FVec Ideal S4x2048x16x64 .f32 := arrI (idxOf (partA (pas m c) 1536 (by omega)))
def out4 : FVec Ideal S4x2048x64 .f32 := arrK (keyOf (partA (pas m c) 2560 (by omega)) (gain4 m c))
def out5 : FVec Ideal S4x2048x16 .f32 := arrW (weightOf (partA (pas m c) 2624 (by omega)))
def out6 : FVec Ideal S4x2048x4x128 .f32 := arr4 (headsOf (partB (pbs m c) 0 (by omega)) (gain5 m c))
def out7 : FVec Ideal S4x2048x4x128 .f32 := arr4 (headsOf (partB (pbs m c) 512 (by omega)) (gain6 m c))
def out8 : FVec Ideal S4x2048x4x128 .f32 := arr4 (valsOf (partB (pbs m c) 1024 (by omega)))

theorem end4 : Pipeline.withArrays (cfgs 0).spec c (V0 m c) (fun w => (dats m 0 c).arrAt w (cfgs 0).N)
    (Proc.devRef .tc main_v88_0) = flatQ (headsOf (grab m c 3456 (by omega)) (gain2 m c)) :=
  (Pipeline.withArrays_arr cfg0.spec launch0.win.arr_inj c (V0 m c) (fun w => (dats m 0 c).arrAt w cfg0.N) 4).trans
    (array4 m c)
theorem end7 : Pipeline.withArrays (cfgs 0).spec c (V0 m c) (fun w => (dats m 0 c).arrAt w (cfgs 0).N)
    (Proc.devRef .tc main_v88_3) = flatI (idxOf (grab m c 4992 (by omega))) :=
  (Pipeline.withArrays_arr cfg0.spec launch0.win.arr_inj c (V0 m c) (fun w => (dats m 0 c).arrAt w cfg0.N) 7).trans
    (array7 m c)
theorem end8 : Pipeline.withArrays (cfgs 0).spec c (V0 m c) (fun w => (dats m 0 c).arrAt w (cfgs 0).N)
    (Proc.devRef .tc main_v88_4) = flatK (keyOf (grab m c 6016 (by omega)) (gain4 m c)) (heavy m c) :=
  (Pipeline.withArrays_arr cfg0.spec launch0.win.arr_inj c (V0 m c) (fun w => (dats m 0 c).arrAt w cfg0.N) 8).trans
    (array8 m c)
theorem end9 : Pipeline.withArrays (cfgs 0).spec c (V0 m c) (fun w => (dats m 0 c).arrAt w (cfgs 0).N)
    (Proc.devRef .tc main_v88_5) = flatQ (headsOf (grab m c 6144 (by omega)) (gain5 m c)) :=
  (Pipeline.withArrays_arr cfg0.spec launch0.win.arr_inj c (V0 m c) (fun w => (dats m 0 c).arrAt w cfg0.N) 9).trans
    (array9 m c)
theorem end12 : Pipeline.withArrays (cfgs 0).spec c (V0 m c) (fun w => (dats m 0 c).arrAt w (cfgs 0).N)
    (Proc.devRef .tc main_v88_8) = flatR (headsOf (grab m c 3968 (by omega)) (gain3 m c)) :=
  (Pipeline.withArrays_arr cfg0.spec launch0.win.arr_inj c (V0 m c) (fun w => (dats m 0 c).arrAt w cfg0.N) 12).trans
    (array12 m c)
theorem end13 : Pipeline.withArrays (cfgs 0).spec c (V0 m c) (fun w => (dats m 0 c).arrAt w (cfgs 0).N)
    (Proc.devRef .tc main_v88_9) = flatR (valsOf (grab m c 4480 (by omega))) :=
  (Pipeline.withArrays_arr cfg0.spec launch0.win.arr_inj c (V0 m c) (fun w => (dats m 0 c).arrAt w cfg0.N) 13).trans
    (array13 m c)
theorem end14 : Pipeline.withArrays (cfgs 0).spec c (V0 m c) (fun w => (dats m 0 c).arrAt w (cfgs 0).N)
    (Proc.devRef .tc main_v88_10) = flatR (headsOf (grab m c 6656 (by omega)) (gain6 m c)) :=
  (Pipeline.withArrays_arr cfg0.spec launch0.win.arr_inj c (V0 m c) (fun w => (dats m 0 c).arrAt w cfg0.N) 14).trans
    (array14 m c)
theorem end15 : Pipeline.withArrays (cfgs 0).spec c (V0 m c) (fun w => (dats m 0 c).arrAt w (cfgs 0).N)
    (Proc.devRef .tc main_v88_11) = flatR (valsOf (grab m c 7168 (by omega))) :=
  (Pipeline.withArrays_arr cfg0.spec launch0.win.arr_inj c (V0 m c) (fun w => (dats m 0 c).arrAt w cfg0.N) 15).trans
    (array15 m c)

theorem tail89 : Pipeline.afterTail₀ cfgs (dats m) 0 (V0 m) [hostOps1] c main_v89 = out0 m c := by
  unfold Pipeline.afterTail₀
  simp only [hostOps1, List.flatten_cons, List.flatten_nil, List.append_nil, List.cons_append, List.nil_append]
  after_results
  rw [end4]
  exact (apart_q _).trans (congrArg (fun x => arr4 (headsOf x (gain2 m c))) (grab_a m c 3456 0 _ _ rfl))
theorem tail90 : Pipeline.afterTail₀ cfgs (dats m) 0 (V0 m) [hostOps1] c main_v90 = out1 m c := by
  unfold Pipeline.afterTail₀
  simp only [hostOps1, List.flatten_cons, List.flatten_nil, List.append_nil, List.cons_append, List.nil_append]
  after_results
  rw [end12]
  exact (apart_r _).trans (congrArg (fun x => arr4 (headsOf x (gain3 m c))) (grab_a m c 3968 512 _ _ rfl))
theorem tail91 : Pipeline.afterTail₀ cfgs (dats m) 0 (V0 m) [hostOps1] c main_v91 = out2 m c := by
  unfold Pipeline.afterTail₀
  simp only [hostOps1, List.flatten_cons, List.flatten_nil, List.append_nil, List.cons_append, List.nil_append]
  after_results
  rw [end13]
  exact (apart_r _).trans (congrArg (fun x => arr4 (valsOf x)) (grab_a m c 4480 1024 _ _ rfl))
theorem tail92 : Pipeline.afterTail₀ cfgs (dats m) 0 (V0 m) [hostOps1] c main_v92 = out3 m c := by
  unfold Pipeline.afterTail₀
  simp only [hostOps1, List.flatten_cons, List.flatten_nil, List.append_nil, List.cons_append, List.nil_append]
  after_results
  rw [end7]
  exact (apart_i _).trans (congrArg (fun x => arrI (idxOf x)) (grab_a m c 4992 1536 _ _ rfl))
theorem tail94 : Pipeline.afterTail₀ cfgs (dats m) 0 (V0 m) [hostOps1] c main_v94 = out4 m c := by
  unfold Pipeline.afterTail₀
  simp only [hostOps1, List.flatten_cons, List.flatten_nil, List.append_nil, List.cons_append, List.nil_append]
  after_results
  rw [end8]
  exact (apart_k _ _).trans (congrArg (fun x => arrK (keyOf x (gain4 m c))) (grab_a m c 6016 2560 _ _ rfl))
theorem tail96 : Pipeline.afterTail₀ cfgs (dats m) 0 (V0 m) [hostOps1] c main_v96 = out5 m c := by
  unfold Pipeline.afterTail₀
  simp only [hostOps1, List.flatten_cons, List.flatten_nil, List.append_nil, List.cons_append, List.nil_append]
  after_results
  rw [end8]
  exact (apart_w _ _).trans (congrArg (fun x => arrW (weightOf x)) (grab_a (n := 16) m c 6080 2624 (by omega) (by omega) rfl))
theorem tail97 : Pipeline.afterTail₀ cfgs (dats m) 0 (V0 m) [hostOps1] c main_v97 = out6 m c := by
  unfold Pipeline.afterTail₀
  simp only [hostOps1, List.flatten_cons, List.flatten_nil, List.append_nil, List.cons_append, List.nil_append]
  after_results
  rw [end9]
  exact (apart_q _).trans (congrArg (fun x => arr4 (headsOf x (gain5 m c))) (grab_b m c 6144 0 _ _ rfl))
theorem tail98 : Pipeline.afterTail₀ cfgs (dats m) 0 (V0 m) [hostOps1] c main_v98 = out7 m c := by
  unfold Pipeline.afterTail₀
  simp only [hostOps1, List.flatten_cons, List.flatten_nil, List.append_nil, List.cons_append, List.nil_append]
  after_results
  rw [end14]
  exact (apart_r _).trans (congrArg (fun x => arr4 (headsOf x (gain6 m c))) (grab_b m c 6656 512 _ _ rfl))
theorem tail99 : Pipeline.afterTail₀ cfgs (dats m) 0 (V0 m) [hostOps1] c main_v99 = out8 m c := by
  unfold Pipeline.afterTail₀
  simp only [hostOps1, List.flatten_cons, List.flatten_nil, List.append_nil, List.cons_append, List.nil_append]
  after_results
  rw [end15]
  exact (apart_r _).trans (congrArg (fun x => arr4 (valsOf x)) (grab_b m c 7168 1024 _ _ rfl))
end

variable (m : (ℓ : Loc nD τ sig) → Buf (Elt Ideal) ℓ)

/-- The kernel runs and ends with the nine results of its arguments. -/
theorem kernel_run (ρ : Dev nD → PrngReg) : θ_run defs (onTc (τ := τ) (main (F := Ideal))) ⟨m, fun _ => 0, ρ⟩
    fun r => ∀ c : Dev nD, r.2.mem ((c.tc : Thread nD τ).loc main_v89) = out0 m c
      ∧ r.2.mem ((c.tc : Thread nD τ).loc main_v90) = out1 m c
      ∧ r.2.mem ((c.tc : Thread nD τ).loc main_v91) = out2 m c
      ∧ r.2.mem ((c.tc : Thread nD τ).loc main_v92) = out3 m c
      ∧ r.2.mem ((c.tc : Thread nD τ).loc main_v94) = out4 m c
      ∧ r.2.mem ((c.tc : Thread nD τ).loc main_v96) = out5 m c
      ∧ r.2.mem ((c.tc : Thread nD τ).loc main_v97) = out6 m c
      ∧ r.2.mem ((c.tc : Thread nD τ).loc main_v98) = out7 m c
      ∧ r.2.mem ((c.tc : Thread nD τ).loc main_v99) = out8 m c :=
  (θ_run defs _ _).mono (fun r h c =>
      ⟨((h c).2 main_v89 (Pipeline.mem_restRefs_of main_v89 (by decide) (by decide))).trans (tail89 m c),
        ((h c).2 main_v90 (Pipeline.mem_restRefs_of main_v90 (by decide) (by decide))).trans (tail90 m c),
        ((h c).2 main_v91 (Pipeline.mem_restRefs_of main_v91 (by decide) (by decide))).trans (tail91 m c),
        ((h c).2 main_v92 (Pipeline.mem_restRefs_of main_v92 (by decide) (by decide))).trans (tail92 m c),
        ((h c).2 main_v94 (Pipeline.mem_restRefs_of main_v94 (by decide) (by decide))).trans (tail94 m c),
        ((h c).2 main_v96 (Pipeline.mem_restRefs_of main_v96 (by decide) (by decide))).trans (tail96 m c),
        ((h c).2 main_v97 (Pipeline.mem_restRefs_of main_v97 (by decide) (by decide))).trans (tail97 m c),
        ((h c).2 main_v98 (Pipeline.mem_restRefs_of main_v98 (by decide) (by decide))).trans (tail98 m c),
        ((h c).2 main_v99 (Pipeline.mem_restRefs_of main_v99 (by decide) (by decide))).trans (tail99 m c)⟩)
    (run_main m ρ)

/-- Both programs run, leave their arguments, and end with equal results. -/
theorem agree : algebraic_Kernel5Ideal_Reference5Ideal := by
  intro m ρ m' ρ' _ hm
  refine ⟨out0 m, out1 m, out2 m, out3 m, out4 m, out5 m, out6 m, out7 m, out8 m, ?_, ?_⟩
  · refine (θ_run defs _ _).mono (fun r h c => ?_) (θ_run_and (kernel_run m ρ) (frame_of m ρ (dats m) (A_eq m) (run_main m ρ)))
    obtain ⟨h0, h1, h2, h3, h4, h5, h6, h7, h8⟩ := h.1 c
    exact ⟨h0, h1, h2, h3, h4, h5, h6, h7, h8, h.2 c⟩
  · exact reference_run m' ρ' (pas m) (pbs m) (gain2 m) (gain3 m) (gain4 m) (gain5 m) (gain6 m) (fun c => (hm c).1)
      (fun c => (hm c).2.1) (fun c => (hm c).2.2.1) (fun c => (hm c).2.2.2.1) (fun c => (hm c).2.2.2.2.1)
      (fun c => (hm c).2.2.2.2.2.1) (fun c => (hm c).2.2.2.2.2.2)

end Cert.Prep

end
-- ==== Proof.MlpBlock.lean ====
module

public import proofs.«01_k».proof.Proof.Gen.Kernel2Ideal.Value
public import Idealize.ShloMosaic.Lib.Pointwise
public import Idealize.ShloMosaic.Lib.Tactic

@[expose] public section

noncomputable section

/-! What one grid point of the feed-forward kernel leaves: the accumulator and the normalised rows. -/

namespace Cert.Mlp

open Cert.Kernel2Ideal Cert.Kernel2Ideal.Gen Idealize.ShloMosaic Idealize.ShloMosaic.TcCoe Idealize.SL.Sem

variable {F : FTy → Type} [FloatOps F]

theorem zeros2 : (![0, 0] : Fin 2 → Nat) = fun _ => 0 := by
  funext a; revert a; decide

section

variable (c : Dev nD) (i : grid0.Coords)
  (a2 : Memref sig .tc .vmem S512x2048 .f32) (h2 : a2.IsWhole)
  (a3 : Memref sig .tc .vmem S1x2048 .f32) (h3 : a3.IsWhole)
  (a4 : Memref sig .tc .vmem S2048x1024 .bf16) (h4 : a4.IsWhole)
  (a5 : Memref sig .tc .vmem S1024x2048 .bf16) (h5 : a5.IsWhole)
  (a6 : Memref sig .tc .vmem S512x2048 .f32) (h6 : a6.IsWhole)
  (a7 : Memref sig .tc .vmem S512x2048 .bf16) (h7 : a7.IsWhole)
  (x0 : Vec F S512x2048 .f32) (x1 : Vec F S1x2048 .f32)
  (x2 : Vec F S2048x1024 .bf16) (x3 : Vec F S1024x2048 .bf16)

/-- A later point of a row block: the accumulator gains this point's product. -/
theorem acc_next (hc : ¬cond0_0 i) (xo : Vec F S512x2048 .f32) (xs : Vec F S512x2048 .bf16) :
    out0_B_4 c i a2 h2 a3 h3 a4 h4 a5 h5 a6 h6 a7 h7 hc x0 x1 x2 x3 xo xs = k0_pay2 xs x2 xo x3 := by
  unfold out0_B_4
  rw [View.read_writes_eq_canon _ _ _
    (cover0_B_4 c i a2 h2 a3 h3 a4 h4 a5 h5 a6 h6 a7 h7 hc x0 x1 x2 x3 xo xs)]
  unfold kernelRun0_B
  dsimp only
  rw [View.canon_unit_zero zeros2]
  simp only [View.readAt_eq_ld, h2.read_unread, h3.read_unread, h4.read_unread, h5.read_unread,
    h6.read_unread, h7.read_unread, View.ld_unit_zero (S := S512x2048) zeros2,
    View.ld_unit_zero (S := S2048x1024) zeros2, View.ld_unit_zero (S := S1024x2048) zeros2]

/-- The first point of a row block leaves the normalised rows in the scratch. -/
theorem rows_first (hc : cond0_0 i) :
    sout0_A_0 c i a2 h2 a3 h3 a4 h4 a5 h5 a6 h6 a7 h7 hc x0 x1 x2 x3 = k0_pay1 x0 x1 := by
  unfold sout0_A_0
  rw [View.read_writes_eq_canon _ _ _
    (scover0_A_0 c i a2 h2 a3 h3 a4 h4 a5 h5 a6 h6 a7 h7 hc x0 x1 x2 x3)]
  unfold kernelRun0_A
  dsimp only
  sl_unfold_words
  rw [View.canon_unit_zero zeros2]
  simp only [View.readAt_eq_ld, h2.read_unread, h3.read_unread,
    View.ld_unit_zero (S := S512x2048) zeros2, View.ld_unit_zero (S := S1x2048) zeros2]

/-- The first point of a row block starts the accumulator at the rows themselves and adds the
    first product, taken over the rows it has just normalised. -/
theorem acc_first (hc : cond0_0 i) :
    out0_A_4 c i a2 h2 a3 h3 a4 h4 a5 h5 a6 h6 a7 h7 hc x0 x1 x2 x3
      = k0_pay2 (k0_pay1 x0 x1) x2 x0 x3 := by
  unfold out0_A_4
  rw [View.read_writes_eq_canon _ _ _
    (cover0_A_4 c i a2 h2 a3 h3 a4 h4 a5 h5 a6 h6 a7 h7 hc x0 x1 x2 x3)]
  unfold kernelRun0_A
  dsimp only
  sl_unfold_words
  rw [View.canon_cons_unit_zero (S := S512x2048) zeros2]
  simp only [View.readCov_unit_zero (S := S512x2048) _ zeros2, View.readAt_eq_ld, h2.read_unread,
    h3.read_unread, h4.read_unread, h5.read_unread, View.ld_unit_zero (S := S512x2048) zeros2,
    View.ld_unit_zero (S := S1x2048) zeros2, View.ld_unit_zero (S := S2048x1024) zeros2,
    View.ld_unit_zero (S := S1024x2048) zeros2]

end

/-- The pair a grid point carries on, over what the point before it left. -/
theorem step_first (m : (ℓ : Loc nD τ sig) → Buf (Elt F) ℓ) (c : Dev nD) (t : Fin cfg0.N)
    (h : t.val % 8 = 0) : outsAt0 m c t.val t.isLt =
      (k0_pay2 (k0_pay1 (iblk m c 0 t) (iblk m c 1 t)) (iblk m c 2 t) (iblk m c 0 t) (iblk m c 3 t),
        k0_pay1 (iblk m c 0 t) (iblk m c 1 t)) := by
  rw [outsAt0_A m c t h, acc_first, rows_first]

/-- Past the first point of its row block a point adds to the accumulator and keeps the rows. -/
theorem step_next (m : (ℓ : Loc nD τ sig) → Buf (Elt F) ℓ) (c : Dev nD) (n : ℕ) (hn : n + 1 < cfg0.N)
    (h : ¬(n + 1) % 8 = 0) : outsAt0 m c (n + 1) hn =
      (k0_pay2 (outsAt0 m c n (Nat.lt_of_succ_lt hn)).2 (iblk m c 2 ⟨n + 1, hn⟩)
        (outsAt0 m c n (Nat.lt_of_succ_lt hn)).1 (iblk m c 3 ⟨n + 1, hn⟩),
        (outsAt0 m c n (Nat.lt_of_succ_lt hn)).2) := by
  rw [outsAt0_B m c ⟨n + 1, hn⟩ h, acc_next]
  rfl

end Cert.Mlp

end
-- ==== Proof.MlpFold.lean ====
module

public import proofs.«01_k».proof.Proof.MlpBlock
public import proofs.«01_k».proof.Proof.MlpPay
public import Idealize.ShloMosaic.Lib.Pointwise

@[expose] public section

set_option maxRecDepth 16384

noncomputable section

/-! What the feed-forward kernel's result array holds: the rows plus the hidden units' product,
    summed over the eight column tiles of the hidden layer. -/

namespace Cert.Mlp

open Cert.Kernel2Ideal Cert.Kernel2Ideal.Gen Idealize.ShloMosaic Idealize.ShloMosaic.TcCoe Idealize.SL.Sem

/-- Where each window's block lies at a grid point: the row tile is the quotient by eight, the
    hidden tile the remainder. -/
theorem tiles : ∀ t : Fin cfg0.N,
    (win0_0.index t (0 : Fin 2) = t.val / 8 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 8)
    ∧ (win0_3.index t (0 : Fin 2) = t.val % 8 ∧ win0_3.index t (1 : Fin 2) = 0) :=
  (by decide +kernel : ∀ t : Fin grid0.N, _)

variable (m : (ℓ : Loc nD τ sig) → Buf (Elt Ideal) ℓ) (c : Dev nD)

/-- The four arguments as launched. -/
abbrev xs : Vec Ideal S8192x2048 .f32 := m ((c : Thread nD τ).loc main_arg0)
abbrev gs : Vec Ideal S2048 .f32 := m ((c : Thread nD τ).loc main_arg1)
abbrev us : Vec Ideal S2048x8192 .f32 := m ((c : Thread nD τ).loc main_arg2)
abbrev ws : Vec Ideal S8192x2048 .f32 := m ((c : Thread nD τ).loc main_arg3)

theorem gain_in (e : Fin 2048) : V m c main_v2 (ix2 0 e) = gs m c (ix1 e) := by
  unfold V
  simp only [hostOps0]
  after_results
  pointwise

theorem up_in (d : Fin 2048) (k : Fin 8192) : V m c main_v0 (ix2 d k) = us m c (ix2 d k) := by
  unfold V
  simp only [hostOps0]
  after_results
  rfl

theorem down_in (k : Fin 8192) (e : Fin 2048) : V m c main_v1 (ix2 k e) = ws m c (ix2 k e) := by
  unfold V
  simp only [hostOps0]
  after_results
  rfl

/-- The row block's element at a grid point. -/
theorem block_x (t : Fin cfg0.N) (R : Fin 8192) (r : Fin 512) (e : Fin 2048)
    (hR : R.val = 512 * (t.val / 8) + r.val) : iblk m c 0 t (ix2 r e) = xs m c (ix2 R e) := by
  unfold iblk
  rw [View.read_apply]
  show V m c main_arg0 _ = _
  rw [V_main_arg0]
  congr 1
  funext a
  apply Fin.ext
  have h := (tiles t).1
  match a with
  | ⟨0, _⟩ => show win0_0.index t 0 * 512 + 1 * r.val = R.val; omega
  | ⟨1, _⟩ => show win0_0.index t 1 * 2048 + 1 * e.val = e.val; omega

/-- The gain's element at a grid point. -/
theorem block_g (t : Fin cfg0.N) (e : Fin 2048) : iblk m c 1 t (ix2 0 e) = gs m c (ix1 e) := by
  unfold iblk
  rw [View.read_apply]
  refine Eq.trans ?_ (gain_in m c e)
  show V m c main_v2 _ = _
  congr 1
  funext a
  apply Fin.ext
  have h := (tiles t).2.1
  match a with
  | ⟨0, _⟩ => show win0_1.index t 0 * 1 + 1 * 0 = 0; omega
  | ⟨1, _⟩ => show win0_1.index t 1 * 2048 + 1 * e.val = e.val; omega

/-- The first weight's element at a grid point: its column tile. -/
theorem block_u (t : Fin cfg0.N) (d : Fin 2048) (k : Fin 1024) (K : Fin 8192)
    (hK : K.val = k.val + 1024 * (t.val % 8)) : iblk m c 2 t (ix2 d k) = us m c (ix2 d K) := by
  unfold iblk
  rw [View.read_apply]
  refine Eq.trans ?_ (up_in m c d K)
  show V m c main_v0 _ = _
  congr 1
  funext a
  apply Fin.ext
  have h := (tiles t).2.2.1
  match a with
  | ⟨0, _⟩ => show win0_2.index t 0 * 2048 + 1 * d.val = d.val; omega
  | ⟨1, _⟩ => show win0_2.index t 1 * 1024 + 1 * k.val = K.val; omega

/-- The second weight's element at a grid point: its row tile. -/
theorem block_w (t : Fin cfg0.N) (k : Fin 1024) (K : Fin 8192) (e : Fin 2048)
    (hK : K.val = k.val + 1024 * (t.val % 8)) : iblk m c 3 t (ix2 k e) = ws m c (ix2 K e) := by
  unfold iblk
  rw [View.read_apply]
  refine Eq.trans ?_ (down_in m c K e)
  show V m c main_v1 _ = _
  congr 1
  funext a
  apply Fin.ext
  have h := (tiles t).2.2.2
  match a with
  | ⟨0, _⟩ => show win0_3.index t 0 * 1024 + 1 * k.val = K.val; omega
  | ⟨1, _⟩ => show win0_3.index t 1 * 2048 + 1 * e.val = e.val; omega

/-- A normalised row of the whole array. -/
def row (R : Fin 8192) : Fin 2048 → EReal :=
  unit (fun k => xs m c (ix2 R k)) (fun k => gs m c (ix1 k))

/-- One hidden unit's part of one element of the result. -/
def part (R : Fin 8192) (e : Fin 2048) (K : Fin 8192) : EReal :=
  hidden (row m c R) (fun d => us m c (ix2 d K)) * ws m c (ix2 K e)

/-- The parts of one tile of the hidden layer, added up. -/
def tile (R : Fin 8192) (e : Fin 2048) (s : ℕ) : EReal :=
  ∑ k : Fin 1024, part m c R e (Fin.ofNat 8192 (k.val + 1024 * s))

theorem tile_val (s : ℕ) (hs : s < 8) (k : Fin 1024) :
    (Fin.ofNat 8192 (k.val + 1024 * s)).val = k.val + 1024 * s :=
  Nat.mod_eq_of_lt (by have := k.isLt; omega)

/-- What the first `j + 1` points of row block `b` leave: the accumulator holds the rows and the
    first `j + 1` tiles, the scratch the normalised rows. -/
theorem carried (b : ℕ) (hb : b < 16) : ∀ (j : ℕ) (hj : j < 8) (h : 8 * b + j < cfg0.N)
    (R : Fin 8192) (r : Fin 512) (e : Fin 2048), R.val = 512 * b + r.val →
    (outsAt0 m c (8 * b + j) h).1 (ix2 r e)
      = xs m c (ix2 R e) + ∑ s ∈ Finset.range (j + 1), tile m c R e s
    ∧ (outsAt0 m c (8 * b + j) h).2 (ix2 r e) = row m c R e
  | 0, hj, h, R, r, e, hR => by
    have hq : R.val = 512 * ((⟨8 * b + 0, h⟩ : Fin cfg0.N).val / 8) + r.val := by dsimp only; omega
    rw [step_first m c ⟨8 * b + 0, h⟩ (by dsimp only; omega)]
    dsimp only
    have hy : ∀ d : Fin 2048, k0_pay1 (F := Ideal) (iblk m c 0 ⟨8 * b + 0, h⟩)
        (iblk m c 1 ⟨8 * b + 0, h⟩) (ix2 r d) = row m c R d := fun d => by
      rw [pay1_apply, row]
      simp only [block_x m c ⟨8 * b + 0, h⟩ R r _ hq, block_g]
    refine ⟨?_, hy e⟩
    rw [pay2_apply, block_x m c _ R r e hq, Finset.sum_range_one, tile]
    refine Ideal.add_congr rfl (Finset.sum_congr rfl fun k _ => ?_)
    have hk := tile_val 0 (by omega) k
    simp only [hy]
    rw [part, block_w m c _ k _ e (hk.trans (by dsimp only; omega))]
    simp only [block_u m c ⟨8 * b + 0, h⟩ _ k _ (hk.trans (by dsimp only; omega))]
  | j + 1, hj, h, R, r, e, hR => by
    have ih := carried b hb j (by omega) (Nat.lt_of_succ_lt h) R r
    show (outsAt0 m c ((8 * b + j) + 1) h).1 (ix2 r e) = _ ∧ (outsAt0 m c ((8 * b + j) + 1) h).2 (ix2 r e) = _
    rw [step_next m c (8 * b + j) h (by omega)]
    dsimp only
    refine ⟨?_, (ih e hR).2⟩
    rw [pay2_apply, (ih e hR).1, Finset.sum_range_succ _ (j + 1), ← add_assoc]
    refine Ideal.add_congr rfl (Finset.sum_congr rfl fun k _ => ?_)
    have hk := tile_val (j + 1) hj k
    simp only [fun d => (ih d hR).2]
    rw [part, block_w m c _ k _ e (hk.trans (by dsimp only; omega))]
    simp only [block_u m c ⟨8 * b + j + 1, h⟩ _ k _ (hk.trans (by dsimp only; omega))]

/-- Eight tiles of 1024 hidden units are the 8192 hidden units. -/
theorem tiles_sum (R : Fin 8192) (e : Fin 2048) :
    ∑ s ∈ Finset.range 8, tile m c R e s = ∑ K, part m c R e K := by
  rw [← Fin.sum_univ_eq_sum_range (tile m c R e) 8]
  unfold tile
  rw [← Fintype.sum_prod_type' (f := fun (s : Fin 8) (k : Fin 1024) =>
    part m c R e (Fin.ofNat 8192 (k.val + 1024 * s.val)))]
  refine Fintype.sum_equiv (finProdFinEquiv (m := 8) (n := 1024)) _ (part m c R e) fun p => ?_
  congr 1
  exact Fin.ext (tile_val p.1.val p.1.isLt p.2)

/-- The kernel's result at an element: the row's element plus the hidden units' product. -/
theorem result_apply (R : Fin 8192) (e : Fin 2048) :
    Value.G4 m c (ix2 R e) = xs m c (ix2 R e) + ∑ K, part m c R e K := by
  have hR := R.isLt
  have he := e.isLt
  have hp : Value.pt4Of (ix2 R e) = 8 * (R.val / 512) + 7 := by
    show 8 * (1 * (R.val / 512 - 0) + 1 * (e.val / 2048 - 0)) + 7 = _
    omega
  have hN : cfg0.N = 128 := N_0
  have hlt : 8 * (R.val / 512) + 7 < cfg0.N := by omega
  have hl : Value.loc4Of (ix2 R e) = ix2 (⟨R.val % 512, Nat.mod_lt _ (by decide)⟩ : Fin 512) e := by
    funext a
    match a with
    | ⟨0, _⟩ => rfl
    | ⟨1, _⟩ => exact Fin.ext (Nat.mod_eq_of_lt he)
  unfold Value.G4
  rw [dif_pos (by rw [hp]; exact hlt), hl,
    Value.fold0_congr m c _ _ (8 * (R.val / 512) + 7) (by omega) hp, ← Value.outsAt0_sweep m c _ hlt,
    (carried m c (R.val / 512) (by omega) 7 (by omega) hlt R _ e
      (by dsimp only; omega)).1, tiles_sum]

end Cert.Mlp

end
-- ==== Proof.MlpRef.lean ====
module

public import proofs.«01_k».proof.Proof.Gen.Reference2Ideal.Run
public import proofs.«01_k».proof.Proof.MlpPay
public import Idealize.ShloMosaic.Lib.Pointwise

@[expose] public section

set_option maxRecDepth 16384

noncomputable section

/-! What the feed-forward layer's reference computes, read at an element. -/

namespace Cert.Mlp.Ref

open Cert.Reference2Ideal Cert.Reference2Ideal.Gen Idealize.ShloMosaic

/-- The reference's normalised rows. -/
def rows (x : FVec Ideal S8192x2048 .f32) (g : FVec Ideal S2048 .f32) : FVec Ideal S8192x2048 .f32 :=
  mulf (mulf x (broadcastInDim S8192x2048 ![0, 1] bcast_S8192x1_S8192x2048_0_1 (Host.rsqrt (addf
    (Host.divf (broadcastInDim S8192x1 ![0] bcast_S8192_S8192x1_0 (Host.reduceAdd (mulf x x)
      (constant S_ .f32 0x00000000#32) reducesTo_S8192x2048_S8192_d1 h_S_))
      (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1
      (broadcastInDim S1x2048 ![1] bcast_S2048_S1x2048_1 g))

/-- The positive part of the rows' product with the first weight. -/
def active (x : FVec Ideal S8192x2048 .f32) (g : FVec Ideal S2048 .f32)
    (u : FVec Ideal S2048x8192 .f32) : FVec Ideal S8192x8192 .f32 :=
  maximumf (Host.dotGeneral dot_S8192x2048_S2048x8192_S8192x8192_1_0_0_1_n_n none (rows x g) u)
    (broadcastInDim S8192x8192 ![] bcast_S_S8192x8192 (constant S_ .f32 0x00000000#32))

/-- The reference's result. -/
def out (x : FVec Ideal S8192x2048 .f32) (g : FVec Ideal S2048 .f32) (u : FVec Ideal S2048x8192 .f32)
    (w : FVec Ideal S8192x2048 .f32) : FVec Ideal S8192x2048 .f32 :=
  addf x (Host.dotGeneral dot_S8192x8192_S8192x2048_S8192x2048_1_0_0_1_n_n none
    (mulf (active x g u) (active x g u)) w)

theorem rows_apply (x : FVec Ideal S8192x2048 .f32) (g : FVec Ideal S2048 .f32) (R : Fin 8192)
    (e : Fin 2048) : rows x g (ix2 R e) = unit (fun k => x (ix2 R k)) (fun k => g (ix1 k)) e := by
  pointwise [rows]
  rfl

theorem active_apply (x : FVec Ideal S8192x2048 .f32) (g : FVec Ideal S2048 .f32)
    (u : FVec Ideal S2048x8192 .f32) (R K : Fin 8192) : active x g u (ix2 R K)
      = max (∑ d, unit (fun k => x (ix2 R k)) (fun k => g (ix1 k)) d * u (ix2 d K)) 0 := by
  pointwise [active]
  simp only [rows_apply]

/-- The reference's result at an element: the row's element plus the hidden units' product. -/
theorem out_apply (x : FVec Ideal S8192x2048 .f32) (g : FVec Ideal S2048 .f32)
    (u : FVec Ideal S2048x8192 .f32) (w : FVec Ideal S8192x2048 .f32) (R : Fin 8192) (e : Fin 2048) :
    out x g u w (ix2 R e) = x (ix2 R e) + ∑ K, hidden (unit (fun k => x (ix2 R k)) (fun k => g (ix1 k)))
      (fun d => u (ix2 d K)) * w (ix2 K e) := by
  pointwise [out]
  simp only [active_apply]
  rfl

end Cert.Mlp.Ref

end
-- ==== Proof.MlpEq.lean ====
module

public import proofs.«01_k».proof.Defs
public import proofs.«01_k».proof.Proof.MlpFold
public import proofs.«01_k».proof.Proof.MlpRef

@[expose] public section

noncomputable section

/-! The feed-forward kernel and its reference agree over the extended reals. -/

namespace Cert.Mlp

open Idealize.ShloMosaic Idealize.SL.Sem

/-- The kernel's result array is the reference's result of the same arguments. -/
theorem result_eq (m : (ℓ : Loc Cert.Kernel2Ideal.nD Cert.Kernel2Ideal.τ Cert.Kernel2Ideal.sig) → Buf (Elt Ideal) ℓ)
    (c : Dev Cert.Kernel2Ideal.nD) :
    Ref.out (xs m c) (gs m c) (us m c) (ws m c) = Cert.Kernel2Ideal.Value.G4 m c := by
  funext i
  obtain ⟨R, e, rfl⟩ : ∃ (R : Fin 8192) (e : Fin 2048), i = ix2 R e := ⟨i 0, i 1, eq_ix2 i⟩
  rw [Ref.out_apply, result_apply]
  rfl

/-- Both programs run, leave their arguments, and end with equal results. -/
theorem agree : algebraic_Kernel2Ideal_Reference2Ideal := by
  intro m ρ m' ρ' _ hm
  refine ⟨_, Cert.Kernel2Ideal.Value.run (F := Ideal) m ρ, ?_⟩
  refine (θ_run Cert.Reference2Ideal.defs _ _).mono (fun _ h c => ⟨?_, (h c).2⟩)
    (Cert.Reference2Ideal.Value.run (F := Ideal) m' ρ')
  rw [(h c).1]
  simp only [hm c]
  exact result_eq m c

end Cert.Mlp

end
-- ==== Proof.ProjPay.lean ====
module

public import proofs.«01_k».proof.Proof.Gen.Kernel3Ideal.Skeleton
public import proofs.«01_k».proof.Proof.Gen.Reference3Ideal.Run
public import proofs.«01_k».proof.Proof.MlpPay
public import Idealize.ShloMosaic.Lib.Pointwise

@[expose] public section

set_option maxRecDepth 16384

noncomputable section

/-! The input projection read at an element over the extended reals: the kernel's two stored values,
    the weight as the layer packs it, and the reference. -/

namespace Cert.Proj

open Idealize.ShloMosaic Cert.Mlp

section
open Cert.Kernel3Ideal Cert.Kernel3Ideal.Gen

/-- The normalised rows the first point of a row block stores. -/
theorem pay1_apply (x : Vec Ideal S1024x2048 .f32) (g : Vec Ideal S1x2048 .f32) (r : Fin 1024)
    (e : Fin 2048) : k0_pay1 (F := Ideal) x g (ix2 r e)
      = unit (fun k => x (ix2 r k)) (fun k => g (ix2 0 k)) e := by
  pointwise [k0_pay1]
  rfl

/-- A block of the result: the rows' product with a tile of the weight's columns. -/
theorem pay2_apply (y : Vec Ideal S1024x2048 .bf16) (w : Vec Ideal S2048x1536 .bf16) (r : Fin 1024)
    (e : Fin 1536) : k0_pay2 (F := Ideal) y w (ix2 r e) = ∑ d, y (ix2 r d) * w (ix2 d e) := by
  pointwise [k0_pay2]

variable (w : FVec Ideal S2048x7536 .f32) (d : Fin 2048)

/-- The weight's three groups of columns, the third one first; it and the first are padded to a whole
    number of lanes. -/
abbrev groups : List ((s : Shape) × (s.Idx → EReal)) :=
  [⟨S2048x3456, pad S2048x3456 ![0, 0] ![0, 96] ![0, 0]
      (extractStridedSlice S2048x3360 ![0, 4176] w slices_S2048x7536_S2048x3360_0_4176)
      (sitofp (F := Ideal) .f32 (constantI S_ 32 0#32)) pads_S2048x3360_S2048x3456_000_0960 h_S_⟩,
    ⟨S2048x2688, pad S2048x2688 ![0, 0] ![0, 48] ![0, 0]
      (extractStridedSlice S2048x2640 ![0, 0] w slices_S2048x7536_S2048x2640_0_0)
      (sitofp (F := Ideal) .f32 (constantI S_ 32 0#32)) pads_S2048x2640_S2048x2688_000_0480 h_S_⟩,
    ⟨S2048x1536, extractStridedSlice S2048x1536 ![0, 2640] w slices_S2048x7536_S2048x1536_0_2640⟩]

/-- The weight's columns regrouped. -/
def packed : FVec Ideal S2048x7680 .f32 :=
  concatenate S2048x7680 1 (groups w) concatenates_S2048x3456_S2048x2688_S2048x1536_S2048x7680_d1

/-- The third group of the weight's columns comes first. -/
theorem packed_third (j : Fin 3360) :
    packed w (ix2 d ⟨j.val, by omega⟩) = w (ix2 d ⟨4176 + j.val, by omega⟩) := by
  unfold packed
  refine (concatenate_apply_piece (t := S2048x7680) 1 (groups w) _ _ 0 (by show 0 < 3; omega) S2048x3456 _ rfl rfl 0 rfl
    (ix2 d (⟨j.val, by omega⟩ : Fin 3456)) ?_ ?_).trans ?_
  · intro a ha
    match a with
    | ⟨0, _⟩ => rfl
    | ⟨1, _⟩ => exact absurd rfl ha
  · exact Nat.zero_add _
  · pointwise

/-- Then the first group. -/
theorem packed_first (j : Fin 2640) :
    packed w (ix2 d ⟨3456 + j.val, by omega⟩) = w (ix2 d ⟨j.val, by omega⟩) := by
  unfold packed
  refine (concatenate_apply_piece (t := S2048x7680) 1 (groups w) _ _ 1 (by show 1 < 3; omega) S2048x2688 _ rfl rfl 3456 rfl
    (ix2 d (⟨j.val, by omega⟩ : Fin 2688)) ?_ ?_).trans ?_
  · intro a ha
    match a with
    | ⟨0, _⟩ => rfl
    | ⟨1, _⟩ => exact absurd rfl ha
  · rfl
  · pointwise

/-- The second group comes last. -/
theorem packed_second (j : Fin 1536) :
    packed w (ix2 d ⟨6144 + j.val, by omega⟩) = w (ix2 d ⟨2640 + j.val, by omega⟩) := by
  unfold packed
  refine (concatenate_apply_piece (t := S2048x7680) 1 (groups w) _ _ 2 (by show 2 < 3; omega) S2048x1536 _ rfl rfl 6144 rfl
    (ix2 d j) ?_ ?_).trans ?_
  · intro a ha
    match a with
    | ⟨0, _⟩ => rfl
    | ⟨1, _⟩ => exact absurd rfl ha
  · rfl
  · pointwise

end

section
open Cert.Reference3Ideal Cert.Reference3Ideal.Gen

variable (x : FVec Ideal S4x2048x2048 .f32) (g : FVec Ideal S2048 .f32) (w : FVec Ideal S2048x7536 .f32)

/-- The reference's normalised rows. -/
def rows : FVec Ideal S4x2048x2048 .f32 :=
  mulf (mulf x (broadcastInDim S4x2048x2048 ![0, 1, 2] bcast_S4x2048x1_S4x2048x2048_0_1_2 (Host.rsqrt (addf
    (Host.divf (broadcastInDim S4x2048x1 ![0, 1] bcast_S4x2048_S4x2048x1_0_1 (Host.reduceAdd (mulf x x)
      (constant S_ .f32 0x00000000#32) reducesTo_S4x2048x2048_S4x2048_d2 h_S_))
      (broadcastInDim S4x2048x1 ![] bcast_S_S4x2048x1 (constant S_ .f32 0x45000000#32)))
    (broadcastInDim S4x2048x1 ![] bcast_S_S4x2048x1 (constant S_ .f32 0x358637BD#32))))))
    (broadcastInDim S4x2048x2048 ![0, 1, 2] bcast_S1x1x2048_S4x2048x2048_0_1_2
      (broadcastInDim S1x1x2048 ![2] bcast_S2048_S1x1x2048_2 g))

/-- The reference's projection, before its columns are told apart. -/
def whole : FVec Ideal S4x2048x7536 .f32 :=
  Host.dotGeneral dot_S4x2048x2048_S2048x7536_S4x2048x7536_2_0_01_1_n_n none (rows x g) w

theorem rows_apply (b : Fin 4) (s e : Fin 2048) :
    rows x g (ix3 b s e) = unit (fun k => x (ix3 b s k)) (fun k => g (ix1 k)) e := by
  pointwise [rows]
  rfl

/-- The reference's projection at an element. -/
theorem whole_apply (b : Fin 4) (s : Fin 2048) (j : Fin 7536) : whole x g w (ix3 b s j)
    = ∑ d, unit (fun k => x (ix3 b s k)) (fun k => g (ix1 k)) d * w (ix2 d j) := by
  pointwise [whole]
  simp only [rows_apply]

end

section
open Cert.Reference3Ideal Cert.Reference3Ideal.Gen Idealize.SL.Sem

/-- The reference runs, ends with its four results of its arguments, and leaves these. -/
theorem reference_run (m : (ℓ : Loc nD τ sig) → Buf (Elt Ideal) ℓ)
    (ρ : Dev nD → PrngReg)
    (x : (c : Dev nD) → FVec Ideal S4x2048x2048 .f32)
    (g : (c : Dev nD) → FVec Ideal S2048 .f32)
    (w : (c : Dev nD) → FVec Ideal S2048x7536 .f32)
    (hx : ∀ c : Dev nD, m ((c.tc : Thread nD τ).loc main_arg0) = x c)
    (hg : ∀ c : Dev nD, m ((c.tc : Thread nD τ).loc main_arg1) = g c)
    (hw : ∀ c : Dev nD, m ((c.tc : Thread nD τ).loc main_arg2) = w c) :
    θ_run defs (onTc (τ := τ) (main (F := Ideal))) ⟨m, fun _ => 0, ρ⟩
      fun r => ∀ c : Dev nD,
      r.2.mem ((c.tc : Thread nD τ).loc main_v15)
        = extractStridedSlice S4x2048x2640 ![0, 0, 0] (whole (x c) (g c) (w c)) slices_S4x2048x7536_S4x2048x2640_0_0_0
      ∧ r.2.mem ((c.tc : Thread nD τ).loc main_v16)
        = extractStridedSlice S4x2048x1536 ![0, 0, 2640] (whole (x c) (g c) (w c)) slices_S4x2048x7536_S4x2048x1536_0_0_2640
      ∧ r.2.mem ((c.tc : Thread nD τ).loc main_v14)
        = extractStridedSlice S4x2048x3360 ![0, 0, 4176] (whole (x c) (g c) (w c)) slices_S4x2048x7536_S4x2048x3360_0_0_4176
      ∧ r.2.mem ((c.tc : Thread nD τ).loc main_v18)
        = shapeCast S4x3360 (extractStridedSlice S4x1x3360 ![0, 2047, 0] (extractStridedSlice S4x2048x3360 ![0, 0, 4176]
          (whole (x c) (g c) (w c)) slices_S4x2048x7536_S4x2048x3360_0_0_4176) slices_S4x2048x3360_S4x1x3360_0_2047_0)
          shapeCasts_S4x1x3360_S4x3360
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  simp only [← hx, ← hg, ← hw]
  exact Value.run (F := Ideal) m ρ

end

end Cert.Proj

end
-- ==== Proof.ProjBlock.lean ====
module

public import proofs.«01_k».proof.Proof.Gen.Kernel3Ideal.Frame
public import proofs.«01_k».proof.Proof.ProjPay
public import Idealize.ShloMosaic.Lib.Pointwise
public import Idealize.ShloMosaic.Lib.Tactic
public import Idealize.ShloMosaic.Lib.Pipeline.Value

@[expose] public section

set_option maxRecDepth 16384

noncomputable section

/-! What the input projection's kernel leaves in its result array. -/

namespace Cert.Proj

open Cert.Kernel3Ideal Cert.Kernel3Ideal.Gen Idealize.ShloMosaic Idealize.ShloMosaic.TcCoe Idealize.SL.Sem Cert.Mlp

theorem zeros2 : (![0, 0] : Fin 2 → Nat) = fun _ => 0 := by
  funext a; revert a; decide

section

variable {F : FTy → Type} [FloatOps F]

variable (c : Dev nD) (i : grid0.Coords)
  (a2 : Memref sig .tc .vmem S1024x2048 .f32) (h2 : a2.IsWhole)
  (a3 : Memref sig .tc .vmem S1x2048 .f32) (h3 : a3.IsWhole)
  (a4 : Memref sig .tc .vmem S2048x1536 .bf16) (h4 : a4.IsWhole)
  (a5 : Memref sig .tc .vmem S1024x1536 .f32) (h5 : a5.IsWhole)
  (a6 : Memref sig .tc .vmem S1024x2048 .bf16) (h6 : a6.IsWhole)
  (x0 : Vec F S1024x2048 .f32) (x1 : Vec F S1x2048 .f32) (x2 : Vec F S2048x1536 .bf16)

/-- A later point of a row block multiplies the rows the scratch holds. -/
theorem tile_next (hc : ¬cond0_0 i) (xs : Vec F S1024x2048 .bf16) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero zeros2]
  simp only [View.readAt_eq_ld, h4.read_unread, h6.read_unread,
    View.ld_unit_zero (S := S1024x2048) zeros2, View.ld_unit_zero (S := S2048x1536) zeros2]

/-- The first point of a row block leaves the normalised rows in the scratch. -/
theorem rows_first (hc : cond0_0 i) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero zeros2]
  simp only [View.readAt_eq_ld, h2.read_unread, h3.read_unread,
    View.ld_unit_zero (S := S1024x2048) zeros2, View.ld_unit_zero (S := S1x2048) zeros2]

/-- The first point multiplies the rows it has just normalised. -/
theorem tile_first (hc : cond0_0 i) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero zeros2]
  simp only [View.readCov_unit_zero (S := S1024x2048) _ zeros2, View.readAt_eq_ld, h2.read_unread,
    h3.read_unread, h4.read_unread, View.ld_unit_zero (S := S1024x2048) zeros2,
    View.ld_unit_zero (S := S1x2048) zeros2, View.ld_unit_zero (S := S2048x1536) zeros2]

end

/-- Where each window's block lies at a grid point: the row tile is the quotient by five, the column
    tile the remainder. -/
theorem tiles : ∀ t : Fin cfg0.N,
    (win0_0.index t (0 : Fin 2) = t.val / 5 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 5)
    ∧ (win0_3.index t (0 : Fin 2) = t.val / 5 ∧ win0_3.index t (1 : Fin 2) = t.val % 5) :=
  (by decide +kernel : ∀ t : Fin grid0.N, _)

variable (m : (ℓ : Loc nD τ sig) → Buf (Elt Ideal) ℓ) (c : Dev nD)

/-- The three arguments as launched. -/
abbrev xs : Vec Ideal S4x2048x2048 .f32 := m ((c : Thread nD τ).loc main_arg0)
abbrev gs : Vec Ideal S2048 .f32 := m ((c : Thread nD τ).loc main_arg1)
abbrev ws : Vec Ideal S2048x7536 .f32 := m ((c : Thread nD τ).loc main_arg2)

theorem gain_in (e : Fin 2048) : V m c main_v8 (ix2 0 e) = gs m c (ix1 e) := by
  unfold V V0
  simp only [hostOps0, hostOps0_1, hostOps0_2, hostOps0_3, hostOps0_4, List.flatten_cons, List.flatten_nil,
    List.append_nil, List.cons_append, List.nil_append]
  after_results
  pointwise

theorem rows_in (b : Fin 4) (s e : Fin 2048) (R : Fin 8192) (hR : R.val = 2048 * b.val + s.val) :
    V m c main_v7 (ix2 R e) = xs m c (ix3 b s e) := by
  unfold V V0
  simp only [hostOps0, hostOps0_1, hostOps0_2, hostOps0_3, hostOps0_4, List.flatten_cons, List.flatten_nil,
    List.append_nil, List.cons_append, List.nil_append]
  after_results
  pointwise
  exact congrArg (xs m c) (congrArg₂ (fun b s => ix3 b s e) (Fin.ext (by show R.val / 2048 = b.val; omega))
    (Fin.ext (by show R.val % 2048 = s.val; omega)))

theorem weight_in : V m c main_v6 = packed (ws m c) := by
  unfold V V0
  simp only [hostOps0, hostOps0_1, hostOps0_2, hostOps0_3, hostOps0_4, List.flatten_cons, List.flatten_nil,
    List.append_nil, List.cons_append, List.nil_append]
  after_results
  rfl

/-- The row block's element at a grid point. -/
theorem block_x (t : Fin cfg0.N) (b : Fin 4) (s : Fin 2048) (r : Fin 1024) (e : Fin 2048)
    (hR : 2048 * b.val + s.val = 1024 * (t.val / 5) + r.val) : iblk m c 0 t (ix2 r e) = xs m c (ix3 b s e) := by
  unfold iblk
  rw [View.read_apply]
  refine Eq.trans ?_ (rows_in m c b s e ⟨2048 * b.val + s.val, by omega⟩ rfl)
  show V m c main_v7 _ = _
  congr 1
  funext a
  apply Fin.ext
  have h := (tiles t).1
  match a with
  | ⟨0, _⟩ => show win0_0.index t 0 * 1024 + 1 * r.val = 2048 * b.val + s.val; omega
  | ⟨1, _⟩ => show win0_0.index t 1 * 2048 + 1 * e.val = e.val; omega

/-- The gain's element at a grid point. -/
theorem block_g (t : Fin cfg0.N) (e : Fin 2048) : iblk m c 1 t (ix2 0 e) = gs m c (ix1 e) := by
  unfold iblk
  rw [View.read_apply]
  refine Eq.trans ?_ (gain_in m c e)
  show V m c main_v8 _ = _
  congr 1
  funext a
  apply Fin.ext
  have h := (tiles t).2.1
  match a with
  | ⟨0, _⟩ => show win0_1.index t 0 * 1 + 1 * 0 = 0; omega
  | ⟨1, _⟩ => show win0_1.index t 1 * 2048 + 1 * e.val = e.val; omega

/-- The weight's element at a grid point: its column tile. -/
theorem block_w (t : Fin cfg0.N) (d : Fin 2048) (k : Fin 1536) (K : Fin 7680)
    (hK : K.val = 1536 * (t.val % 5) + k.val) : iblk m c 2 t (ix2 d k) = packed (ws m c) (ix2 d K) := by
  unfold iblk
  rw [View.read_apply]
  show V m c main_v6 _ = _
  rw [weight_in]
  congr 1
  funext a
  apply Fin.ext
  have h := (tiles t).2.2.1
  match a with
  | ⟨0, _⟩ => show win0_2.index t 0 * 2048 + 1 * d.val = d.val; omega
  | ⟨1, _⟩ => show win0_2.index t 1 * 1536 + 1 * k.val = K.val; omega

/-- A normalised row of the whole array. -/
def row (b : Fin 4) (s : Fin 2048) : Fin 2048 → EReal :=
  unit (fun k => xs m c (ix3 b s k)) (fun k => gs m c (ix1 k))

/-- The rows the first point of a block has normalised, at an element. -/
theorem fresh (t : Fin cfg0.N) (b : Fin 4) (s : Fin 2048) (r : Fin 1024) (e : Fin 2048)
    (hR : 2048 * b.val + s.val = 1024 * (t.val / 5) + r.val) :
    k0_pay1 (F := Ideal) (iblk m c 0 t) (iblk m c 1 t) (ix2 r e) = row m c b s e := by
  rw [pay1_apply, row]
  simp only [block_x m c t b s r _ hR, block_g]

/-- After every point of a row block the scratch holds that block's normalised rows. -/
theorem kept (n : ℕ) : ∀ (hn : n < cfg0.N) (b : Fin 4) (s : Fin 2048) (r : Fin 1024) (e : Fin 2048),
    2048 * b.val + s.val = 1024 * (n / 5) + r.val → (outsAt0 m c n hn).2 (ix2 r e) = row m c b s e := by
  induction n with
  | zero =>
    intro hn b s r e hR
    rw [outsAt0_A m c ⟨0, hn⟩ rfl, rows_first]
    exact fresh m c ⟨0, hn⟩ b s r e hR
  | succ n ih =>
    intro hn b s r e hR
    by_cases h : (n + 1) % 5 = 0
    · rw [outsAt0_A m c ⟨n + 1, hn⟩ h, rows_first]
      exact fresh m c ⟨n + 1, hn⟩ b s r e hR
    · rw [outsAt0_B m c ⟨n + 1, hn⟩ h]
      exact ih (Nat.lt_of_succ_lt hn) b s r e (by omega)

/-- The kernel's result array, element by element: a row against a column of the packed weight. -/
def result : FVec Ideal S8192x7680 .f32 := fun i =>
  ∑ d, row m c ⟨(i 0).val / 2048, Nat.div_lt_of_lt_mul (i 0).isLt⟩ ⟨(i 0).val % 2048, Nat.mod_lt _ (by decide)⟩ d
    * packed (ws m c) (ix2 d ⟨(i 1).val, (i 1).isLt⟩)

/-- What a grid point stores, at an element. -/
theorem stored (t : Fin cfg0.N) (R : Fin 8192) (K : Fin 7680) (r : Fin 1024) (k : Fin 1536)
    (hR : R.val = 1024 * (t.val / 5) + r.val) (hK : K.val = 1536 * (t.val % 5) + k.val) :
    (outsAt0 m c t.val t.isLt).1 (ix2 r k) = result m c (ix2 R K) := by
  have hq : 2048 * (R.val / 2048) + R.val % 2048 = 1024 * (t.val / 5) + r.val := by omega
  by_cases h : t.val % 5 = 0
  · rw [outsAt0_A m c t h, tile_first]
    dsimp only
    rw [pay2_apply]
    refine Finset.sum_congr rfl fun d _ => ?_
    rw [fresh m c t ⟨R.val / 2048, by omega⟩ ⟨R.val % 2048, Nat.mod_lt _ (by decide)⟩ r d hq,
      block_w m c t d k K hK]
    rfl
  · rw [outsAt0_B m c t h, tile_next]
    dsimp only
    rw [pay2_apply]
    refine Finset.sum_congr rfl fun d _ => ?_
    rw [kept m c (t.val - 1) _ ⟨R.val / 2048, by omega⟩ ⟨R.val % 2048, Nat.mod_lt _ (by decide)⟩ r d
      (by dsimp only; omega), block_w m c t d k K hK]
    rfl

/-- The elements of a grid point's block of the result array. -/
theorem mem_block (t : Fin cfg0.N) (i : S8192x7680.Idx) :
    i ∈ ((cfg0.win 3).blk t).view.set ↔ ∀ a : Fin 2, win0_3.index t a * S1024x1536.size a ≤ (i a).val
      ∧ (i a).val < win0_3.index t a * S1024x1536.size a + S1024x1536.size a := by
  show i ∈ ((View.whole main_v9).slice (win0_3.rect t)).set ↔ _
  rw [View.set_slice_whole, Rect.mem_set_unit]
  exact Iff.rfl

/-- Every element of the result array is in the block of some grid point. -/
theorem covered (i : S8192x7680.Idx) :
    ∃ t : Fin cfg0.N, (cfg0.win 3).flush t = true ∧ i ∈ ((cfg0.win 3).blk t).view.set := by
  have h0 : (i 0).val < 8192 := (i 0).isLt
  have h1 : (i 1).val < 7680 := (i 1).isLt
  have hN : 5 * ((i 0).val / 1024) + (i 1).val / 1536 < cfg0.N := by rw [show cfg0.N = 40 from N_0]; omega
  have h := (tiles ⟨5 * ((i 0).val / 1024) + (i 1).val / 1536, hN⟩).2.2.2
  refine ⟨⟨5 * ((i 0).val / 1024) + (i 1).val / 1536, hN⟩, flush0_3 _, ?_⟩
  rw [mem_block]
  intro a
  dsimp only at h
  match a with
  | ⟨0, _⟩ => show win0_3.index _ (0 : Fin 2) * 1024 ≤ (i 0).val ∧ (i 0).val < win0_3.index _ (0 : Fin 2) * 1024 + 1024; omega
  | ⟨1, _⟩ => show win0_3.index _ (1 : Fin 2) * 1536 ≤ (i 1).val ∧ (i 1).val < win0_3.index _ (1 : Fin 2) * 1536 + 1536; omega

/-- The kernel's result array. -/
theorem array_eq : (dats m 0 c).arrAt 3 cfg0.N = result m c := by
  refine (dats m 0 c).arrAt_eq_of_cover 3 _ (fun t _ => ?_) covered
  show (cfg0.win 3).cut (grid0.coords t) ((dats m 0 c).after 3 t) = _
  rw [after0_3]
  funext y
  have h := (tiles t).2.2.2
  have hN : t.val < 40 := lt_of_lt_of_eq t.isLt N_0
  obtain ⟨r, k, rfl⟩ : ∃ (r : Fin 1024) (k : Fin 1536), y = ix2 r k := ⟨y 0, y 1, eq_ix2 y⟩
  refine (stored m c t ⟨1024 * (t.val / 5) + r.val, by omega⟩ ⟨1536 * (t.val % 5) + k.val, by omega⟩ r k
    rfl rfl).trans ?_
  rw [View.read_apply]
  congr 1
  funext a
  apply Fin.ext
  match a with
  | ⟨0, _⟩ => show 1024 * (t.val / 5) + r.val = win0_3.index t 0 * 1024 + 1 * r.val; omega
  | ⟨1, _⟩ => show 1536 * (t.val % 5) + k.val = win0_3.index t 1 * 1536 + 1 * k.val; omega

end Cert.Proj

end
-- ==== Proof.ProjEq.lean ====
module

public import proofs.«01_k».proof.Defs
public import proofs.«01_k».proof.Proof.ProjBlock

@[expose] public section

set_option maxRecDepth 16384

noncomputable section

/-! The input projection's kernel and its reference agree over the extended reals. -/

namespace Cert.Proj

open Cert.Kernel3Ideal Cert.Kernel3Ideal.Gen Idealize.ShloMosaic Idealize.ShloMosaic.TcCoe Idealize.SL.Sem Cert.Mlp

section
variable (m : (ℓ : Loc nD τ sig) → Buf (Elt Ideal) ℓ) (c : Dev nD)

/-- The result array with its rows told apart by sequence. -/
def split : FVec Ideal S4x2048x7680 .f32 :=
  shapeCast S4x2048x7680 (result m c) shapeCasts_S8192x7680_S4x2048x7680

theorem split_apply (b : Fin 4) (s : Fin 2048) (K : Fin 7680) :
    split m c (ix3 b s K) = ∑ d, row m c b s d * packed (ws m c) (ix2 d K) := by
  have h : split m c (ix3 b s K) = result m c (ix2 (⟨b.val * 2048 + s.val, by omega⟩ : Fin 8192) K) := by
    pointwise [split]
  rw [h]
  refine Finset.sum_congr rfl fun d _ => ?_
  congr 1
  exact congrArg₂ (fun b s => row m c b s d) (Fin.ext (by show (b.val * 2048 + s.val) / 2048 = b.val; omega))
    (Fin.ext (by show (b.val * 2048 + s.val) % 2048 = s.val; omega))

/-- The result array at the kernel's end, before the host splits it. -/
theorem array_end : Pipeline.withArrays (cfgs 0).spec c (V0 m c) (fun w => (dats m 0 c).arrAt w (cfgs 0).N)
    (Proc.devRef .tc main_v9) = result m c :=
  (Pipeline.withArrays_arr cfg0.spec launch0.win.arr_inj c (V0 m c) (fun w => (dats m 0 c).arrAt w cfg0.N) 3).trans
    (array_eq m c)

theorem tail_first : Pipeline.afterTail₀ cfgs (dats m) 0 (V0 m) [hostOps1] c main_v11
    = extractStridedSlice S4x2048x2640 ![0, 0, 3456] (split m c) slices_S4x2048x7680_S4x2048x2640_0_0_3456 := by
  unfold Pipeline.afterTail₀
  simp only [hostOps1, List.flatten_cons, List.flatten_nil, List.append_nil, List.cons_append, List.nil_append]
  after_results
  rw [array_end]
  rfl

theorem tail_second : Pipeline.afterTail₀ cfgs (dats m) 0 (V0 m) [hostOps1] c main_v12
    = extractStridedSlice S4x2048x1536 ![0, 0, 6144] (split m c) slices_S4x2048x7680_S4x2048x1536_0_0_6144 := by
  unfold Pipeline.afterTail₀
  simp only [hostOps1, List.flatten_cons, List.flatten_nil, List.append_nil, List.cons_append, List.nil_append]
  after_results
  rw [array_end]
  rfl

theorem tail_third : Pipeline.afterTail₀ cfgs (dats m) 0 (V0 m) [hostOps1] c main_v13
    = extractStridedSlice S4x2048x3360 ![0, 0, 0] (split m c) slices_S4x2048x7680_S4x2048x3360_0_0_0 := by
  unfold Pipeline.afterTail₀
  simp only [hostOps1, List.flatten_cons, List.flatten_nil, List.append_nil, List.cons_append, List.nil_append]
  after_results
  rw [array_end]
  rfl

theorem tail_last : Pipeline.afterTail₀ cfgs (dats m) 0 (V0 m) [hostOps1] c main_v15
    = shapeCast S4x3360 (extractStridedSlice S4x1x3360 ![0, 2047, 0] (split m c)
      slices_S4x2048x7680_S4x1x3360_0_2047_0) shapeCasts_S4x1x3360_S4x3360 := by
  unfold Pipeline.afterTail₀
  simp only [hostOps1, List.flatten_cons, List.flatten_nil, List.append_nil, List.cons_append, List.nil_append]
  after_results
  rw [array_end]
  rfl

/-- The reference's projection of the launched arguments. -/
abbrev plain : FVec Ideal Reference3Ideal.S4x2048x7536 .f32 := whole (xs m c) (gs m c) (ws m c)

theorem plain_apply (b : Fin 4) (s : Fin 2048) (j : Fin 7536) :
    plain m c (ix3 b s j) = ∑ d, row m c b s d * ws m c (ix2 d j) := whole_apply _ _ _ b s j

end

/-- The reference's four results of the launched arguments. -/
def first (m : (ℓ : Loc nD τ sig) → Buf (Elt Ideal) ℓ) (c : Dev nD) : FVec Ideal S4x2048x2640 .f32 :=
  extractStridedSlice S4x2048x2640 ![0, 0, 0] (plain m c) Reference3Ideal.Gen.slices_S4x2048x7536_S4x2048x2640_0_0_0
def second (m : (ℓ : Loc nD τ sig) → Buf (Elt Ideal) ℓ) (c : Dev nD) : FVec Ideal S4x2048x1536 .f32 :=
  extractStridedSlice S4x2048x1536 ![0, 0, 2640] (plain m c) Reference3Ideal.Gen.slices_S4x2048x7536_S4x2048x1536_0_0_2640
def third (m : (ℓ : Loc nD τ sig) → Buf (Elt Ideal) ℓ) (c : Dev nD) : FVec Ideal S4x2048x3360 .f32 :=
  extractStridedSlice S4x2048x3360 ![0, 0, 4176] (plain m c) Reference3Ideal.Gen.slices_S4x2048x7536_S4x2048x3360_0_0_4176
def last (m : (ℓ : Loc nD τ sig) → Buf (Elt Ideal) ℓ) (c : Dev nD) : FVec Ideal S4x3360 .f32 :=
  shapeCast S4x3360 (extractStridedSlice S4x1x3360 ![0, 2047, 0] (third m c)
    Reference3Ideal.Gen.slices_S4x2048x3360_S4x1x3360_0_2047_0) Reference3Ideal.Gen.shapeCasts_S4x1x3360_S4x3360

section
variable (m : (ℓ : Loc nD τ sig) → Buf (Elt Ideal) ℓ) (c : Dev nD)

theorem first_eq : extractStridedSlice S4x2048x2640 ![0, 0, 3456] (split m c)
    slices_S4x2048x7680_S4x2048x2640_0_0_3456 = first m c := by
  funext i
  obtain ⟨b, s, j, rfl⟩ : ∃ (b : Fin 4) (s : Fin 2048) (j : Fin 2640), i = ix3 b s j := ⟨i 0, i 1, i 2, eq_ix3 i⟩
  have hl : extractStridedSlice S4x2048x2640 ![0, 0, 3456] (split m c) slices_S4x2048x7680_S4x2048x2640_0_0_3456
      (ix3 b s j) = split m c (ix3 b s ⟨3456 + j.val, by omega⟩) := by pointwise
  have hr : first m c (ix3 b s j) = plain m c (ix3 b s ⟨j.val, by omega⟩) := by pointwise [first]
  rw [hl, hr, split_apply, plain_apply]
  simp only [packed_first]

theorem second_eq : extractStridedSlice S4x2048x1536 ![0, 0, 6144] (split m c)
    slices_S4x2048x7680_S4x2048x1536_0_0_6144 = second m c := by
  funext i
  obtain ⟨b, s, j, rfl⟩ : ∃ (b : Fin 4) (s : Fin 2048) (j : Fin 1536), i = ix3 b s j := ⟨i 0, i 1, i 2, eq_ix3 i⟩
  have hl : extractStridedSlice S4x2048x1536 ![0, 0, 6144] (split m c) slices_S4x2048x7680_S4x2048x1536_0_0_6144
      (ix3 b s j) = split m c (ix3 b s ⟨6144 + j.val, by omega⟩) := by pointwise
  have hr : second m c (ix3 b s j) = plain m c (ix3 b s ⟨2640 + j.val, by omega⟩) := by pointwise [second]
  rw [hl, hr, split_apply, plain_apply]
  simp only [packed_second]

theorem third_eq : extractStridedSlice S4x2048x3360 ![0, 0, 0] (split m c)
    slices_S4x2048x7680_S4x2048x3360_0_0_0 = third m c := by
  funext i
  obtain ⟨b, s, j, rfl⟩ : ∃ (b : Fin 4) (s : Fin 2048) (j : Fin 3360), i = ix3 b s j := ⟨i 0, i 1, i 2, eq_ix3 i⟩
  have hl : extractStridedSlice S4x2048x3360 ![0, 0, 0] (split m c) slices_S4x2048x7680_S4x2048x3360_0_0_0
      (ix3 b s j) = split m c (ix3 b s ⟨j.val, by omega⟩) := by pointwise
  have hr : third m c (ix3 b s j) = plain m c (ix3 b s ⟨4176 + j.val, by omega⟩) := by pointwise [third]
  rw [hl, hr, split_apply, plain_apply]
  simp only [packed_third]

theorem last_eq : shapeCast S4x3360 (extractStridedSlice S4x1x3360 ![0, 2047, 0] (split m c)
    slices_S4x2048x7680_S4x1x3360_0_2047_0) shapeCasts_S4x1x3360_S4x3360 = last m c := by
  funext i
  obtain ⟨b, j, rfl⟩ : ∃ (b : Fin 4) (j : Fin 3360), i = ix2 b j := ⟨i 0, i 1, eq_ix2 i⟩
  have hl : shapeCast S4x3360 (extractStridedSlice S4x1x3360 ![0, 2047, 0] (split m c)
      slices_S4x2048x7680_S4x1x3360_0_2047_0) shapeCasts_S4x1x3360_S4x3360 (ix2 b j)
      = split m c (ix3 b 2047 ⟨j.val, by omega⟩) := by pointwise
  have hr : last m c (ix2 b j) = plain m c (ix3 b 2047 ⟨4176 + j.val, by omega⟩) := by pointwise [last, third]
  rw [hl, hr, split_apply, plain_apply]
  simp only [packed_third]

/-- The kernel runs and ends with the reference's four results of the same arguments. -/
theorem kernel_run (ρ : Dev nD → PrngReg) : θ_run defs (onTc (τ := τ) (main (F := Ideal))) ⟨m, fun _ => 0, ρ⟩
    fun r => ∀ c : Dev nD, r.2.mem ((c.tc : Thread nD τ).loc main_v11) = first m c
      ∧ r.2.mem ((c.tc : Thread nD τ).loc main_v12) = second m c
      ∧ r.2.mem ((c.tc : Thread nD τ).loc main_v13) = third m c
      ∧ r.2.mem ((c.tc : Thread nD τ).loc main_v15) = last m c :=
  (θ_run defs _ _).mono (fun r h c =>
      ⟨((h c).2 main_v11 (Pipeline.mem_restRefs_of main_v11 (by decide) (by decide))).trans
          ((tail_first m c).trans (first_eq m c)),
        ((h c).2 main_v12 (Pipeline.mem_restRefs_of main_v12 (by decide) (by decide))).trans
          ((tail_second m c).trans (second_eq m c)),
        ((h c).2 main_v13 (Pipeline.mem_restRefs_of main_v13 (by decide) (by decide))).trans
          ((tail_third m c).trans (third_eq m c)),
        ((h c).2 main_v15 (Pipeline.mem_restRefs_of main_v15 (by decide) (by decide))).trans
          ((tail_last m c).trans (last_eq m c))⟩)
    (run_main m ρ)

end

/-- Both programs run, leave their arguments, and end with equal results. -/
theorem agree : algebraic_Kernel3Ideal_Reference3Ideal := by
  intro m ρ m' ρ' _ hm
  refine ⟨first m, second m, third m, last m, ?_, ?_⟩
  · exact (θ_run defs _ _).mono (fun r h c => ⟨(h.1 c).1, (h.1 c).2.1, (h.1 c).2.2.1, (h.1 c).2.2.2, h.2 c⟩)
      (θ_run_and (kernel_run m ρ) (unchanged m ρ))
  · exact reference_run m' ρ' (xs m) (gs m) (ws m) (fun c => (hm c).1) (fun c => (hm c).2.1) (fun c => (hm c).2.2)

end Cert.Proj

end
-- ==== Proof.OutPay.lean ====
module

public import proofs.«01_k».proof.Proof.Gen.Kernel4Ideal.Skeleton
public import proofs.«01_k».proof.Proof.Gen.Reference4Ideal.Run
public import Idealize.ShloMosaic.Lib.Pointwise

@[expose] public section

set_option maxRecDepth 16384

noncomputable section

/-! The output projection read at an element over the extended reals: the kernel adds the products of
    three groups of columns, the reference takes one product of the groups side by side. -/

namespace Cert.Out

open Idealize.ShloMosaic

/-- The three groups' products with their rows of the weight's column, and the residual. -/
def proj (x : EReal) (a b : Fin 512 → EReal) (c : Fin 1024 → EReal) (w : Fin 2048 → EReal) : EReal :=
  x + ((∑ k : Fin 512, a k * w ⟨k.val, by omega⟩) + (∑ k : Fin 512, b k * w ⟨512 + k.val, by omega⟩)
    + ∑ k : Fin 1024, c k * w ⟨1024 + k.val, by omega⟩)

section
open Cert.Kernel4Ideal Cert.Kernel4Ideal.Gen

/-- The value the kernel stores. -/
theorem pay1_apply (a : Vec Ideal S512x512 .bf16) (wa : Vec Ideal S512x2048 .bf16)
    (b : Vec Ideal S512x512 .bf16) (wb : Vec Ideal S512x2048 .bf16) (c : Vec Ideal S512x1024 .bf16)
    (wc : Vec Ideal S1024x2048 .bf16) (x : Vec Ideal S512x2048 .f32) (r : Fin 512) (e : Fin 2048) :
    k0_pay1 (F := Ideal) a wa b wb c wc x (ix2 r e) = x (ix2 r e)
      + ((∑ k, a (ix2 r k) * wa (ix2 k e)) + (∑ k, b (ix2 r k) * wb (ix2 k e))
        + ∑ k, c (ix2 r k) * wc (ix2 k e)) := by
  pointwise [k0_pay1]

end

section
open Cert.Reference4Ideal Cert.Reference4Ideal.Gen

variable (x : FVec Ideal S8192x2048 .f32) (a b : FVec Ideal S8192x512 .bf16)
  (c : FVec Ideal S8192x1024 .bf16) (w : FVec Ideal S2048x2048 .f32)

/-- The three groups of columns. -/
abbrev groups : List ((s : Shape) × (s.Idx → EReal)) :=
  [⟨S8192x512, a⟩, ⟨S8192x512, b⟩, ⟨S8192x1024, c⟩]

/-- The three groups of columns side by side. -/
def joined : FVec Ideal S8192x2048 .bf16 :=
  concatenate S8192x2048 1 (groups a b c)
    concatenates_S8192x512_S8192x512_S8192x1024_S8192x2048_d1

/-- The reference's result. -/
def out : FVec Ideal S8192x2048 .f32 :=
  addf x (Host.dotGeneral dot_S8192x2048_S2048x2048_S8192x2048_1_0_0_1_n_n none
    (extf .f32 (joined a b c) bitsLt_bf16_f32) w)

theorem joined_first (R : Fin 8192) (k : Fin 512) : joined a b c (ix2 R ⟨k.val, by omega⟩) = a (ix2 R k) := by
  unfold joined
  refine concatenate_apply_piece (t := S8192x2048) 1 (groups a b c) _ _ 0 (by show 0 < 3; omega) S8192x512 a rfl rfl 0 rfl (ix2 R k) ?_ ?_
  · intro d hd
    match d with
    | ⟨0, _⟩ => rfl
    | ⟨1, _⟩ => exact absurd rfl hd
  · exact Nat.zero_add _

theorem joined_second (R : Fin 8192) (k : Fin 512) :
    joined a b c (ix2 R ⟨512 + k.val, by omega⟩) = b (ix2 R k) := by
  unfold joined
  refine concatenate_apply_piece (t := S8192x2048) 1 (groups a b c) _ _ 1 (by show 1 < 3; omega) S8192x512 b rfl rfl 512 rfl (ix2 R k) ?_ ?_
  · intro d hd
    match d with
    | ⟨0, _⟩ => rfl
    | ⟨1, _⟩ => exact absurd rfl hd
  · rfl

theorem joined_third (R : Fin 8192) (k : Fin 1024) :
    joined a b c (ix2 R ⟨1024 + k.val, by omega⟩) = c (ix2 R k) := by
  unfold joined
  refine concatenate_apply_piece (t := S8192x2048) 1 (groups a b c) _ _ 2 (by show 2 < 3; omega) S8192x1024 c rfl rfl 1024 rfl (ix2 R k) ?_ ?_
  · intro d hd
    match d with
    | ⟨0, _⟩ => rfl
    | ⟨1, _⟩ => exact absurd rfl hd
  · rfl

/-- A sum over 2048 columns, taken group by group. -/
theorem sum_groups (f : Fin 2048 → EReal) : ∑ k, f k = (∑ k : Fin 512, f ⟨k.val, by omega⟩)
    + (∑ k : Fin 512, f ⟨512 + k.val, by omega⟩) + ∑ k : Fin 1024, f ⟨1024 + k.val, by omega⟩ :=
  (Fin.sum_univ_add (a := 1024) (b := 1024) f).trans
    (congrArg₂ (· + ·) (Fin.sum_univ_add (a := 512) (b := 512) fun k => f (Fin.castAdd 1024 k)) rfl)

/-- The reference's result at an element. -/
theorem out_apply (R : Fin 8192) (e : Fin 2048) : out x a b c w (ix2 R e)
    = proj (x (ix2 R e)) (fun k => a (ix2 R k)) (fun k => b (ix2 R k)) (fun k => c (ix2 R k))
      (fun k => w (ix2 k e)) := by
  have h : out x a b c w (ix2 R e) = x (ix2 R e) + ∑ k, joined a b c (ix2 R k) * w (ix2 k e) := by
    pointwise [out]
  rw [h, sum_groups]
  simp only [joined_first, joined_second, joined_third]
  rfl

end

end Cert.Out

end
-- ==== Proof.OutEq.lean ====
module

public import proofs.«01_k».proof.Defs
public import proofs.«01_k».proof.Proof.Gen.Kernel4Ideal.Value
public import proofs.«01_k».proof.Proof.OutPay
public import Idealize.ShloMosaic.Lib.Tactic
public import Idealize.ShloMosaic.Lib.Pipeline.ValueKit.Tiles

@[expose] public section

set_option maxRecDepth 16384

noncomputable section

/-! The output projection's kernel and its reference agree over the extended reals. -/

namespace Cert.Out

open Cert.Kernel4Ideal Cert.Kernel4Ideal.Gen Idealize.ShloMosaic Idealize.ShloMosaic.TcCoe Idealize.SL.Sem

theorem zeros2 : (![0, 0] : Fin 2 → Nat) = fun _ => 0 := by
  funext a; revert a; decide

/-- Where each window's block lies at a grid point: the row tile is the point, the weight is whole. -/
theorem tiles : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

variable (m : (ℓ : Loc nD τ sig) → Buf (Elt Ideal) ℓ) (c : Dev nD)

/-- The five arguments as launched. -/
abbrev xs : Vec Ideal S8192x2048 .f32 := m ((c : Thread nD τ).loc main_arg0)
abbrev oa : Vec Ideal S8192x512 .bf16 := m ((c : Thread nD τ).loc main_arg1)
abbrev ob : Vec Ideal S8192x512 .bf16 := m ((c : Thread nD τ).loc main_arg2)
abbrev oc : Vec Ideal S8192x1024 .bf16 := m ((c : Thread nD τ).loc main_arg3)
abbrev ws : Vec Ideal S2048x2048 .f32 := m ((c : Thread nD τ).loc main_arg4)

theorem weight_in : V m c main_v0 = ws m c := by
  unfold V
  simp only [hostOps0]
  after_results
  rfl

section
variable (t : Fin cfg0.N) (R : Fin 8192) (r : Fin 512)

theorem block_x (e : Fin 2048) (hR : R.val = 512 * t.val + r.val) :
    iblk m c 0 t (ix2 r e) = xs m c (ix2 R e) := by
  unfold iblk
  rw [View.read_apply]
  show V m c main_arg0 _ = _
  rw [V_main_arg0]
  congr 1
  funext a
  apply Fin.ext
  have h := (tiles t).1
  match a with
  | ⟨0, _⟩ => show win0_0.index t 0 * 512 + 1 * r.val = R.val; omega
  | ⟨1, _⟩ => show win0_0.index t 1 * 2048 + 1 * e.val = e.val; omega

theorem block_a (k : Fin 512) (hR : R.val = 512 * t.val + r.val) :
    iblk m c 1 t (ix2 r k) = oa m c (ix2 R k) := by
  unfold iblk
  rw [View.read_apply]
  show V m c main_arg1 _ = _
  rw [V_main_arg1]
  congr 1
  funext a
  apply Fin.ext
  have h := (tiles t).2.1
  match a with
  | ⟨0, _⟩ => show win0_1.index t 0 * 512 + 1 * r.val = R.val; omega
  | ⟨1, _⟩ => show win0_1.index t 1 * 512 + 1 * k.val = k.val; omega

theorem block_b (k : Fin 512) (hR : R.val = 512 * t.val + r.val) :
    iblk m c 2 t (ix2 r k) = ob m c (ix2 R k) := by
  unfold iblk
  rw [View.read_apply]
  show V m c main_arg2 _ = _
  rw [V_main_arg2]
  congr 1
  funext a
  apply Fin.ext
  have h := (tiles t).2.2.1
  match a with
  | ⟨0, _⟩ => show win0_2.index t 0 * 512 + 1 * r.val = R.val; omega
  | ⟨1, _⟩ => show win0_2.index t 1 * 512 + 1 * k.val = k.val; omega

theorem block_c (k : Fin 1024) (hR : R.val = 512 * t.val + r.val) :
    iblk m c 3 t (ix2 r k) = oc m c (ix2 R k) := by
  unfold iblk
  rw [View.read_apply]
  show V m c main_arg3 _ = _
  rw [V_main_arg3]
  congr 1
  funext a
  apply Fin.ext
  have h := (tiles t).2.2.2.1
  match a with
  | ⟨0, _⟩ => show win0_3.index t 0 * 512 + 1 * r.val = R.val; omega
  | ⟨1, _⟩ => show win0_3.index t 1 * 1024 + 1 * k.val = k.val; omega

theorem block_w (d e : Fin 2048) : iblk m c 4 t (ix2 d e) = ws m c (ix2 d e) := by
  unfold iblk
  rw [View.read_apply]
  show V m c main_v0 _ = _
  rw [weight_in]
  congr 1
  funext a
  apply Fin.ext
  have h := (tiles t).2.2.2.2.1
  match a with
  | ⟨0, _⟩ => show win0_4.index t 0 * 2048 + 1 * d.val = d.val; omega
  | ⟨1, _⟩ => show win0_4.index t 1 * 2048 + 1 * e.val = e.val; omega

end

/-- What a grid point stores of its blocks, at an element. -/
theorem tile_apply (x : Vec Ideal S512x2048 .f32) (a b : Vec Ideal S512x512 .bf16) (g : Vec Ideal S512x1024 .bf16)
    (w : Vec Ideal S2048x2048 .bf16) (r : Fin 512) (e : Fin 2048) : out0_5 x a b g w (ix2 r e)
      = proj (x (ix2 r e)) (fun k => a (ix2 r k)) (fun k => b (ix2 r k)) (fun k => g (ix2 r k))
        (fun k => w (ix2 k e)) := by
  unfold out0_5
  rw [View.canon_unit_zero zeros2, pay1_apply, View.ld_unit_zero (S := S512x2048) zeros2,
    View.ld_unit_zero (S := S512x512) zeros2, View.ld_unit_zero (S := S512x512) zeros2,
    View.ld_unit_zero (S := S512x1024) zeros2]
  have ha : ∀ k : Fin 512, View.ld w r0_1 (ix2 k e) = w (ix2 ⟨k.val, by omega⟩ e) := fun k =>
    View.ld_unit_apply_of _ _ _ _ _ (ix2 (⟨k.val, by omega⟩ : Fin 2048) e) (by intro a; fin_cases a <;> simp)
  have hb : ∀ k : Fin 512, View.ld w r0_2 (ix2 k e) = w (ix2 ⟨512 + k.val, by omega⟩ e) := fun k =>
    View.ld_unit_apply_of _ _ _ _ _ (ix2 (⟨512 + k.val, by omega⟩ : Fin 2048) e) (by intro a; fin_cases a <;> simp)
  have hc : ∀ k : Fin 1024, View.ld w r0_4 (ix2 k e) = w (ix2 ⟨1024 + k.val, by omega⟩ e) := fun k =>
    View.ld_unit_apply_of _ _ _ _ _ (ix2 (⟨1024 + k.val, by omega⟩ : Fin 2048) e) (by intro a; fin_cases a <;> simp)
  simp only [ha, hb, hc]
  rfl

/-- What a grid point stores, at an element: the reference's row. -/
theorem stored (t : Fin cfg0.N) (R : Fin 8192) (r : Fin 512) (e : Fin 2048)
    (hR : R.val = 512 * t.val + r.val) :
    out0_5 (iblk m c 0 t) (iblk m c 1 t) (iblk m c 2 t) (iblk m c 3 t) (iblk m c 4 t) (ix2 r e)
      = out (xs m c) (oa m c) (ob m c) (oc m c) (ws m c) (ix2 R e) := by
  refine (tile_apply _ _ _ _ _ r e).trans ?_
  rw [out_apply]
  simp only [block_w, block_x m c t R r _ hR, block_a m c t R r _ hR, block_b m c t R r _ hR,
    block_c m c t R r _ hR]

/-- The elements of a grid point's block of the result array. -/
theorem mem_block (t : Fin cfg0.N) (i : S8192x2048.Idx) :
    i ∈ ((cfg0.win 5).blk t).view.set ↔ ∀ a : Fin 2, win0_5.index t a * S512x2048.size a ≤ (i a).val
      ∧ (i a).val < win0_5.index t a * S512x2048.size a + S512x2048.size a := by
  show i ∈ ((View.whole main_v1).slice (win0_5.rect t)).set ↔ _
  rw [View.set_slice_whole, Rect.mem_set_unit]
  exact Iff.rfl

/-- Every element of the result array is in the block of some grid point. -/
theorem covered (i : S8192x2048.Idx) :
    ∃ t : Fin cfg0.N, (cfg0.win 5).flush t = true ∧ i ∈ ((cfg0.win 5).blk t).view.set := by
  have h0 : (i 0).val < 8192 := (i 0).isLt
  have h1 : (i 1).val < 2048 := (i 1).isLt
  have hN : (i 0).val / 512 < cfg0.N := by rw [show cfg0.N = 16 from N_0]; omega
  have h := (tiles ⟨(i 0).val / 512, hN⟩).2.2.2.2.2
  refine ⟨⟨(i 0).val / 512, hN⟩, (by decide +kernel : ∀ t : Fin grid0.N, win0_5.flush t = true) _, ?_⟩
  rw [mem_block]
  intro a
  dsimp only at h
  match a with
  | ⟨0, _⟩ => show win0_5.index _ (0 : Fin 2) * 512 ≤ (i 0).val ∧ (i 0).val < win0_5.index _ (0 : Fin 2) * 512 + 512; omega
  | ⟨1, _⟩ => show win0_5.index _ (1 : Fin 2) * 2048 ≤ (i 1).val ∧ (i 1).val < win0_5.index _ (1 : Fin 2) * 2048 + 2048; omega

/-- The kernel's result array is the reference's result of the same arguments. -/
theorem result_eq : (dats m 0 c).arrAt 5 cfg0.N = out (xs m c) (oa m c) (ob m c) (oc m c) (ws m c) := by
  refine (dats m 0 c).arrAt_eq_of_cover 5 _ (fun t _ => ?_) covered
  rw [Value.flushed5]
  funext y
  have h := (tiles t).2.2.2.2.2
  have hN : t.val < 16 := lt_of_lt_of_eq t.isLt N_0
  obtain ⟨r, e, rfl⟩ : ∃ (r : Fin 512) (e : Fin 2048), y = ix2 r e := ⟨y 0, y 1, eq_ix2 y⟩
  refine (stored m c t ⟨512 * t.val + r.val, by omega⟩ r e rfl).trans ?_
  rw [View.read_apply]
  congr 1
  funext a
  apply Fin.ext
  match a with
  | ⟨0, _⟩ => show 512 * t.val + r.val = win0_5.index t 0 * 512 + 1 * r.val; omega
  | ⟨1, _⟩ => show e.val = win0_5.index t 1 * 2048 + 1 * e.val; omega

/-- Both programs run, leave their arguments, and end with equal results. -/
theorem agree : algebraic_Kernel4Ideal_Reference4Ideal := by
  intro m ρ m' ρ' _ hm
  refine ⟨fun c => (dats m 0 c).arrAt 5 cfg0.N, Value.run_blocks (F := Ideal) m ρ, ?_⟩
  refine (θ_run Cert.Reference4Ideal.defs _ _).mono (fun _ h c => ⟨?_, (h c).2⟩)
    (Cert.Reference4Ideal.Value.run (F := Ideal) m' ρ')
  obtain ⟨h0, h1, h2, h3, h4⟩ := hm c
  refine (h c).1.trans ?_
  refine Eq.trans ?_ (result_eq m c).symm
  unfold out joined groups xs oa ob oc ws
  rw [h0, h1, h2, h3, h4]

end Cert.Out

end
-- ==== Proof.MobaPiece.lean ====
module

public import proofs.«01_k».proof.Proof.Gen.KernelIdeal.Skeleton
public import Idealize.ShloMosaic.Lib.MatmulPlain

@[expose] public section

set_option maxRecDepth 16384

noncomputable section

/-! One head's attention of one block of queries, for any number of blocks before it. -/

namespace Cert.Moba

open Cert.KernelIdeal Cert.KernelIdeal.Gen Idealize.ShloMosaic

variable {F : FTy → Type} [FloatOps F]

/-- Rows of `n` entries, one for each query of a block. -/
abbrev Rows (n : ℕ) : Shape := ⟨2, ![256, n]⟩

/-- The keys or values of one head: `n` rows of 128. -/
abbrev Keys (n : ℕ) : Shape := ⟨2, ![n, 128]⟩

theorem column (n : ℕ) (h : n < 8) : S256x8.Slices ![0, n] S256x1 :=
  ⟨rfl, fun a => match a with
    | ⟨0, _⟩ => (by decide : 0 + 256 ≤ 256)
    | ⟨1, _⟩ => (by omega : n + 1 ≤ 8)⟩

/-- Each entry's block. -/
def blockIds : IVec S256x8 32 := iota .tc S256x8 32 [1] iota_S256x8_d1_w32

/-- The gate of the blocks before block `own`. -/
def gates (own : ℕ) (q : FVec F S256x128 .bf16) (km : FVec F S8x128 .f32) : FVec F S256x8 .f32 :=
  select (cmpi .slt blockIds (broadcast S256x8 (BitVec.ofNat 32 own)))
    (matmul dot_S256x128_S8x128_S256x8_1_1_0_0_n_n none q (truncf .bf16 km bitsLt_bf16_f32)
      (constant S256x8 .f32 0x00000000#32))
    (broadcast S256x8 (Scalar.ofBits .f32 0xFF800000#32))

/-- One where block `m` is above the entry's own block, else zero. -/
def over (g : FVec F S256x8 .f32) (m : ℕ) (h : m < 8) : IVec S256x8 32 :=
  select
    (ori (cmpf .ogt (broadcastTo S256x8 (extractStridedSlice S256x1 ![0, m] g (column m h))
        broadcasts_S256x1_S256x8) g)
      (andi (cmpf .oeq (broadcastTo S256x8 (extractStridedSlice S256x1 ![0, m] g (column m h))
        broadcasts_S256x1_S256x8) g) (cmpi .sgt blockIds (broadcast S256x8 (BitVec.ofNat 32 m)))))
    (broadcast S256x8 1#32) (broadcast S256x8 0#32)

/-- How many of the first `n` blocks are above each entry's block. -/
def ranks (g : FVec F S256x8 .f32) : (n : ℕ) → n ≤ 8 → IVec S256x8 32
  | 0, _ => broadcast S256x8 0#32
  | n + 1, h => addi (ranks g n (Nat.le_of_succ_le h)) (over g n h)

/-- One where a block before block `own` is chosen, else zero. -/
def chosen (own : ℕ) (h : own ≤ 8) (g : FVec F S256x8 .f32) : FVec F S256x8 .f32 :=
  select
    (andi (cmpi .slt blockIds (broadcast S256x8 (BitVec.ofNat 32 own)))
      (cmpi .slt (ranks g own h) (broadcast S256x8 3#32)))
    (broadcast S256x8 (Scalar.ofBits .f32 0x3F800000#32)) (broadcast S256x8 (Scalar.ofBits .f32 0x00000000#32))

/-- A chosen block's flag, for each of the block's keys. -/
def spread (x : FVec F S256x8 .f32) (n : ℕ) (h : n < 8) : FVec F S256x256 .f32 :=
  broadcastTo S256x256 (shapeCast S256x1 (extractStridedSlice S256x1 ![0, n] x (column n h))
    shapeCasts_S256x1_S256x1) broadcasts_S256x1_S256x256

/-- The flags of the keys of the blocks up to block `own`, the last of them the causal one. -/
def masks (own : ℕ) (h : own < 8) (x : FVec F S256x8 .f32) (N : ℕ)
    (hc : Shape.Concatenates ((List.ofFn fun n : Fin (own + 1) => (⟨S256x256,
      if hn : n.val < own then spread x n.val (hn.trans h) else k0_pay234⟩ :
        (s : Shape) × (s.Idx → F .f32))).map (·.1)) (Rows N) 1) : FVec F (Rows N) .f32 :=
  concatenate (Rows N) 1 (List.ofFn fun n : Fin (own + 1) => (⟨S256x256,
    if hn : n.val < own then spread x n.val (hn.trans h) else k0_pay234⟩ : (s : Shape) × (s.Idx → F .f32))) hc

/-- The scaled scores, the keys that are flagged off at minus infinity. -/
def scores (N : ℕ) (mask : FVec F (Rows N) .f32) (q : FVec F S256x128 .bf16) (k : FVec F (Keys N) .bf16) :
    FVec F (Rows N) .f32 :=
  select (cmpf .ogt mask (broadcast (Rows N) (Scalar.ofBits .f32 0x3F000000#32)))
    (mulf (matmul (DotDims.transposedRhs 256 128 N) none q k (constant (Rows N) .f32 0x00000000#32))
      (broadcast (Rows N) (Scalar.ofBits .f32 0x3DB504F3#32)))
    (broadcast (Rows N) (Scalar.ofBits .f32 0xFF800000#32))

/-- The scores' weights: their exponentials over each row's largest. -/
def weights (N : ℕ) (s : FVec F (Rows N) .f32) (hr : (Rows N).Reduces [1] S256)
    (hb : S256x1.Broadcasts (Rows N)) : FVec F (Rows N) .f32 :=
  exp (subf s (broadcastTo (Rows N) (shapeCast S256x1
    (multiReduction .maximumf [1] S256 s 0xFF800000#32 hr (.inl rfl) rfl) shapeCasts_S256_S256x1) hb))

/-- The values' sum with those weights, over the weights' sum. -/
def attended (N : ℕ) (w : FVec F (Rows N) .f32) (v : FVec F (Keys N) .bf16) (hr : (Rows N).Reduces [1] S256) :
    FVec F S1x256x128 .bf16 :=
  shapeCast S1x256x128 (truncf .bf16 (divf
    (matmul (DotDims.plain 256 N 128) none (truncf .bf16 w bitsLt_bf16_f32) v (constant S256x128 .f32 0x00000000#32))
    (broadcastTo S256x128 (shapeCast S256x1
      (multiReduction .add [1] S256 w 0x00000000#32 hr (.inl rfl) rfl) shapeCasts_S256_S256x1)
      broadcasts_S256x1_S256x128)) bitsLt_bf16_f32) shapeCasts_S256x128_S1x256x128

/-- One head's attention of one block of queries. -/
def head (N : ℕ) (mask : FVec F (Rows N) .f32) (q : FVec F S256x128 .bf16) (k v : FVec F (Keys N) .bf16)
    (hr : (Rows N).Reduces [1] S256) (hb : S256x1.Broadcasts (Rows N)) : FVec F S1x256x128 .bf16 :=
  attended N (weights N (scores N mask q k) hr hb) v hr

/-- One head's attention of block `own`, its mask from its gate. -/
def piece (own : ℕ) (h : own < 8) (N : ℕ) (q : FVec F S256x128 .bf16) (km : FVec F S8x128 .f32)
    (k v : FVec F (Keys N) .bf16)
    (hc : ∀ x, Shape.Concatenates ((List.ofFn fun n : Fin (own + 1) => (⟨S256x256,
      if hn : n.val < own then spread x n.val (hn.trans h) else k0_pay234⟩ :
        (s : Shape) × (s.Idx → F .f32))).map (·.1)) (Rows N) 1)
    (hr : (Rows N).Reduces [1] S256) (hb : S256x1.Broadcasts (Rows N)) : FVec F S1x256x128 .bf16 :=
  head N (masks own h (chosen own h.le (gates own q km)) N (hc _)) q k v hr hb

end Cert.Moba

end
-- ==== Proof.MobaSoft.lean ====
module

public import Idealize.ShloMosaic.Lib.Pointwise

@[expose] public section

noncomputable section

/-! A softmax-weighted sum over the extended reals: which keys it depends on, and that the weights
    may be divided by their sum before or after. -/

namespace Cert.Moba

open Idealize.ShloMosaic

variable {ι κ : Type} [Fintype ι] [Fintype κ]

/-- The largest score. -/
def top (t : ι → EReal) : EReal := Finset.univ.fold max ⊥ t

/-- A score's weight. -/
def weight (t : ι → EReal) (i : ι) : EReal := Ideal.exp (t i - top t)

/-- The values' sum weighted by the softmax of the scores. -/
def soft (t v : ι → EReal) : EReal := Ideal.div (∑ i, weight t i * v i) (∑ i, weight t i)

theorem exp_bot_sub (x : EReal) : Ideal.exp (⊥ - x) = 0 := by
  rw [sub_eq_add_neg, EReal.bot_add]; rfl

theorem top_eq_sup (t : ι → EReal) : top t = Finset.univ.sup t := rfl

theorem score_le (t : ι → EReal) (i : ι) : t i ≤ top t := by
  rw [top_eq_sup]; exact Finset.le_sup (Finset.mem_univ i)

/-- The scores `s` are the scores `t` met through `f`, each that counts exactly once: what does not
    count is `⊥` on either side. -/
structure Meets (f : κ → ι) (p : κ → Prop) (s : κ → EReal) (t : ι → EReal) : Prop where
  inj : ∀ a b, p a → p b → f a = f b → a = b
  eq : ∀ a, p a → s a = t (f a)
  out : ∀ a, ¬p a → s a = ⊥
  onto : ∀ i, t i ≠ ⊥ → ∃ a, p a ∧ f a = i

namespace Meets

variable {f : κ → ι} {p : κ → Prop} {s : κ → EReal} {t : ι → EReal} (h : Meets f p s t)
include h

theorem top_eq : top s = top t := by
  rw [top_eq_sup, top_eq_sup]
  refine le_antisymm (Finset.sup_le fun a _ => ?_) (Finset.sup_le fun i _ => ?_)
  · by_cases ha : p a
    · rw [h.eq a ha]; exact Finset.le_sup (Finset.mem_univ _)
    · rw [h.out a ha]; exact bot_le
  · by_cases hi : t i = ⊥
    · rw [hi]; exact bot_le
    · obtain ⟨a, ha, rfl⟩ := h.onto i hi
      rw [← h.eq a ha]; exact Finset.le_sup (Finset.mem_univ _)

theorem sum_eq (v : ι → EReal) : ∑ a, weight s a * v (f a) = ∑ i, weight t i * v i := by
  classical
  rw [← Finset.sum_filter_of_ne (p := p) (s := Finset.univ) (f := fun a => weight s a * v (f a))]
  · refine Finset.sum_of_injOn f ?_ (fun _ _ => Finset.mem_coe.mpr (Finset.mem_univ _)) ?_ ?_
    · intro a ha b hb e
      exact h.inj a b (Finset.mem_filter.mp ha).2 (Finset.mem_filter.mp hb).2 e
    · intro i _ hi
      have : t i = ⊥ := by
        by_contra hne
        obtain ⟨a, ha, e⟩ := h.onto i hne
        exact hi ⟨a, Finset.mem_coe.mpr (Finset.mem_filter.mpr ⟨Finset.mem_univ _, ha⟩), e⟩
      rw [weight, this, exp_bot_sub, zero_mul]
    · intro a ha
      rw [weight, weight, h.top_eq, h.eq a (Finset.mem_filter.mp ha).2]
  · intro a _ hne
    by_contra ha
    exact hne (by rw [weight, h.out a ha, exp_bot_sub, zero_mul])

theorem total_eq : ∑ a, weight s a = ∑ i, weight t i := by
  simpa only [mul_one] using h.sum_eq fun _ => 1

theorem soft_eq (v : ι → EReal) : soft s (fun a => v (f a)) = soft t v := by
  rw [soft, soft, h.sum_eq, h.total_eq]

end Meets

theorem exp_nonneg (x : EReal) : 0 ≤ Ideal.exp x := by
  induction x with
  | bot => exact le_rfl
  | top => exact le_top
  | coe x => exact EReal.coe_nonneg.mpr (Real.exp_pos x).le

theorem exp_real_pos (x : ℝ) : 0 < Ideal.exp (x : EReal) := EReal.coe_pos.mpr (Real.exp_pos x)

/-- A factor that is a real number, not negative, multiplies a sum term by term. -/
theorem sum_mul_real (f : ι → EReal) (c : EReal) (hc : 0 ≤ c) (ht : c ≠ ⊤) :
    ∑ i, f i * c = (∑ i, f i) * c := by
  classical
  induction (Finset.univ : Finset ι) using Finset.induction_on with
  | empty => simp
  | insert a u ha ih =>
    rw [Finset.sum_insert ha, Finset.sum_insert ha, ih, mul_comm _ c, mul_comm _ c, mul_comm _ c,
      EReal.left_distrib_of_nonneg_of_ne_top hc ht]

/-- The weights' sum is positive once a score is a real number and no score is `⊤`. -/
theorem total_pos (t : ι → EReal) (ht : ∀ i, t i ≠ ⊤) (i : ι) (hi : t i ≠ ⊥) : 0 < ∑ i, weight t i := by
  have h1 : top t ≠ ⊤ := by
    rw [top_eq_sup]
    exact ((Finset.sup_lt_iff (by exact bot_lt_top)).mpr fun j _ => lt_top_iff_ne_top.mpr (ht j)).ne
  have h2 : top t ≠ ⊥ := fun e => hi (le_bot_iff.mp (e ▸ score_le t i))
  refine lt_of_lt_of_le ?_ (Finset.single_le_sum (f := weight t) (fun j _ => exp_nonneg _) (Finset.mem_univ i))
  rw [weight, ← EReal.coe_toReal (ht i) hi, ← EReal.coe_toReal h1 h2, ← EReal.coe_sub]
  exact exp_real_pos _

/-- Weights divided by their sum, then summed against the values. -/
theorem soft_divided (t v : ι → EReal) (h : 0 < ∑ i, weight t i) :
    ∑ i, Ideal.div (weight t i) (∑ j, weight t j) * v i = soft t v := by
  have hd (x : EReal) : Ideal.div x (∑ j, weight t j) = x * (∑ j, weight t j)⁻¹ := by
    unfold Ideal.div; rw [if_neg h.ne']
  have hinv : (∑ j, weight t j)⁻¹ ≠ ⊤ := by
    intro e
    induction hs : (∑ j, weight t j) with
    | bot => rw [hs] at h; exact absurd h (by simp)
    | top => rw [hs, EReal.inv_top] at e; exact absurd e (by simp)
    | coe x =>
      rw [hs, ← EReal.coe_inv] at e
      exact EReal.coe_ne_top _ e
  rw [soft, hd, ← sum_mul_real _ _ (EReal.inv_nonneg_of_nonneg h.le) hinv]
  exact Finset.sum_congr rfl fun i _ => by rw [hd, mul_right_comm]

end Cert.Moba

end
-- ==== Proof.MobaSort.lean ====
module

public import Idealize.ShloMosaic.Lib.SortPrefix
public import Idealize.ShloMosaic.Lib.Pointwise

@[expose] public section

noncomputable section

/-! The blocks a query is sent to: the three first of a stable descending sort of the gate are the
    three of least rank, the rank of a block being the number of blocks above it. -/

namespace Cert.Moba

open Idealize.ShloMosaic

variable (g : Fin 8 → EReal)

/-- One block is above another: a larger gate, or an equal one and an earlier place. -/
abbrev Above (m n : Fin 8) : Prop := g n < g m ∨ (g m = g n ∧ m < n)

/-- How many blocks are above a block. -/
def rank (n : Fin 8) : ℕ := (Finset.univ.filter fun m => Above g m n).card

/-- The order the sort compares by: the larger gate first. -/
def gate_before (m n : Fin 8) : Bool := decide (g n < g m)

theorem above_strict : StrictTotalBefore fun m n => decide (Above g m n) where
  irrefl m := by simp [Above]
  trans a b c hab hbc := by
    simp only [decide_eq_true_eq] at hab hbc ⊢
    rcases hab with hab | ⟨eab, lab⟩ <;> rcases hbc with hbc | ⟨ebc, lbc⟩
    · exact Or.inl (hbc.trans hab)
    · exact Or.inl (ebc ▸ hab)
    · exact Or.inl (eab ▸ hbc)
    · exact Or.inr ⟨eab.trans ebc, lab.trans lbc⟩
  total a b hne := by
    simp only [decide_eq_true_eq]
    rcases lt_trichotomy (g a) (g b) with h | h | h
    · exact Or.inr (Or.inl h)
    · rcases lt_or_gt_of_ne hne with hl | hl
      · exact Or.inl (Or.inr ⟨h, hl⟩)
      · exact Or.inr (Or.inr ⟨h.symm, hl⟩)
    · exact Or.inl (Or.inl h)

/-- On a list in its places' order, a stable sort by the gate alone is the sort by gate and place. -/
theorem sort_by_place (l : List (Fin 8)) (hl : l.Pairwise (· < ·)) :
    stableSort (gate_before g) l = stableSort (fun m n => decide (Above g m n)) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp only [gate_before, Above]
    congr 1
    simp [not_lt_of_gt hab]

/-- The block at each place of the sort. -/
def place : Fin 8 → Fin 8 := sortedFrom (gate_before g)

theorem place_eq : place g = sortedFrom fun m n => decide (Above g m n) := by
  funext k
  unfold place sortedFrom
  have e : sortPositions 8 (gate_before g) = sortPositions 8 fun m n => decide (Above g m n) :=
    sort_by_place g _ (List.pairwise_lt_finRange 8)
  rw [List.get_of_eq e]
  rfl

theorem place_injective : Function.Injective (place g) := sortedFrom_injective _

theorem place_surjective : Function.Surjective (place g) := sortedFrom_surjective _

/-- An earlier place of the sort is above a later one. -/
theorem place_above (i j : Fin 8) (h : i < j) : Above g (place g i) (place g j) := by
  have hB := above_strict g
  have hn : ¬Above g (place g j) (place g i) := by
    have := sortedFrom_noInversion _ _ (fun a b h => hB.asymm a b h) (fun _ _ h => h) hB.negTrans i j h
    rw [← place_eq] at this
    exact of_decide_eq_false this
  rcases hB.total (place g i) (place g j) fun e => absurd (place_injective g e) h.ne with h' | h'
  · exact of_decide_eq_true h'
  · exact absurd (of_decide_eq_true h') hn

theorem place_above_iff (i j : Fin 8) : Above g (place g i) (place g j) ↔ i < j := by
  refine ⟨fun h => ?_, place_above g i j⟩
  by_contra hij
  have hB := above_strict g
  rcases (not_lt.mp hij).eq_or_lt with e | hl
  · subst e
    exact absurd (decide_eq_true h) (by rw [hB.irrefl]; decide)
  · have := hB.asymm _ _ (decide_eq_true (place_above g j i hl))
    exact absurd h (of_decide_eq_false this)

/-- A block's place in the sort is its rank. -/
theorem rank_place (i : Fin 8) : rank g (place g i) = i.val := by
  have e : (Finset.univ.filter fun m => Above g m (place g i))
      = (Finset.Iio i).map ⟨place g, place_injective g⟩ := by
    ext m
    obtain ⟨j, rfl⟩ := place_surjective g m
    simp only [Finset.mem_filter, Finset.mem_univ, true_and, place_above_iff, Finset.mem_map,
      Finset.mem_Iio, Function.Embedding.coeFn_mk]
    exact ⟨fun h => ⟨j, h, rfl⟩, fun ⟨k, hk, ek⟩ => place_injective g ek ▸ hk⟩
  rw [rank, e, Finset.card_map, Fin.card_Iio]

/-- A block is among the three first of the sort exactly when its rank is below three. -/
theorem rank_lt (n : Fin 8) : rank g n < 3 ↔ ∃ a : Fin 3, place g (a.castLE (by decide)) = n := by
  obtain ⟨i, rfl⟩ := place_surjective g n
  rw [rank_place]
  constructor
  · exact fun h => ⟨⟨i.val, h⟩, rfl⟩
  · rintro ⟨a, ha⟩
    have := congrArg Fin.val (place_injective g ha)
    simp only [Fin.val_castLE] at this
    omega

/-- Blocks with no gate are above none that comes before them: the rank counts among the first
    `own` blocks alone. -/
theorem rank_own (own : ℕ) (hg : ∀ m : Fin 8, own ≤ m.val → g m = ⊥) (n : Fin 8) (hn : n.val < own) :
    rank g n = (Finset.univ.filter fun m : Fin 8 => m.val < own ∧ Above g m n).card := by
  unfold rank
  congr 1
  ext m
  simp only [Finset.mem_filter, Finset.mem_univ, true_and]
  refine ⟨fun h => ⟨?_, h⟩, fun h => h.2⟩
  by_contra hm
  rcases h with h | ⟨-, h⟩
  · rw [hg m (not_lt.mp hm)] at h
    exact absurd h not_lt_bot
  · exact absurd (Fin.lt_def.mp h) (by omega)

end Cert.Moba

end
-- ==== Proof.MobaRead.lean ====
module

public import proofs.«01_k».proof.Proof.MobaPiece
public import proofs.«01_k».proof.Proof.MobaSoft
public import proofs.«01_k».proof.Proof.MobaSort
public import Idealize.ShloMosaic.Lib.Pipeline.Value
public import Idealize.ShloMosaic.Lib.Pointwise
public import Idealize.ShloMosaic.Lib.WordCmp

@[expose] public section

set_option maxRecDepth 16384

noncomputable section

/-! One head's attention of one block of queries, entry by entry over the extended reals. -/

namespace Cert.Moba

open Cert.KernelIdeal Cert.KernelIdeal.Gen Idealize.ShloMosaic

theorem neg_inf : Ideal.ofBits .f32 4286578688#32 = ⊥ := by
  simp [Ideal.ofBits, Ideal.ieee]

theorem half_pos : 0 < Ideal.ofBits .f32 0x3F000000#32 ∧ Ideal.ofBits .f32 0x3F000000#32 < 1 := by
  have e : Ideal.ofBits .f32 0x3F000000#32 = (((1 : ℝ) / 2 : ℝ) : EReal) := by
    simp [Ideal.ofBits, Ideal.ieee, -EReal.coe_mul]; norm_num
  rw [e]
  exact ⟨EReal.coe_pos.mpr (by norm_num), by rw [← EReal.coe_one]; exact EReal.coe_lt_coe_iff.mpr (by norm_num)⟩

theorem select_of {α : Type} (p : Prop) [Decidable p] (x y : α) :
    Scalar.select (BitVec.ofBool (decide p)) x y = if p then x else y := by
  by_cases h : p <;> simp [h, Scalar.select]

theorem and_of (p q : Prop) [Decidable p] [Decidable q] :
    IntOp.andi (BitVec.ofBool (decide p)) (BitVec.ofBool (decide q)) = BitVec.ofBool (decide (p ∧ q)) := by
  by_cases h : p <;> by_cases h' : q <;> simp [h, h', IntOp.andi]

theorem or_of (p q : Prop) [Decidable p] [Decidable q] :
    IntOp.ori (BitVec.ofBool (decide p)) (BitVec.ofBool (decide q)) = BitVec.ofBool (decide (p ∨ q)) := by
  by_cases h : p <;> by_cases h' : q <;> simp [h, h', IntOp.ori]

theorem gates_apply (own : ℕ) (h : own < 8) (q : FVec Ideal S256x128 .bf16) (km : FVec Ideal S8x128 .f32)
    (r : Fin 256) (n : Fin 8) : gates own q km (ix2 r n)
      = if n.val < own then ∑ d : Fin 128, q (ix2 r d) * km (ix2 n d) else ⊥ := by
  pointwise [gates, blockIds]
  rw [WordCmp.cmpi_slt_ofNat (by omega) (by omega), select_of, neg_inf]

theorem over_apply (g : FVec Ideal S256x8 .f32) (m : ℕ) (h : m < 8) (r : Fin 256) (n : Fin 8) :
    over g m h (ix2 r n) = if Above (fun n => g (ix2 r n)) ⟨m, h⟩ n then 1#32 else 0#32 := by
  pointwise [over, blockIds]
  rw [WordCmp.cmpi_sgt_ofNat (by omega) (by omega), and_of, or_of, select_of]
  rfl

theorem ranks_apply (g : FVec Ideal S256x8 .f32) (r : Fin 256) (j : Fin 8) : ∀ (n : ℕ) (h : n ≤ 8),
    ranks g n h (ix2 r j) = BitVec.ofNat 32
      (Finset.univ.filter fun m : Fin 8 => m.val < n ∧ Above (fun n => g (ix2 r n)) m j).card
  | 0, _ => by simp [ranks]; rfl
  | n + 1, h => by
    have e : ranks g (n + 1) h (ix2 r j)
        = ranks g n (Nat.le_of_succ_le h) (ix2 r j) + over g n h (ix2 r j) := rfl
    rw [e, ranks_apply g r j n, over_apply]
    by_cases ha : Above (fun n => g (ix2 r n)) ⟨n, h⟩ j
    · rw [if_pos ha]
      have : (Finset.univ.filter fun m : Fin 8 => m.val < n + 1 ∧ Above (fun n => g (ix2 r n)) m j)
          = insert ⟨n, h⟩ (Finset.univ.filter fun m : Fin 8 => m.val < n ∧ Above (fun n => g (ix2 r n)) m j) := by
        ext m
        simp only [Finset.mem_filter, Finset.mem_univ, true_and, Finset.mem_insert, Fin.ext_iff]
        constructor
        · rintro ⟨h1, h2⟩
          rcases Nat.lt_succ_iff_lt_or_eq.mp h1 with h3 | h3
          · exact .inr ⟨h3, h2⟩
          · exact .inl h3
        · rintro (h1 | h1)
          · obtain rfl : m = ⟨n, h⟩ := Fin.ext h1
            exact ⟨Nat.lt_succ_self _, ha⟩
          · exact ⟨Nat.lt_succ_of_lt h1.1, h1.2⟩
      rw [this, Finset.card_insert_of_notMem (by simp), BitVec.ofNat_add]
    · rw [if_neg ha, BitVec.add_zero]
      congr 2
      ext m
      simp only [Finset.mem_filter, Finset.mem_univ, true_and]
      refine ⟨fun h' => ⟨Nat.lt_succ_of_lt h'.1, h'.2⟩, fun h' => ⟨?_, h'.2⟩⟩
      rcases Nat.lt_succ_iff_lt_or_eq.mp h'.1 with h3 | h3
      · exact h3
      · obtain rfl : m = ⟨n, h⟩ := Fin.ext h3
        exact absurd h'.2 ha

/-- A block before the queries' own is chosen when its rank is below three. -/
theorem chosen_apply (own : ℕ) (h : own ≤ 8) (g : FVec Ideal S256x8 .f32) (r : Fin 256)
    (hg : ∀ m : Fin 8, own ≤ m.val → g (ix2 r m) = ⊥) (n : Fin 8) : chosen own h g (ix2 r n)
      = if n.val < own ∧ rank (fun n => g (ix2 r n)) n < 3 then 1 else 0 := by
  pointwise [chosen, blockIds]
  have hc : (Finset.univ.filter fun m : Fin 8 => m.val < own ∧ Above (fun n => g (ix2 r n)) m n).card ≤ 8 :=
    (Finset.card_filter_le _ _).trans (by simp)
  rw [WordCmp.cmpi_slt_ofNat (by omega) (by omega), ranks_apply, WordCmp.cmpi_slt_ofNat (by omega) (by omega),
    and_of, select_of]
  refine if_congr (and_congr_right fun hn => ?_) rfl rfl
  rw [rank_own _ own hg n hn]

theorem spread_apply (x : FVec Ideal S256x8 .f32) (n : ℕ) (h : n < 8) (r j : Fin 256) :
    spread x n h (ix2 r j) = x (ix2 r ⟨n, h⟩) := by
  pointwise [spread]

theorem diagonal_apply (r j : Fin 256) : k0_pay234 (F := Ideal) (ix2 r j) = if j.val ≤ r.val then 1 else 0 := by
  pointwise [k0_pay234]
  rw [WordCmp.cmpi_sle_ofNat (by omega) (by omega), select_of]

theorem scores_apply (N : ℕ) (mask : FVec Ideal (Rows N) .f32) (q : FVec Ideal S256x128 .bf16)
    (k : FVec Ideal (Keys N) .bf16) (r : Fin 256) (x : Fin N) (p : Prop) [Decidable p]
    (hp : mask (ix2 r x) = if p then 1 else 0) : scores N mask q k (ix2 r x)
      = if p then (∑ d : Fin 128, q (ix2 r d) * k (ix2 x d)) * FloatOps.ofBits (F := Ideal) .f32 0x3DB504F3#32 else ⊥ := by
  have e : scores N mask q k (ix2 r x) = Scalar.select
      (BitVec.ofBool (decide (Ideal.ofBits .f32 0x3F000000#32 < mask (ix2 r x))))
      (FloatOps.matmul (DotDims.transposedRhs 256 128 N) none q k (constant (Rows N) .f32 0x00000000#32) (ix2 r x)
        * FloatOps.ofBits (F := Ideal) .f32 0x3DB504F3#32) (FloatOps.ofBits (F := Ideal) .f32 0xFF800000#32) := rfl
  have hm := Ideal.matmul_transposedRhs_apply (none : Option ContractPrecision) q k
    (constant (Rows N) .f32 0x00000000#32) r x
  rw [ValueIdx.constant_apply, Ideal.ofBits_zero_f32, zero_add] at hm
  rw [e, select_of, hp]
  by_cases h : p
  · rw [if_pos h, if_pos h, if_pos half_pos.2]
    exact congrArg (· * FloatOps.ofBits (F := Ideal) .f32 0x3DB504F3#32) hm
  · rw [if_neg h, if_neg h, if_neg half_pos.1.not_gt]
    exact neg_inf

theorem weights_apply (N : ℕ) (s : FVec Ideal (Rows N) .f32) (hr : (Rows N).Reduces [1] S256)
    (hb : S256x1.Broadcasts (Rows N)) (r : Fin 256) (x : Fin N) :
    weights N s hr hb (ix2 r x) = weight (fun y : Fin N => s (ix2 r y)) x := by
  pointwise [weights]
  rw [neg_inf]
  rfl

theorem attended_apply (N : ℕ) (w : FVec Ideal (Rows N) .f32) (v : FVec Ideal (Keys N) .bf16)
    (hr : (Rows N).Reduces [1] S256) (r : Fin 256) (e : Fin 128) : attended N w v hr (ix3 0 r e)
      = Ideal.div (∑ x : Fin N, w (ix2 r x) * v (ix2 x e)) (∑ x : Fin N, w (ix2 r x)) := by
  pointwise [attended]
  have := Ideal.matmul_plain_apply (none : Option ContractPrecision) (truncf .bf16 w bitsLt_bf16_f32) v
    (constant S256x128 .f32 0x00000000#32) r e
  refine congrArg₂ Ideal.div (this.trans ?_) rfl
  rw [ValueIdx.constant_apply, Ideal.ofBits_zero_f32, zero_add]
  rfl

/-- A head's entry is the softmax-weighted sum of the values' column. -/
theorem head_apply (N : ℕ) (mask : FVec Ideal (Rows N) .f32) (q : FVec Ideal S256x128 .bf16)
    (k v : FVec Ideal (Keys N) .bf16) (hr : (Rows N).Reduces [1] S256) (hb : S256x1.Broadcasts (Rows N))
    (r : Fin 256) (e : Fin 128) : head N mask q k v hr hb (ix3 0 r e)
      = soft (fun x : Fin N => scores N mask q k (ix2 r x)) fun x => v (ix2 x e) := by
  unfold head
  rw [attended_apply]
  simp only [weights_apply]
  rfl

theorem masks_apply (own : ℕ) (h : own < 8) (x : FVec Ideal S256x8 .f32) (N : ℕ)
    (hc) (hN : N = 256 * (own + 1)) (r : Fin 256) (c : Fin N) : masks own h x N hc (ix2 r c)
      = if hn : c.val / 256 < own then x (ix2 r ⟨c.val / 256, hn.trans h⟩)
        else if c.val % 256 ≤ r.val then 1 else 0 := by
  subst hN
  unfold masks
  have hq : c.val / 256 < own + 1 := by omega
  have := concatenate_ofFn_apply (t := Rows (256 * (own + 1))) (s₁ := S256x256) 1
    (fun n : Fin (own + 1) => if hn : n.val < own then spread x n.val (hn.trans h) else k0_pay234) hc rfl 256 rfl
    (ix2 r c) ⟨c.val / 256, hq⟩ rfl (ix2 r ⟨c.val % 256, Nat.mod_lt _ (by decide)⟩) rfl
    (fun b hb => match b with
      | ⟨0, _⟩ => rfl
      | ⟨1, _⟩ => absurd rfl hb)
  refine this.trans ?_
  by_cases hn : c.val / 256 < own
  · rw [dif_pos hn, dif_pos hn, spread_apply]
  · rw [dif_neg hn, dif_neg hn, diagonal_apply]

/-- The gate of the blocks before the queries' own: a query against the blocks' mean keys. -/
def gate (own : ℕ) (q : Fin 128 → EReal) (km : Fin 8 → Fin 128 → EReal) (n : Fin 8) : EReal :=
  if n.val < own then ∑ d : Fin 128, q d * km n d else ⊥

/-- Whether a query, row `r` of block `own`, reads a key, given by its block and its row there: the
    blocks of the three largest gates, and its own block up to itself. -/
def Reads (own : ℕ) (r : Fin 256) (g : Fin 8 → EReal) (x : Fin 8 × Fin 256) : Prop :=
  (x.1.val < own ∧ rank g x.1 < 3) ∨ (x.1.val = own ∧ x.2.val ≤ r.val)

instance (own : ℕ) (r : Fin 256) (g : Fin 8 → EReal) (x : Fin 8 × Fin 256) : Decidable (Reads own r g x) :=
  inferInstanceAs (Decidable (_ ∨ _))

/-- A query's scaled score of each key, minus infinity where it does not read the key. -/
def keyScore (own : ℕ) (r : Fin 256) (g : Fin 8 → EReal) (q : Fin 128 → EReal)
    (k : Fin 8 → Fin 256 → Fin 128 → EReal) (x : Fin 8 × Fin 256) : EReal :=
  if Reads own r g x then (∑ d : Fin 128, q d * k x.1 x.2 d) * Ideal.ofBits .f32 0x3DB504F3#32 else ⊥

/-- A query's result: the values weighted by the softmax of its scores. -/
def attend (own : ℕ) (r : Fin 256) (q : Fin 128 → EReal) (km : Fin 8 → Fin 128 → EReal)
    (k v : Fin 8 → Fin 256 → Fin 128 → EReal) (e : Fin 128) : EReal :=
  soft (keyScore own r (gate own q km) q k) fun x => v x.1 x.2 e

/-- A key's block and its row there. -/
def blockRow (N own : ℕ) (h : own < 8) (hN : N = 256 * (own + 1)) (c : Fin N) : Fin 8 × Fin 256 :=
  (⟨c.val / 256, by omega⟩, ⟨c.val % 256, Nat.mod_lt _ (by decide)⟩)

/-- A head's entry, its mask being one at the keys the query reads and zero elsewhere. -/
theorem head_attend (own : ℕ) (h : own < 8) (N : ℕ) (hN : N = 256 * (own + 1)) (mask : FVec Ideal (Rows N) .f32)
    (q : FVec Ideal S256x128 .bf16) (km : Fin 8 → Fin 128 → EReal)
    (k v : FVec Ideal (Keys N) .bf16) (hr : (Rows N).Reduces [1] S256) (hb : S256x1.Broadcasts (Rows N))
    (K V : Fin 8 → Fin 256 → Fin 128 → EReal)
    (hk : ∀ c d, k (ix2 c d) = K (blockRow N own h hN c).1 (blockRow N own h hN c).2 d)
    (hv : ∀ c d, v (ix2 c d) = V (blockRow N own h hN c).1 (blockRow N own h hN c).2 d)
    (r : Fin 256) (hm : ∀ c, mask (ix2 r c)
      = if Reads own r (gate own (fun d => q (ix2 r d)) km) (blockRow N own h hN c) then 1 else 0) (e : Fin 128) :
    head N mask q k v hr hb (ix3 0 r e) = attend own r (fun d => q (ix2 r d)) km K V e := by
  rw [head_apply]
  simp only [hv]
  refine Meets.soft_eq (f := blockRow N own h hN) (p := fun _ => True) ⟨?_, ?_, ?_, ?_⟩ fun x => V x.1 x.2 e
  · intro a b _ _ hab
    have h1 := congrArg (fun x => x.1.val) hab
    have h2 := congrArg (fun x => x.2.val) hab
    simp only [blockRow] at h1 h2
    exact Fin.ext (by omega)
  · intro c _
    rw [scores_apply _ _ _ _ _ _ _ (hm c), keyScore]
    simp only [hk]
    rfl
  · exact fun _ ha => absurd trivial ha
  · intro x hx
    have hx1 : x.1.val ≤ own := by
      by_contra hc
      refine hx (if_neg ?_)
      rintro (h | h) <;> omega
    refine ⟨⟨256 * x.1.val + x.2.val, by omega⟩, trivial, Prod.ext (Fin.ext ?_) (Fin.ext ?_)⟩
    · show (256 * x.1.val + x.2.val) / 256 = _
      omega
    · show (256 * x.1.val + x.2.val) % 256 = _
      omega

/-- The first block's queries read their own block alone. -/
theorem first_apply (q : FVec Ideal S256x128 .bf16) (km : Fin 8 → Fin 128 → EReal)
    (k v : FVec Ideal (Keys 256) .bf16) (hr : (Rows 256).Reduces [1] S256) (hb : S256x1.Broadcasts (Rows 256))
    (K V : Fin 8 → Fin 256 → Fin 128 → EReal)
    (hk : ∀ c d, k (ix2 c d) = K (blockRow 256 0 (by decide) rfl c).1 (blockRow 256 0 (by decide) rfl c).2 d)
    (hv : ∀ c d, v (ix2 c d) = V (blockRow 256 0 (by decide) rfl c).1 (blockRow 256 0 (by decide) rfl c).2 d)
    (r : Fin 256) (e : Fin 128) :
    head 256 k0_pay234 q k v hr hb (ix3 0 r e) = attend 0 r (fun d => q (ix2 r d)) km K V e := by
  refine head_attend 0 (by decide) 256 rfl _ q km k v hr hb K V hk hv r (fun c => ?_) e
  rw [diagonal_apply]
  refine if_congr ⟨fun h => .inr ⟨?_, ?_⟩, ?_⟩ rfl rfl
  · exact Nat.div_eq_of_lt c.isLt
  · exact (Nat.mod_eq_of_lt c.isLt).trans_le h
  · rintro (⟨h, -⟩ | ⟨-, h⟩)
    · exact absurd h (Nat.not_lt_zero _)
    · exact (Nat.mod_eq_of_lt c.isLt).symm.trans_le h

/-- A later block's queries read the blocks their gates choose, and their own. -/
theorem piece_apply (own : ℕ) (h : own < 8) (N : ℕ) (hN : N = 256 * (own + 1)) (q : FVec Ideal S256x128 .bf16)
    (km : FVec Ideal S8x128 .f32) (k v : FVec Ideal (Keys N) .bf16) (hc)
    (hr : (Rows N).Reduces [1] S256) (hb : S256x1.Broadcasts (Rows N))
    (K V : Fin 8 → Fin 256 → Fin 128 → EReal)
    (hk : ∀ c d, k (ix2 c d) = K (blockRow N own h hN c).1 (blockRow N own h hN c).2 d)
    (hv : ∀ c d, v (ix2 c d) = V (blockRow N own h hN c).1 (blockRow N own h hN c).2 d)
    (r : Fin 256) (e : Fin 128) : piece own h N q km k v hc hr hb (ix3 0 r e)
      = attend own r (fun d => q (ix2 r d)) (fun n d => km (ix2 n d)) K V e := by
  refine head_attend own h N hN _ q _ k v hr hb K V hk hv r (fun c => ?_) e
  have hg : (fun n => gates own q km (ix2 r n)) = gate own (fun d => q (ix2 r d)) fun n d => km (ix2 n d) := by
    funext n
    rw [gates_apply own h]
    rfl
  rw [masks_apply own h _ N _ hN]
  by_cases hn : c.val / 256 < own
  · rw [dif_pos hn, chosen_apply own h.le _ r fun m hm => (congrFun hg m).trans (if_neg (not_lt.mpr hm)), hg]
    refine if_congr ⟨fun h' => .inl h', ?_⟩ rfl rfl
    rintro (h' | ⟨h', -⟩)
    · exact h'
    · exact absurd h' hn.ne
  · rw [dif_neg hn]
    have hq : c.val / 256 = own := by omega
    refine if_congr ⟨fun h' => .inr ⟨hq, h'⟩, ?_⟩ rfl rfl
    rintro (⟨h', -⟩ | ⟨-, h'⟩)
    · exact absurd h' hn
    · exact h'

end Cert.Moba

end
-- ==== Proof.MobaBlock.lean ====
module

public import proofs.«01_k».proof.Proof.Gen.KernelIdeal.Frame
public import proofs.«01_k».proof.Proof.MobaRead
public import Idealize.ShloMosaic.Lib.Pointwise
public import Idealize.ShloMosaic.Lib.Tactic
public import Idealize.ShloMosaic.Lib.Pipeline.Value
public import Idealize.ShloMosaic.Lib.Pipeline.ValueKit.Tiles

@[expose] public section

set_option maxRecDepth 16384

noncomputable section

/-! What the attention kernel leaves of one block of queries, at each place of the block in its
    sequence. -/

namespace Cert.Moba

open Cert.KernelIdeal Cert.KernelIdeal.Gen Idealize.ShloMosaic Idealize.ShloMosaic.TcCoe Idealize.SL.Sem

theorem zeros2 : (![0, 0] : Fin 2 → Nat) = fun _ => 0 := by
  funext a; revert a; decide

theorem zeros3 : (![0, 0, 0] : Fin 3 → Nat) = fun _ => 0 := by
  funext a; revert a; decide

section

variable {F : FTy → Type} [FloatOps F]

/-- Four heads' results side by side. -/
def layout (p : Fin 4 → FVec F S1x256x128 .bf16) : FVec F S1x256x512 .bf16 := fun i =>
  p ⟨(i 2).val / 128, by have := (i 2).isLt; change _ < 512 at this; omega⟩
    (ix3 0 (i 1) ⟨(i 2).val % 128, Nat.mod_lt _ (by decide)⟩)

theorem layout_at (p : Fin 4 → FVec F S1x256x128 .bf16) (i : S1x256x512.Idx) (n : Fin 4) (r : Fin 256) (e : Fin 128)
    (h1 : (i 1).val = r.val) (h2 : (i 2).val = 128 * n.val + e.val) : layout p i = p n (ix3 0 r e) := by
  unfold layout
  have hn : (i 2).val / 128 = n.val := by rw [h2]; omega
  have he : (i 2).val % 128 = e.val := by rw [h2]; omega
  have e1 : (⟨(i 2).val / 128, by rw [hn]; exact n.isLt⟩ : Fin 4) = n := Fin.ext hn
  have e2 : (⟨(i 2).val % 128, Nat.mod_lt _ (by decide)⟩ : Fin 128) = e := Fin.ext he
  have e3 : i 1 = r := Fin.ext h1
  rw [e1, e2, e3]

theorem columns (n : ℕ) (h : n < 4) (a b : ℕ) (hb : b ≤ a) :
    ∀ k : Fin 2, (![0, 128 * n] : Fin 2 → ℕ) k + (![b, 128] : Fin 2 → ℕ) k ≤ (![a, 512] : Fin 2 → ℕ) k
  | ⟨0, _⟩ => by show 0 + b ≤ a; omega
  | ⟨1, _⟩ => by show 128 * n + 128 ≤ 512; omega

theorem head_column (n : ℕ) (h : n < 4) : S256x512.Slices ![0, 128 * n] S256x128 :=
  ⟨rfl, columns n h 256 256 le_rfl⟩

theorem head_store (n : ℕ) (h : n < 4) :
    ∀ k : Fin 3, (![0, 0, 128 * n] : Fin 3 → ℕ) k + (![1, 256, 128] : Fin 3 → ℕ) k ≤ (![1, 256, 512] : Fin 3 → ℕ) k
  | ⟨0, _⟩ => le_rfl
  | ⟨1, _⟩ => le_rfl
  | ⟨2, _⟩ => by show 128 * n + 128 ≤ 512; omega

/-- One head's columns of a block of queries, of the mean keys, of the keys or values. -/
def headQ (v5 : FVec F S256x512 .bf16) (n : Fin 4) : FVec F S256x128 .bf16 :=
  extractStridedSlice S256x128 ![0, 128 * n.val] v5 (head_column n.val n.isLt)
def headKm (xs : FVec F S8x512 .f32) (n : Fin 4) : FVec F S8x128 .f32 :=
  View.ld (Val := Elt F) (e' := .f32) xs (Rect.unit (s := S8x512) ![0, 128 * n.val] ![8, 128] (columns n.val n.isLt 8 8 le_rfl))
def headKv (N : ℕ) (hN : N ≤ 2048) (xs : FVec F S2048x512 .bf16) (n : Fin 4) : FVec F (Keys N) .bf16 :=
  View.ld (Val := Elt F) (e' := .bf16) xs (Rect.unit (s := S2048x512) ![0, 128 * n.val] ![N, 128] (columns n.val n.isLt 2048 N hN))

/-- A later block's result. -/
def later (own : ℕ) (h : own < 8) (N : ℕ) (hN : N ≤ 2048)
    (hc : ∀ x : FVec F S256x8 .f32, Shape.Concatenates ((List.ofFn fun n : Fin (own + 1) => (⟨S256x256,
      if hn : n.val < own then spread x n.val (hn.trans h) else k0_pay234⟩ :
        (s : Shape) × (s.Idx → F .f32))).map (·.1)) (Rows N) 1)
    (hr : (Rows N).Reduces [1] S256) (hb : S256x1.Broadcasts (Rows N)) (x0 : FVec F S1x256x512 .f32)
    (xs0 : FVec F S8x512 .f32) (xs1 xs2 : FVec F S2048x512 .bf16) : FVec F S1x256x512 .bf16 :=
  layout fun n => piece own h N (headQ (k0_pay233 x0) n) (headKm xs0 n) (headKv N hN xs1 n) (headKv N hN xs2 n) hc hr hb

/-- The first block's result. -/
def first (hr : (Rows 256).Reduces [1] S256) (hb : S256x1.Broadcasts (Rows 256)) (x0 : FVec F S1x256x512 .f32) (xs1 xs2 : FVec F S2048x512 .bf16) : FVec F S1x256x512 .bf16 :=
  layout fun n => head 256 k0_pay234 (headQ (k0_pay233 x0) n) (headKv 256 (by decide) xs1 n)
    (headKv 256 (by decide) xs2 n) hr hb

theorem stored (p : Fin 4 → FVec F S1x256x128 .bf16) : View.canon (Val := Elt F) (s := S1x256x512) (e := .bf16)
    [⟨Rect.unit ![0, 0, 384] ![1, 256, 128] (head_store 3 (by decide)), p 3⟩,
      ⟨Rect.unit ![0, 0, 256] ![1, 256, 128] (head_store 2 (by decide)), p 2⟩,
      ⟨Rect.unit ![0, 0, 128] ![1, 256, 128] (head_store 1 (by decide)), p 1⟩,
      ⟨Rect.unit ![0, 0, 0] ![1, 256, 128] (head_store 0 (by decide)), p 0⟩] = layout p := by
  funext y
  refine View.canon_apply_of_pieces (Val := Elt F) (e := .bf16) (layout p) _ ?_ y ?_
  · have h (n : Fin 4) (x : S1x256x128.Idx) :
        p n x = layout p ((Rect.unit (s := S1x256x512) ![0, 0, 128 * n.val] ![1, 256, 128] (head_store n.val n.isLt)).emb x) := by
      have h2 := Rect.idx_unit_val (s := S1x256x512) ![0, 0, 128 * n.val] ![1, 256, 128] (head_store n.val n.isLt) x 2
      have h1 := Rect.idx_unit_val (s := S1x256x512) ![0, 0, 128 * n.val] ![1, 256, 128] (head_store n.val n.isLt) x 1
      change _ = 128 * n.val + (x 2).val at h2
      change _ = 0 + (x 1).val at h1
      refine Eq.trans ?_ (layout_at p _ n (x 1) (x 2) (h1.trans (Nat.zero_add _)) h2).symm
      congr 1
      funext a
      match a with
      | ⟨0, _⟩ => exact Fin.ext (Nat.lt_one_iff.mp (x 0).isLt)
      | ⟨1, _⟩ => rfl
      | ⟨2, _⟩ => rfl
    intro q hq
    simp only [List.mem_cons, List.not_mem_nil, or_false] at hq
    rcases hq with rfl | rfl | rfl | rfl
    · exact h 3
    · exact h 2
    · exact h 1
    · exact h 0
  · exact View.cover_of_tiledL (s := S1x256x512) _ S1x256x128.size (by sl_kernel_rfl) y

variable (c : Dev nD) (i : grid0.Coords)
  (a2 : Memref sig .tc .vmem S1x256x512 .f32) (h2 : a2.IsWhole)
  (a3 : Memref sig .tc .vmem S1x2048x512 .f32) (h3 : a3.IsWhole)
  (a4 : Memref sig .tc .vmem S1x2048x512 .f32) (h4 : a4.IsWhole)
  (a5 : Memref sig .tc .vmem S1x256x512 .bf16) (h5 : a5.IsWhole)
  (a6 : Memref sig .tc .vmem S8x512 .f32) (h6 : a6.IsWhole)
  (a7 : Memref sig .tc .vmem S2048x512 .bf16) (h7 : a7.IsWhole)
  (a8 : Memref sig .tc .vmem S2048x512 .bf16) (h8 : a8.IsWhole)
  (x0 : Vec F S1x256x512 .f32) (x1 : Vec F S1x2048x512 .f32) (x2 : Vec F S1x2048x512 .f32)
  (xs0 : Vec F S8x512 .f32) (xs1 : Vec F S2048x512 .bf16) (xs2 : Vec F S2048x512 .bf16)

/-! A later block's queries attend to the keys and values the scratches hold. -/

theorem block_B (hc0 : ¬cond0_0 i) (hc1 : ¬cond0_1 i) (hc2 : cond0_2 i) (hc3 : ¬cond0_3 i) (hc4 : ¬cond0_4 i)
    (hc5 : ¬cond0_5 i) (hc6 : ¬cond0_6 i) (hc7 : ¬cond0_7 i) (hc8 : ¬cond0_8 i) :
    out0_B_3 c i a2 h2 a3 h3 a4 h4 a5 h5 a6 h6 a7 h7 a8 h8 hc0 hc1 hc2 hc3 hc4 hc5 hc6 hc7 hc8 x0 x1 x2 xs0 xs1 xs2
      = later 1 (by decide) 512 (by decide) (fun _ => concatenates_S256x256_S256x256_S256x512_d1)
        reduces_S256x512_S256 broadcasts_S256x1_S256x512 x0 xs0 xs1 xs2 := by
  unfold out0_B_3
  rw [View.read_writes_eq_canon _ _ _ (cover0_B_3 c i a2 h2 a3 h3 a4 h4 a5 h5 a6 h6 a7 h7 a8 h8
    hc0 hc1 hc2 hc3 hc4 hc5 hc6 hc7 hc8 x0 x1 x2 xs0 xs1 xs2)]
  unfold kernelRun0_B
  dsimp only
  sl_unfold_words
  simp only [View.readAt_eq_ld, h2.read_unread, h6.read_unread, h7.read_unread, h8.read_unread,
    View.ld_unit_zero (S := S1x256x512) zeros3]
  refine Eq.trans ?_ (stored _)
  rfl

theorem block_C (hc0 : ¬cond0_0 i) (hc1 : ¬cond0_1 i) (hc2 : ¬cond0_2 i) (hc3 : cond0_3 i) (hc4 : ¬cond0_4 i)
    (hc5 : ¬cond0_5 i) (hc6 : ¬cond0_6 i) (hc7 : ¬cond0_7 i) (hc8 : ¬cond0_8 i) :
    out0_C_3 c i a2 h2 a3 h3 a4 h4 a5 h5 a6 h6 a7 h7 a8 h8 hc0 hc1 hc2 hc3 hc4 hc5 hc6 hc7 hc8 x0 x1 x2 xs0 xs1 xs2
      = later 2 (by decide) 768 (by decide) (fun _ => concatenates_S256x256_S256x256_S256x256_S256x768_d1)
        reduces_S256x768_S256 broadcasts_S256x1_S256x768 x0 xs0 xs1 xs2 := by
  unfold out0_C_3
  rw [View.read_writes_eq_canon _ _ _ (cover0_C_3 c i a2 h2 a3 h3 a4 h4 a5 h5 a6 h6 a7 h7 a8 h8
    hc0 hc1 hc2 hc3 hc4 hc5 hc6 hc7 hc8 x0 x1 x2 xs0 xs1 xs2)]
  unfold kernelRun0_C
  dsimp only
  sl_unfold_words
  simp only [View.readAt_eq_ld, h2.read_unread, h6.read_unread, h7.read_unread, h8.read_unread,
    View.ld_unit_zero (S := S1x256x512) zeros3]
  refine Eq.trans ?_ (stored _)
  rfl

theorem block_D (hc0 : ¬cond0_0 i) (hc1 : ¬cond0_1 i) (hc2 : ¬cond0_2 i) (hc3 : ¬cond0_3 i) (hc4 : cond0_4 i)
    (hc5 : ¬cond0_5 i) (hc6 : ¬cond0_6 i) (hc7 : ¬cond0_7 i) (hc8 : ¬cond0_8 i) :
    out0_D_3 c i a2 h2 a3 h3 a4 h4 a5 h5 a6 h6 a7 h7 a8 h8 hc0 hc1 hc2 hc3 hc4 hc5 hc6 hc7 hc8 x0 x1 x2 xs0 xs1 xs2
      = later 3 (by decide) 1024 (by decide) (fun _ => concatenates_S256x256_S256x256_S256x256_S256x256_S256x1024_d1)
        reduces_S256x1024_S256 broadcasts_S256x1_S256x1024 x0 xs0 xs1 xs2 := by
  unfold out0_D_3
  rw [View.read_writes_eq_canon _ _ _ (cover0_D_3 c i a2 h2 a3 h3 a4 h4 a5 h5 a6 h6 a7 h7 a8 h8
    hc0 hc1 hc2 hc3 hc4 hc5 hc6 hc7 hc8 x0 x1 x2 xs0 xs1 xs2)]
  unfold kernelRun0_D
  dsimp only
  sl_unfold_words
  simp only [View.readAt_eq_ld, h2.read_unread, h6.read_unread, h7.read_unread, h8.read_unread,
    View.ld_unit_zero (S := S1x256x512) zeros3]
  refine Eq.trans ?_ (stored _)
  rfl

theorem block_E (hc0 : ¬cond0_0 i) (hc1 : ¬cond0_1 i) (hc2 : ¬cond0_2 i) (hc3 : ¬cond0_3 i) (hc4 : ¬cond0_4 i)
    (hc5 : cond0_5 i) (hc6 : ¬cond0_6 i) (hc7 : ¬cond0_7 i) (hc8 : ¬cond0_8 i) :
    out0_E_3 c i a2 h2 a3 h3 a4 h4 a5 h5 a6 h6 a7 h7 a8 h8 hc0 hc1 hc2 hc3 hc4 hc5 hc6 hc7 hc8 x0 x1 x2 xs0 xs1 xs2
      = later 4 (by decide) 1280 (by decide) (fun _ => concatenates_S256x256_S256x256_S256x256_S256x256_S256x256_S256x1280_d1)
        reduces_S256x1280_S256 broadcasts_S256x1_S256x1280 x0 xs0 xs1 xs2 := by
  unfold out0_E_3
  rw [View.read_writes_eq_canon _ _ _ (cover0_E_3 c i a2 h2 a3 h3 a4 h4 a5 h5 a6 h6 a7 h7 a8 h8
    hc0 hc1 hc2 hc3 hc4 hc5 hc6 hc7 hc8 x0 x1 x2 xs0 xs1 xs2)]
  unfold kernelRun0_E
  dsimp only
  sl_unfold_words
  simp only [View.readAt_eq_ld, h2.read_unread, h6.read_unread, h7.read_unread, h8.read_unread,
    View.ld_unit_zero (S := S1x256x512) zeros3]
  refine Eq.trans ?_ (stored _)
  rfl

theorem block_F (hc0 : ¬cond0_0 i) (hc1 : ¬cond0_1 i) (hc2 : ¬cond0_2 i) (hc3 : ¬cond0_3 i) (hc4 : ¬cond0_4 i)
    (hc5 : ¬cond0_5 i) (hc6 : cond0_6 i) (hc7 : ¬cond0_7 i) (hc8 : ¬cond0_8 i) :
    out0_F_3 c i a2 h2 a3 h3 a4 h4 a5 h5 a6 h6 a7 h7 a8 h8 hc0 hc1 hc2 hc3 hc4 hc5 hc6 hc7 hc8 x0 x1 x2 xs0 xs1 xs2
      = later 5 (by decide) 1536 (by decide) (fun _ => concatenates_S256x256_S256x256_S256x256_S256x256_S256x256_S256x256_S256x1536_d1)
        reduces_S256x1536_S256 broadcasts_S256x1_S256x1536 x0 xs0 xs1 xs2 := by
  unfold out0_F_3
  rw [View.read_writes_eq_canon _ _ _ (cover0_F_3 c i a2 h2 a3 h3 a4 h4 a5 h5 a6 h6 a7 h7 a8 h8
    hc0 hc1 hc2 hc3 hc4 hc5 hc6 hc7 hc8 x0 x1 x2 xs0 xs1 xs2)]
  unfold kernelRun0_F
  dsimp only
  sl_unfold_words
  simp only [View.readAt_eq_ld, h2.read_unread, h6.read_unread, h7.read_unread, h8.read_unread,
    View.ld_unit_zero (S := S1x256x512) zeros3]
  refine Eq.trans ?_ (stored _)
  rfl

theorem block_G (hc0 : ¬cond0_0 i) (hc1 : ¬cond0_1 i) (hc2 : ¬cond0_2 i) (hc3 : ¬cond0_3 i) (hc4 : ¬cond0_4 i)
    (hc5 : ¬cond0_5 i) (hc6 : ¬cond0_6 i) (hc7 : cond0_7 i) (hc8 : ¬cond0_8 i) :
    out0_G_3 c i a2 h2 a3 h3 a4 h4 a5 h5 a6 h6 a7 h7 a8 h8 hc0 hc1 hc2 hc3 hc4 hc5 hc6 hc7 hc8 x0 x1 x2 xs0 xs1 xs2
      = later 6 (by decide) 1792 (by decide) (fun _ => concatenates_S256x256_S256x256_S256x256_S256x256_S256x256_S256x256_S256x256_S256x1792_d1)
        reduces_S256x1792_S256 broadcasts_S256x1_S256x1792 x0 xs0 xs1 xs2 := by
  unfold out0_G_3
  rw [View.read_writes_eq_canon _ _ _ (cover0_G_3 c i a2 h2 a3 h3 a4 h4 a5 h5 a6 h6 a7 h7 a8 h8
    hc0 hc1 hc2 hc3 hc4 hc5 hc6 hc7 hc8 x0 x1 x2 xs0 xs1 xs2)]
  unfold kernelRun0_G
  dsimp only
  sl_unfold_words
  simp only [View.readAt_eq_ld, h2.read_unread, h6.read_unread, h7.read_unread, h8.read_unread,
    View.ld_unit_zero (S := S1x256x512) zeros3]
  refine Eq.trans ?_ (stored _)
  rfl

theorem block_H (hc0 : ¬cond0_0 i) (hc1 : ¬cond0_1 i) (hc2 : ¬cond0_2 i) (hc3 : ¬cond0_3 i) (hc4 : ¬cond0_4 i)
    (hc5 : ¬cond0_5 i) (hc6 : ¬cond0_6 i) (hc7 : ¬cond0_7 i) (hc8 : cond0_8 i) :
    out0_H_3 c i a2 h2 a3 h3 a4 h4 a5 h5 a6 h6 a7 h7 a8 h8 hc0 hc1 hc2 hc3 hc4 hc5 hc6 hc7 hc8 x0 x1 x2 xs0 xs1 xs2
      = later 7 (by decide) 2048 (by decide) (fun _ => concatenates_S256x256_S256x256_S256x256_S256x256_S256x256_S256x256_S256x256_S256x256_S256x2048_d1)
        reduces_S256x2048_S256 broadcasts_S256x1_S256x2048 x0 xs0 xs1 xs2 := by
  unfold out0_H_3
  rw [View.read_writes_eq_canon _ _ _ (cover0_H_3 c i a2 h2 a3 h3 a4 h4 a5 h5 a6 h6 a7 h7 a8 h8
    hc0 hc1 hc2 hc3 hc4 hc5 hc6 hc7 hc8 x0 x1 x2 xs0 xs1 xs2)]
  unfold kernelRun0_H
  dsimp only
  sl_unfold_words
  simp only [View.readAt_eq_ld, h2.read_unread, h6.read_unread, h7.read_unread, h8.read_unread,
    View.ld_unit_zero (S := S1x256x512) zeros3]
  refine Eq.trans ?_ (stored _)
  rfl

/-! The first block's point fills the scratches, with the mean keys, the keys and the values. -/

theorem filled_0 (hc0 : cond0_0 i) (hc1 : cond0_1 i) (hc2 : ¬cond0_2 i) (hc3 : ¬cond0_3 i) (hc4 : ¬cond0_4 i)
    (hc5 : ¬cond0_5 i) (hc6 : ¬cond0_6 i) (hc7 : ¬cond0_7 i) (hc8 : ¬cond0_8 i) :
    sout0_A_0 c i a2 h2 a3 h3 a4 h4 a5 h5 a6 h6 a7 h7 a8 h8 hc0 hc1 hc2 hc3 hc4 hc5 hc6 hc7 hc8 x0 x1 x2
      = k0_pay232 x1 := by
  unfold sout0_A_0
  rw [View.read_writes_eq_canon _ _ _ (scover0_A_0 c i a2 h2 a3 h3 a4 h4 a5 h5 a6 h6 a7 h7 a8 h8
    hc0 hc1 hc2 hc3 hc4 hc5 hc6 hc7 hc8 x0 x1 x2)]
  unfold kernelRun0_A
  dsimp only
  sl_unfold_words
  rw [View.canon_unit_zero zeros2]
  simp only [View.readAt_eq_ld, h3.read_unread, View.ld_unit_zero (S := S1x2048x512) zeros3]

theorem filled_1 (hc0 : cond0_0 i) (hc1 : cond0_1 i) (hc2 : ¬cond0_2 i) (hc3 : ¬cond0_3 i) (hc4 : ¬cond0_4 i)
    (hc5 : ¬cond0_5 i) (hc6 : ¬cond0_6 i) (hc7 : ¬cond0_7 i) (hc8 : ¬cond0_8 i) :
    sout0_A_1 c i a2 h2 a3 h3 a4 h4 a5 h5 a6 h6 a7 h7 a8 h8 hc0 hc1 hc2 hc3 hc4 hc5 hc6 hc7 hc8 x0 x1 x2
      = k0_pay230 x1 := by
  unfold sout0_A_1
  rw [View.read_writes_eq_canon _ _ _ (scover0_A_1 c i a2 h2 a3 h3 a4 h4 a5 h5 a6 h6 a7 h7 a8 h8
    hc0 hc1 hc2 hc3 hc4 hc5 hc6 hc7 hc8 x0 x1 x2)]
  unfold kernelRun0_A
  dsimp only
  sl_unfold_words
  rw [View.canon_unit_zero zeros2]
  simp only [View.readAt_eq_ld, h3.read_unread, View.ld_unit_zero (S := S1x2048x512) zeros3]

theorem filled_2 (hc0 : cond0_0 i) (hc1 : cond0_1 i) (hc2 : ¬cond0_2 i) (hc3 : ¬cond0_3 i) (hc4 : ¬cond0_4 i)
    (hc5 : ¬cond0_5 i) (hc6 : ¬cond0_6 i) (hc7 : ¬cond0_7 i) (hc8 : ¬cond0_8 i) :
    sout0_A_2 c i a2 h2 a3 h3 a4 h4 a5 h5 a6 h6 a7 h7 a8 h8 hc0 hc1 hc2 hc3 hc4 hc5 hc6 hc7 hc8 x0 x1 x2
      = k0_pay231 x2 := by
  unfold sout0_A_2
  rw [View.read_writes_eq_canon _ _ _ (scover0_A_2 c i a2 h2 a3 h3 a4 h4 a5 h5 a6 h6 a7 h7 a8 h8
    hc0 hc1 hc2 hc3 hc4 hc5 hc6 hc7 hc8 x0 x1 x2)]
  unfold kernelRun0_A
  dsimp only
  sl_unfold_words
  rw [View.canon_unit_zero zeros2]
  simp only [View.readAt_eq_ld, h4.read_unread, View.ld_unit_zero (S := S1x2048x512) zeros3]

theorem read_back {S : Shape} {e : EltTy} (v : View sig .tc .vmem S e) {off : Fin S.rank → Nat} (h : off = fun _ => 0)
    (inb : ∀ a, off a + S.size a ≤ S.size a) (w : S.Idx → Elt F e) (r : Rect S) :
    v.readCov [(⟨Rect.unit off S.size inb, w⟩ : View.Piece (Elt F) S e)] r.toLoadRect = View.ld w r := by
  rw [View.readCov_eq_canon', View.canon_unit_zero h]

theorem block_A (hc0 : cond0_0 i) (hc1 : cond0_1 i) (hc2 : ¬cond0_2 i) (hc3 : ¬cond0_3 i) (hc4 : ¬cond0_4 i)
    (hc5 : ¬cond0_5 i) (hc6 : ¬cond0_6 i) (hc7 : ¬cond0_7 i) (hc8 : ¬cond0_8 i) :
    out0_A_3 c i a2 h2 a3 h3 a4 h4 a5 h5 a6 h6 a7 h7 a8 h8 hc0 hc1 hc2 hc3 hc4 hc5 hc6 hc7 hc8 x0 x1 x2
      = first reduces_S256x256_S256 broadcasts_S256x1_S256x256 x0 (k0_pay230 x1) (k0_pay231 x2) := by
  unfold out0_A_3
  rw [View.read_writes_eq_canon _ _ _ (cover0_A_3 c i a2 h2 a3 h3 a4 h4 a5 h5 a6 h6 a7 h7 a8 h8
    hc0 hc1 hc2 hc3 hc4 hc5 hc6 hc7 hc8 x0 x1 x2)]
  unfold kernelRun0_A
  dsimp only
  sl_unfold_words
  simp only [View.readAt_eq_ld, h2.read_unread, h3.read_unread, h4.read_unread,
    View.ld_unit_zero (S := S1x256x512) zeros3, View.ld_unit_zero (S := S1x2048x512) zeros3,
    read_back (S := S2048x512) _ zeros2]
  refine Eq.trans ?_ (stored _)
  rfl

end

end Cert.Moba

end
-- ==== Proof.MobaFold.lean ====
module

public import proofs.«01_k».proof.Proof.Gen.KernelIdeal.Value
public import proofs.«01_k».proof.Proof.MobaBlock
public import Idealize.ShloMosaic.Lib.Pointwise
public import Idealize.ShloMosaic.Lib.Tactic
public import Idealize.ShloMosaic.Lib.Pipeline.Value
public import Idealize.ShloMosaic.Lib.Pipeline.ValueKit.Tiles

@[expose] public section

set_option maxRecDepth 16384

noncomputable section

/-! What the attention kernel leaves in its result array. -/

namespace Cert.Moba

open Cert.KernelIdeal Cert.KernelIdeal.Gen Idealize.ShloMosaic Idealize.ShloMosaic.TcCoe Idealize.SL.Sem

/-- A column of the four heads' columns. -/
abbrev col (n : Fin 4) (d : Fin 128) : Fin 512 := ⟨128 * n.val + d.val, by omega⟩

/-- A row of the eight blocks' rows. -/
abbrev seq (n : Fin 8) (j : Fin 256) : Fin 2048 := ⟨n.val * 256 + j.val, by omega⟩

/-- A block's mean key. -/
def meanKey (k : Fin 8 → Fin 256 → Fin 128 → EReal) (n : Fin 8) (d : Fin 128) : EReal :=
  Ideal.div (∑ j, k n j d) (Ideal.ofBits .f32 0x43800000#32)

theorem headQ_apply (x0 : FVec Ideal S1x256x512 .f32) (n : Fin 4) (r : Fin 256) (d : Fin 128) :
    headQ (k0_pay233 (F := Ideal) x0) n (ix2 r d) = x0 (ix3 0 r (col n d)) := by
  pointwise [headQ, k0_pay233]

theorem headKm_apply (xs : FVec Ideal S8x512 .f32) (n : Fin 4) (b : Fin 8) (d : Fin 128) :
    headKm xs n (ix2 b d) = xs (ix2 b (col n d)) := by
  refine View.ld_unit_apply_of (Val := Elt Ideal) (e := .f32) xs _ _ _ _ _ fun a => ?_
  match a with
  | ⟨0, _⟩ => exact (Nat.zero_add _).symm
  | ⟨1, _⟩ => rfl

theorem headKv_apply (N own : ℕ) (h : own < 8) (hN : N = 256 * (own + 1)) (hN' : N ≤ 2048)
    (xs : FVec Ideal S2048x512 .bf16) (n : Fin 4) (x : Fin N) (d : Fin 128) : headKv N hN' xs n (ix2 x d)
      = xs (ix2 (seq (blockRow N own h hN x).1 (blockRow N own h hN x).2) (col n d)) := by
  refine View.ld_unit_apply_of (Val := Elt Ideal) (e := .bf16) xs _ _ _ _ _ fun a => ?_
  match a with
  | ⟨0, _⟩ => show x.val / 256 * 256 + x.val % 256 = 0 + x.val; omega
  | ⟨1, _⟩ => rfl

/-- A later block's result at an entry. -/
theorem later_apply (own : ℕ) (h : own < 8) (N : ℕ) (hN : N = 256 * (own + 1)) (hN' : N ≤ 2048) (hc) (hr) (hb)
    (x0 : FVec Ideal S1x256x512 .f32) (xs0 : FVec Ideal S8x512 .f32) (xs1 xs2 : FVec Ideal S2048x512 .bf16)
    (n : Fin 4) (r : Fin 256) (e : Fin 128) : later own h N hN' hc hr hb x0 xs0 xs1 xs2 (ix3 0 r (col n e))
      = attend own r (fun d => x0 (ix3 0 r (col n d))) (fun b d => xs0 (ix2 b (col n d)))
        (fun b j d => xs1 (ix2 (seq b j) (col n d))) (fun b j d => xs2 (ix2 (seq b j) (col n d))) e := by
  unfold later
  rw [layout_at _ _ n r e rfl rfl, piece_apply own h N hN _ _ _ _ hc hr hb
    (fun b j d => xs1 (ix2 (seq b j) (col n d))) (fun b j d => xs2 (ix2 (seq b j) (col n d)))
    (fun x d => headKv_apply N own h hN hN' xs1 n x d) (fun x d => headKv_apply N own h hN hN' xs2 n x d)]
  simp only [headQ_apply, headKm_apply]

/-- The first block's result at an entry, whatever its mean keys. -/
theorem first_block_apply (hr) (hb) (x0 : FVec Ideal S1x256x512 .f32) (xs1 xs2 : FVec Ideal S2048x512 .bf16)
    (km : Fin 8 → Fin 128 → EReal)
    (n : Fin 4) (r : Fin 256) (e : Fin 128) : first hr hb x0 xs1 xs2 (ix3 0 r (col n e))
      = attend 0 r (fun d => x0 (ix3 0 r (col n d))) km
        (fun b j d => xs1 (ix2 (seq b j) (col n d))) (fun b j d => xs2 (ix2 (seq b j) (col n d))) e := by
  unfold first
  rw [layout_at _ _ n r e rfl rfl, first_apply _ km _ _ hr hb
    (fun b j d => xs1 (ix2 (seq b j) (col n d))) (fun b j d => xs2 (ix2 (seq b j) (col n d)))
    (fun x d => headKv_apply 256 0 (by decide) rfl (by decide) xs1 n x d)
    (fun x d => headKv_apply 256 0 (by decide) rfl (by decide) xs2 n x d)]
  simp only [headQ_apply]

theorem mean_apply (x : FVec Ideal S1x2048x512 .f32) (b : Fin 8) (n : Fin 4) (d : Fin 128) :
    k0_pay232 (F := Ideal) x (ix2 b (col n d)) = meanKey (fun b j d => x (ix3 0 (seq b j) (col n d))) b d := by
  pointwise [k0_pay232, k0_pay229]
  rfl

theorem keys_apply (x : FVec Ideal S1x2048x512 .f32) (s : Fin 2048) (d : Fin 512) :
    k0_pay230 (F := Ideal) x (ix2 s d) = x (ix3 0 s d) := by
  pointwise [k0_pay230, k0_pay229]

theorem values_apply (x : FVec Ideal S1x2048x512 .f32) (s : Fin 2048) (d : Fin 512) :
    k0_pay231 (F := Ideal) x (ix2 s d) = x (ix3 0 s d) := by
  pointwise [k0_pay231]

/-- Where each window's block lies at a grid point: the sequence is the quotient by eight, the block
    of queries the remainder. -/
theorem tiles : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = 0 ∧ win0_1.index t (2 : Fin 3) = 0)
    ∧ (win0_2.index t (0 : Fin 3) = t.val / 8 ∧ win0_2.index t (1 : Fin 3) = 0 ∧ win0_2.index t (2 : Fin 3) = 0)
    ∧ (win0_3.index t (0 : Fin 3) = t.val / 8 ∧ win0_3.index t (1 : Fin 3) = t.val % 8 ∧ win0_3.index t (2 : Fin 3) = 0) :=
  (by decide +kernel : ∀ t : Fin grid0.N, _)

variable (m : (ℓ : Loc nD τ sig) → Buf (Elt Ideal) ℓ) (c : Dev nD)

/-- The three arguments as launched. -/
abbrev qs : Vec Ideal S4x2048x512 .f32 := m ((c : Thread nD τ).loc main_arg0)
abbrev ks : Vec Ideal S4x2048x512 .f32 := m ((c : Thread nD τ).loc main_arg1)
abbrev vs : Vec Ideal S4x2048x512 .f32 := m ((c : Thread nD τ).loc main_arg2)

theorem block_q (t : Fin cfg0.N) (b : Fin 4) (s : Fin 2048) (r : Fin 256) (d : Fin 512)
    (hb : b.val = t.val / 8) (hs : s.val = 256 * (t.val % 8) + r.val) :
    iblk m c 0 t (ix3 0 r d) = qs m c (ix3 b s d) := by
  unfold iblk
  rw [View.read_apply]
  show qs m c _ = _
  congr 1
  funext a
  apply Fin.ext
  have h := (tiles t).1
  match a with
  | ⟨0, _⟩ => show win0_0.index t 0 * 1 + 1 * 0 = b.val; omega
  | ⟨1, _⟩ => show win0_0.index t 1 * 256 + 1 * r.val = s.val; omega
  | ⟨2, _⟩ => show win0_0.index t 2 * 512 + 1 * d.val = d.val; omega

theorem block_k (t : Fin cfg0.N) (b : Fin 4) (s : Fin 2048) (d : Fin 512) (hb : b.val = t.val / 8) :
    iblk m c 1 t (ix3 0 s d) = ks m c (ix3 b s d) := by
  unfold iblk
  rw [View.read_apply]
  show ks m c _ = _
  congr 1
  funext a
  apply Fin.ext
  have h := (tiles t).2.1
  match a with
  | ⟨0, _⟩ => show win0_1.index t 0 * 1 + 1 * 0 = b.val; omega
  | ⟨1, _⟩ => show win0_1.index t 1 * 2048 + 1 * s.val = s.val; omega
  | ⟨2, _⟩ => show win0_1.index t 2 * 512 + 1 * d.val = d.val; omega

theorem block_v (t : Fin cfg0.N) (b : Fin 4) (s : Fin 2048) (d : Fin 512) (hb : b.val = t.val / 8) :
    iblk m c 2 t (ix3 0 s d) = vs m c (ix3 b s d) := by
  unfold iblk
  rw [View.read_apply]
  show vs m c _ = _
  congr 1
  funext a
  apply Fin.ext
  have h := (tiles t).2.2.1
  match a with
  | ⟨0, _⟩ => show win0_2.index t 0 * 1 + 1 * 0 = b.val; omega
  | ⟨1, _⟩ => show win0_2.index t 1 * 2048 + 1 * s.val = s.val; omega
  | ⟨2, _⟩ => show win0_2.index t 2 * 512 + 1 * d.val = d.val; omega

/-- The points of one sequence have the same keys and the same values. -/
theorem same_sequence (t u : Fin cfg0.N) (h : t.val / 8 = u.val / 8) :
    iblk m c 1 t = iblk m c 1 u ∧ iblk m c 2 t = iblk m c 2 u := by
  have hN : t.val < 32 := lt_of_lt_of_eq t.isLt N_0
  constructor
  · refine funext fun (y : S1x2048x512.Idx) => ?_
    obtain ⟨s, d, rfl⟩ : ∃ (s : Fin 2048) (d : Fin 512), y = ix3 0 s d :=
      ⟨y 1, y 2, (eq_ix3 y).trans (congrArg (fun a => ix3 a (y 1) (y 2)) (Subsingleton.elim (α := Fin 1) _ _))⟩
    rw [block_k m c t ⟨t.val / 8, by omega⟩ s d rfl, block_k m c u ⟨t.val / 8, by omega⟩ s d h]
  · refine funext fun (y : S1x2048x512.Idx) => ?_
    obtain ⟨s, d, rfl⟩ : ∃ (s : Fin 2048) (d : Fin 512), y = ix3 0 s d :=
      ⟨y 1, y 2, (eq_ix3 y).trans (congrArg (fun a => ix3 a (y 1) (y 2)) (Subsingleton.elim (α := Fin 1) _ _))⟩
    rw [block_v m c t ⟨t.val / 8, by omega⟩ s d rfl, block_v m c u ⟨t.val / 8, by omega⟩ s d h]

/-- What the first block's point leaves in the scratches. -/
theorem fresh (t : Fin cfg0.N) (h : t.val % 8 = 0) : (outsAt0 m c t.val t.isLt).2
    = (k0_pay232 (iblk m c 1 t), k0_pay230 (iblk m c 1 t), k0_pay231 (iblk m c 2 t)) := by
  rw [outsAt0_A m c t h h (by omega) (by omega) (by omega) (by omega) (by omega) (by omega) (by omega)]
  rw [filled_0, filled_1, filled_2]

/-- What a later block's point leaves in the scratches is what it finds there. -/
theorem unstored (n : ℕ) (hn : n + 1 < cfg0.N) (h : ¬(n + 1) % 8 = 0) :
    (outsAt0 m c (n + 1) hn).2 = (outsAt0 m c n (Nat.lt_of_succ_lt hn)).2 := by
  have hk : (n + 1) % 8 = 1 ∨ (n + 1) % 8 = 2 ∨ (n + 1) % 8 = 3 ∨ (n + 1) % 8 = 4 ∨ (n + 1) % 8 = 5
      ∨ (n + 1) % 8 = 6 ∨ (n + 1) % 8 = 7 := by omega
  rcases hk with hk | hk | hk | hk | hk | hk | hk
  · rw [outsAt0_B m c ⟨n + 1, hn⟩ h h (by dsimp only; omega) (by dsimp only; omega) (by dsimp only; omega) (by dsimp only; omega)
      (by dsimp only; omega) (by dsimp only; omega) (by dsimp only; omega)]
    rfl
  · rw [outsAt0_C m c ⟨n + 1, hn⟩ h h (by dsimp only; omega) (by dsimp only; omega) (by dsimp only; omega) (by dsimp only; omega)
      (by dsimp only; omega) (by dsimp only; omega) (by dsimp only; omega)]
    rfl
  · rw [outsAt0_D m c ⟨n + 1, hn⟩ h h (by dsimp only; omega) (by dsimp only; omega) (by dsimp only; omega) (by dsimp only; omega)
      (by dsimp only; omega) (by dsimp only; omega) (by dsimp only; omega)]
    rfl
  · rw [outsAt0_E m c ⟨n + 1, hn⟩ h h (by dsimp only; omega) (by dsimp only; omega) (by dsimp only; omega) (by dsimp only; omega)
      (by dsimp only; omega) (by dsimp only; omega) (by dsimp only; omega)]
    rfl
  · rw [outsAt0_F m c ⟨n + 1, hn⟩ h h (by dsimp only; omega) (by dsimp only; omega) (by dsimp only; omega) (by dsimp only; omega)
      (by dsimp only; omega) (by dsimp only; omega) (by dsimp only; omega)]
    rfl
  · rw [outsAt0_G m c ⟨n + 1, hn⟩ h h (by dsimp only; omega) (by dsimp only; omega) (by dsimp only; omega) (by dsimp only; omega)
      (by dsimp only; omega) (by dsimp only; omega) (by dsimp only; omega)]
    rfl
  · rw [outsAt0_H m c ⟨n + 1, hn⟩ h h (by dsimp only; omega) (by dsimp only; omega) (by dsimp only; omega) (by dsimp only; omega)
      (by dsimp only; omega) (by dsimp only; omega) (by dsimp only; omega)]
    rfl

/-- After every point the scratches hold the sequence's mean keys, keys and values. -/
theorem kept (n : ℕ) : ∀ (hn : n < cfg0.N), (outsAt0 m c n hn).2
    = (k0_pay232 (iblk m c 1 ⟨n, hn⟩), k0_pay230 (iblk m c 1 ⟨n, hn⟩), k0_pay231 (iblk m c 2 ⟨n, hn⟩)) := by
  induction n with
  | zero => exact fun hn => fresh m c ⟨0, hn⟩ rfl
  | succ n ih =>
    intro hn
    by_cases h : (n + 1) % 8 = 0
    · exact fresh m c ⟨n + 1, hn⟩ h
    · have hs := same_sequence m c ⟨n, Nat.lt_of_succ_lt hn⟩ ⟨n + 1, hn⟩ (by dsimp only; omega)
      rw [unstored m c n hn h, ih, hs.1, hs.2]

theorem before (t : Fin cfg0.N) (h : ¬t.val % 8 = 0) (hn : t.val - 1 < cfg0.N) : (outsAt0 m c (t.val - 1) hn).2
    = (k0_pay232 (iblk m c 1 t), k0_pay230 (iblk m c 1 t), k0_pay231 (iblk m c 2 t)) := by
  have hs := same_sequence m c ⟨t.val - 1, hn⟩ t (by dsimp only; omega)
  rw [kept, hs.1, hs.2]

/-- One head's keys or values of a sequence, block by block. -/
def heads (x : FVec Ideal S4x2048x512 .f32) (b : Fin 4) (n : Fin 4) : Fin 8 → Fin 256 → Fin 128 → EReal :=
  fun k j d => x (ix3 b (seq k j) (col n d))

/-- The kernel's result array, element by element. -/
def result (b : Fin 4) (k : Fin 8) (r : Fin 256) (n : Fin 4) (e : Fin 128) : EReal :=
  attend k.val r (heads (qs m c) b n k r) (meanKey (heads (ks m c) b n)) (heads (ks m c) b n) (heads (vs m c) b n) e

/-- What a grid point stores, at an element. -/
theorem point_value (t : Fin cfg0.N) (b : Fin 4) (k : Fin 8) (hb : b.val = t.val / 8) (hk : k.val = t.val % 8)
    (r : Fin 256) (n : Fin 4) (e : Fin 128) :
    (outsAt0 m c t.val t.isLt).1 (ix3 0 r (col n e)) = result m c b k r n e := by
  have hq (d : Fin 128) : iblk m c 0 t (ix3 0 r (col n d)) = heads (qs m c) b n k r d :=
    block_q m c t b (seq k r) r (col n d) hb (by show k.val * 256 + r.val = _; omega)
  have hkey (j : Fin 8) (i : Fin 256) (d : Fin 128) :
      iblk m c 1 t (ix3 0 (seq j i) (col n d)) = heads (ks m c) b n j i d := block_k m c t b _ _ hb
  have hval (j : Fin 8) (i : Fin 256) (d : Fin 128) :
      iblk m c 2 t (ix3 0 (seq j i) (col n d)) = heads (vs m c) b n j i d := block_v m c t b _ _ hb
  have hl (own : ℕ) (h : own < 8) (ho : own = k.val) (N : ℕ) (hN : N = 256 * (own + 1)) (hN' : N ≤ 2048) (hc) (hr) (hb') :
      later own h N hN' hc hr hb' (iblk m c 0 t) (k0_pay232 (iblk m c 1 t)) (k0_pay230 (iblk m c 1 t))
        (k0_pay231 (iblk m c 2 t)) (ix3 0 r (col n e)) = result m c b k r n e := by
    rw [later_apply own h N hN, ho]
    unfold result
    congr 1
    · exact funext hq
    · funext j d
      rw [mean_apply]
      unfold meanKey
      simp only [hkey]
    · funext j i d
      rw [keys_apply, hkey]
    · funext j i d
      rw [values_apply, hval]
  have hk' : t.val % 8 = 0 ∨ t.val % 8 = 1 ∨ t.val % 8 = 2 ∨ t.val % 8 = 3 ∨ t.val % 8 = 4 ∨ t.val % 8 = 5
      ∨ t.val % 8 = 6 ∨ t.val % 8 = 7 := by omega
  rcases hk' with h | h | h | h | h | h | h | h
  · rw [outsAt0_A m c t h h (by omega) (by omega) (by omega) (by omega) (by omega) (by omega) (by omega), block_A]
    dsimp only
    rw [first_block_apply _ _ _ _ _ (meanKey (heads (ks m c) b n))]
    unfold result
    congr 1
    · omega
    · exact funext hq
    · funext j i d
      rw [keys_apply, hkey]
    · funext j i d
      rw [values_apply, hval]
  · rw [outsAt0_B m c t (by omega) (by omega) (by omega) (by omega) (by omega) (by omega) (by omega) (by omega)
      (by omega), block_B, before m c t (by omega)]
    exact hl 1 (by decide) (by omega) 512 rfl (by decide)
      (fun _ => concatenates_S256x256_S256x256_S256x512_d1) _ _
  · rw [outsAt0_C m c t (by omega) (by omega) (by omega) (by omega) (by omega) (by omega) (by omega) (by omega)
      (by omega), block_C, before m c t (by omega)]
    exact hl 2 (by decide) (by omega) 768 rfl (by decide)
      (fun _ => concatenates_S256x256_S256x256_S256x256_S256x768_d1) _ _
  · rw [outsAt0_D m c t (by omega) (by omega) (by omega) (by omega) (by omega) (by omega) (by omega) (by omega)
      (by omega), block_D, before m c t (by omega)]
    exact hl 3 (by decide) (by omega) 1024 rfl (by decide)
      (fun _ => concatenates_S256x256_S256x256_S256x256_S256x256_S256x1024_d1) _ _
  · rw [outsAt0_E m c t (by omega) (by omega) (by omega) (by omega) (by omega) (by omega) (by omega) (by omega)
      (by omega), block_E, before m c t (by omega)]
    exact hl 4 (by decide) (by omega) 1280 rfl (by decide)
      (fun _ => concatenates_S256x256_S256x256_S256x256_S256x256_S256x256_S256x1280_d1) _ _
  · rw [outsAt0_F m c t (by omega) (by omega) (by omega) (by omega) (by omega) (by omega) (by omega) (by omega)
      (by omega), block_F, before m c t (by omega)]
    exact hl 5 (by decide) (by omega) 1536 rfl (by decide)
      (fun _ => concatenates_S256x256_S256x256_S256x256_S256x256_S256x256_S256x256_S256x1536_d1) _ _
  · rw [outsAt0_G m c t (by omega) (by omega) (by omega) (by omega) (by omega) (by omega) (by omega) (by omega)
      (by omega), block_G, before m c t (by omega)]
    exact hl 6 (by decide) (by omega) 1792 rfl (by decide)
      (fun _ => concatenates_S256x256_S256x256_S256x256_S256x256_S256x256_S256x256_S256x256_S256x1792_d1) _ _
  · rw [outsAt0_H m c t (by omega) (by omega) (by omega) (by omega) (by omega) (by omega) (by omega) (by omega)
      (by omega), block_H, before m c t (by omega)]
    exact hl 7 (by decide) (by omega) 2048 rfl (by decide)
      (fun _ => concatenates_S256x256_S256x256_S256x256_S256x256_S256x256_S256x256_S256x256_S256x256_S256x2048_d1) _ _

/-- An entry's block of queries and its row there; its head and its column there. -/
def entry (i : S4x2048x512.Idx) : EReal :=
  result m c (i 0)
    ⟨(i 1).val / 256, Nat.div_lt_of_lt_mul (i 1).isLt⟩ ⟨(i 1).val % 256, Nat.mod_lt _ (by decide)⟩
    ⟨(i 2).val / 128, Nat.div_lt_of_lt_mul (i 2).isLt⟩ ⟨(i 2).val % 128, Nat.mod_lt _ (by decide)⟩

theorem entry_at (b : Fin 4) (k : Fin 8) (r : Fin 256) (n : Fin 4) (e : Fin 128) (i : S4x2048x512.Idx)
    (h0 : (i 0).val = b.val) (h1 : (i 1).val = k.val * 256 + r.val) (h2 : (i 2).val = 128 * n.val + e.val) :
    entry m c i = result m c b k r n e := by
  unfold entry
  congr 1
  · exact Fin.ext h0
  · exact Fin.ext (by show (i 1).val / 256 = _; omega)
  · exact Fin.ext (by show (i 1).val % 256 = _; omega)
  · exact Fin.ext (by show (i 2).val / 128 = _; omega)
  · exact Fin.ext (by show (i 2).val % 128 = _; omega)

/-- The elements of a grid point's block of the result array. -/
theorem mem_block (t : Fin cfg0.N) (i : S4x2048x512.Idx) :
    i ∈ ((cfg0.win 3).blk t).view.set ↔ ∀ a : Fin 3, win0_3.index t a * S1x256x512.size a ≤ (i a).val
      ∧ (i a).val < win0_3.index t a * S1x256x512.size a + S1x256x512.size a := by
  show i ∈ ((View.whole main_v0).slice (win0_3.rect t)).set ↔ _
  rw [View.set_slice_whole, Rect.mem_set_unit]
  exact Iff.rfl

/-- Every element of the result array is in the block of some grid point. -/
theorem covered (i : S4x2048x512.Idx) :
    ∃ t : Fin cfg0.N, (cfg0.win 3).flush t = true ∧ i ∈ ((cfg0.win 3).blk t).view.set := by
  have h0 : (i 0).val < 4 := (i 0).isLt
  have h1 : (i 1).val < 2048 := (i 1).isLt
  have h2 : (i 2).val < 512 := (i 2).isLt
  have hN : 8 * (i 0).val + (i 1).val / 256 < cfg0.N := by rw [show cfg0.N = 32 from N_0]; omega
  have h := (tiles ⟨8 * (i 0).val + (i 1).val / 256, hN⟩).2.2.2
  refine ⟨⟨8 * (i 0).val + (i 1).val / 256, hN⟩, flush0_3 _, ?_⟩
  rw [mem_block]
  intro a
  dsimp only at h
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 256 ≤ (i 1).val ∧ (i 1).val < win0_3.index _ (1 : Fin 3) * 256 + 256; omega
  | ⟨2, _⟩ => show win0_3.index _ (2 : Fin 3) * 512 ≤ (i 2).val ∧ (i 2).val < win0_3.index _ (2 : Fin 3) * 512 + 512; omega

/-- The kernel's result array. -/
theorem array_eq : (dats m 0 c).arrAt 3 cfg0.N = entry m c := by
  refine (dats m 0 c).arrAt_eq_of_cover 3 _ (fun t _ => ?_) covered
  show (cfg0.win 3).cut (grid0.coords t) ((dats m 0 c).after 3 t) = _
  rw [after0_3]
  funext y
  have h := (tiles t).2.2.2
  have hN : t.val < 32 := lt_of_lt_of_eq t.isLt N_0
  have hy : (y 2).val < 512 := (y 2).isLt
  obtain ⟨r, n, e, rfl⟩ : ∃ (r : Fin 256) (n : Fin 4) (e : Fin 128), y = ix3 0 r (col n e) := by
    refine ⟨y 1, ⟨(y 2).val / 128, by omega⟩, ⟨(y 2).val % 128, Nat.mod_lt _ (by decide)⟩, ?_⟩
    refine (eq_ix3 y).trans ?_
    congr 1
    · exact Subsingleton.elim (α := Fin 1) _ _
    · exact Fin.ext (by show (y 2).val = 128 * ((y 2).val / 128) + (y 2).val % 128; omega)
  refine (point_value m c t ⟨t.val / 8, by omega⟩ ⟨t.val % 8, by omega⟩ rfl rfl r n e).trans ?_
  rw [View.read_apply]
  refine (entry_at m c ⟨t.val / 8, by omega⟩ ⟨t.val % 8, by omega⟩ r n e _ ?_ ?_ ?_).symm
  · show win0_3.index t 0 * 1 + 1 * 0 = t.val / 8; omega
  · show win0_3.index t 1 * 256 + 1 * r.val = t.val % 8 * 256 + r.val; omega
  · show win0_3.index t 2 * 512 + 1 * (128 * n.val + e.val) = 128 * n.val + e.val; omega

end Cert.Moba

end
-- ==== Proof.MobaStages.lean ====
module

public import proofs.«01_k».proof.Proof.Gen.ReferenceIdeal.Run
public import proofs.«01_k».proof.Proof.MobaSort
public import proofs.«01_k».proof.Proof.MobaSoft
public import Idealize.ShloMosaic.Lib.Pointwise
public import Idealize.ShloMosaic.Lib.WordCmp

@[expose] public section

set_option maxRecDepth 16384

noncomputable section

/-! The attention's reference in stages: what each computes of the arrays before it. -/

namespace Cert.Moba.Ref

open Cert.ReferenceIdeal Cert.ReferenceIdeal.Gen Idealize.ShloMosaic Idealize.ShloMosaic.TcCoe

/-- The rows in blocks, the columns in heads. -/
def split (x : FVec Ideal S4x2048x512 .f32) : FVec Ideal S4x8x256x4x128 .f32 :=
  shapeCast _ x shapeCasts_S4x2048x512_S4x8x256x4x128

/-- The number of each block on the first axis of four. -/
def owns : IVec S8x1x1x1 32 := broadcastInDim S8x1x1x1 ![0] bcast_S8_S8x1x1x1_0 (iotaInDim S8 32 0)

/-- The blocks' mean keys. -/
def means (k : FVec Ideal S4x8x256x4x128 .f32) : FVec Ideal S4x8x4x128 .f32 :=
  Host.divf (Host.reduceAdd k (constant S_ .f32 0x00000000#32) reducesTo_S4x8x256x4x128_S4x8x4x128_d2 h_S_)
    (broadcastInDim S4x8x4x128 ![] bcast_S_S4x8x4x128 (constant S_ .f32 0x43800000#32))

/-- The gates of the blocks before each query's own. -/
def gates (q k : FVec Ideal S4x8x256x4x128 .f32) : FVec Ideal S4x8x256x4x8 .f32 :=
  select (broadcastInDim S4x8x256x4x8 ![1, 2, 3, 4] bcast_S8x1x1x8_S4x8x256x4x8_1_2_3_4
      (cmpi .slt (broadcastInDim S8x1x1x8 ![0, 1, 2, 3] bcast_S1x1x1x8_S8x1x1x8_0_1_2_3
        (broadcastInDim S1x1x1x8 ![3] bcast_S8_S1x1x1x8_3 (iotaInDim S8 32 0)))
        (broadcastInDim S8x1x1x8 ![0, 1, 2, 3] bcast_S8x1x1x1_S8x1x1x8_0_1_2_3 owns)))
    (transpose S4x8x256x4x8 [0, 3, 4, 1, 2]
      (Host.dotGeneral dot_S4x8x4x128_S4x8x256x4x128_S4x4x8x8x256_3_4_1_12_02_03 none (means k) q)
      transposes_S4x4x8x8x256_S4x8x256x4x8_0_3_4_1_2)
    (broadcastInDim S4x8x256x4x8 ![] bcast_S_S4x8x256x4x8 (id (constant S_ .f32 0xFF800000#32)))

/-- The three blocks of largest gate. -/
def picks (g : FVec Ideal S4x8x256x4x8 .f32) : IVec S4x8x256x4x3 32 :=
  (Host.topK S4x8x256x4x3 4 (FloatOps.cmpfTotal .gt) g sliceFits_S4x8x256x4x8_S4x8x256x4x3).2

/-- Whether each picked block is before the query's own, for each of its keys. -/
def counts (p : IVec S4x8x256x4x3 32) : IVec S4x8x256x4x768 1 :=
  shapeCast _ (broadcastInDim S4x8x256x4x3x256 ![0, 1, 2, 3, 4] bcast_S4x8x256x4x3_S4x8x256x4x3x256_0_1_2_3_4
    (cmpi .slt p (broadcastInDim S4x8x256x4x3 ![0, 1, 2, 3, 4] bcast_S1x8x1x1x1_S4x8x256x4x3_0_1_2_3_4
      (broadcastInDim S1x8x1x1x1 ![1, 2, 3, 4] bcast_S8x1x1x1_S1x8x1x1x1_1_2_3_4 owns))))
    shapeCasts_S4x8x256x4x3x256_S4x8x256x4x768

/-- The sequence, block, row and head of each gathered key. -/
def place4 (p : IVec S4x8x256x4x3 32) : IVec S4x8x256x4x3x256x4 32 :=
  concatenate S4x8x256x4x3x256x4 6
    [⟨S4x8x256x4x3x256x1, broadcastInDim S4x8x256x4x3x256x1 ![0, 1, 2, 3, 4, 5] bcast_S4x8x256x4x3x256_S4x8x256x4x3x256x1_0_1_2_3_4_5
      (broadcastInDim S4x8x256x4x3x256 ![0, 1, 2, 3, 4, 5] bcast_S4x1x1x1x1x1_S4x8x256x4x3x256_0_1_2_3_4_5
        (broadcastInDim S4x1x1x1x1x1 ![0] bcast_S4_S4x1x1x1x1x1_0 (iotaInDim S4 32 0)))⟩,
     ⟨S4x8x256x4x3x256x1, broadcastInDim S4x8x256x4x3x256x1 ![0, 1, 2, 3, 4, 5] bcast_S4x8x256x4x3x256_S4x8x256x4x3x256x1_0_1_2_3_4_5
      (broadcastInDim S4x8x256x4x3x256 ![0, 1, 2, 3, 4, 5] bcast_S4x8x256x4x3x1_S4x8x256x4x3x256_0_1_2_3_4_5
        (broadcastInDim S4x8x256x4x3x1 ![0, 1, 2, 3, 4] bcast_S4x8x256x4x3_S4x8x256x4x3x1_0_1_2_3_4 p))⟩,
     ⟨S4x8x256x4x3x256x1, broadcastInDim S4x8x256x4x3x256x1 ![0, 1, 2, 3, 4, 5] bcast_S4x8x256x4x3x256_S4x8x256x4x3x256x1_0_1_2_3_4_5
      (broadcastInDim S4x8x256x4x3x256 ![5] bcast_S256_S4x8x256x4x3x256_5 (iotaInDim S256 32 0))⟩,
     ⟨S4x8x256x4x3x256x1, broadcastInDim S4x8x256x4x3x256x1 ![0, 1, 2, 3, 4, 5] bcast_S4x8x256x4x3x256_S4x8x256x4x3x256x1_0_1_2_3_4_5
      (broadcastInDim S4x8x256x4x3x256 ![3, 4, 5] bcast_S4x1x1_S4x8x256x4x3x256_3_4_5
        (broadcastInDim S4x1x1 ![0] bcast_S4_S4x1x1_0 (iotaInDim S4 32 0)))⟩]
    concatenates_S4x8x256x4x3x256x1_S4x8x256x4x3x256x1_S4x8x256x4x3x256x1_S4x8x256x4x3x256x1_S4x8x256x4x3x256x4_d6

/-- The keys (or values) of the picked blocks. -/
def gathered (x : FVec Ideal S4x8x256x4x128 .f32) (p : IVec S4x8x256x4x3 32) : FVec Ideal S4x8x256x4x768x128 .f32 :=
  shapeCast _ (Host.gather gather_S4x8x256x4x128_S4x8x256x4x3x256x4_S4x8x256x4x3x256x128_6_0123_n_n_0123_6_1111128
    x (place4 p)) shapeCasts_S4x8x256x4x3x256x128_S4x8x256x4x768x128

/-- Whether each key of the query's own block is up to the query. -/
def causal : IVec S8x256x1x256 1 :=
  broadcastInDim S8x256x1x256 ![0, 1, 3] bcast_S8x256x256_S8x256x1x256_0_1_3
    (cmpi .sle
      (broadcastInDim S8x256x256 ![0, 1, 2] bcast_S8x1x256_S8x256x256_0_1_2
        (broadcastInDim S8x1x256 ![0, 2] bcast_S8x256_S8x1x256_0_2 (shapeCast _ (iotaInDim S2048 32 0) shapeCasts_S2048_S8x256)))
      (broadcastInDim S8x256x256 ![0, 1, 2] bcast_S8x256x1_S8x256x256_0_1_2
        (broadcastInDim S8x256x1 ![0, 1] bcast_S8x256_S8x256x1_0_1 (shapeCast _ (iotaInDim S2048 32 0) shapeCasts_S2048_S8x256))))

/-- The scores of the picked blocks' keys. -/
def far (q : FVec Ideal S4x8x256x4x128 .f32) (kk : FVec Ideal S4x8x256x4x768x128 .f32)
    (c : IVec S4x8x256x4x768 1) : FVec Ideal S4x8x256x4x768 .f32 :=
  select c (mulf (Host.dotGeneral dot_S4x8x256x4x128_S4x8x256x4x768x128_S4x8x256x4x768_4_5_n_4_0123_0123 none q kk)
      (broadcastInDim S4x8x256x4x768 ![] bcast_S_S4x8x256x4x768 (constant S_ .f32 0x3DB504F3#32)))
    (broadcastInDim S4x8x256x4x768 ![] bcast_S_S4x8x256x4x768 (id (constant S_ .f32 0xFF800000#32)))

/-- The scores of the own block's keys. -/
def near (q k : FVec Ideal S4x8x256x4x128 .f32) : FVec Ideal S4x8x256x4x256 .f32 :=
  select (broadcastInDim S4x8x256x4x256 ![1, 2, 3, 4] bcast_S8x256x1x256_S4x8x256x4x256_1_2_3_4 causal)
    (mulf (transpose S4x8x256x4x256 [0, 1, 4, 2, 3]
      (Host.dotGeneral dot_S4x8x256x4x128_S4x8x256x4x128_S4x8x4x256x256_4_4_2_2_013_013 none k q)
      transposes_S4x8x4x256x256_S4x8x256x4x256_0_1_4_2_3)
      (broadcastInDim S4x8x256x4x256 ![] bcast_S_S4x8x256x4x256 (constant S_ .f32 0x3DB504F3#32)))
    (broadcastInDim S4x8x256x4x256 ![] bcast_S_S4x8x256x4x256 (id (constant S_ .f32 0xFF800000#32)))

/-- All the scores. -/
def scores (a : FVec Ideal S4x8x256x4x768 .f32) (b : FVec Ideal S4x8x256x4x256 .f32) : FVec Ideal S4x8x256x4x1024 .f32 :=
  concatenate S4x8x256x4x1024 4 [⟨S4x8x256x4x768, a⟩, ⟨S4x8x256x4x256, b⟩]
    concatenates_S4x8x256x4x768_S4x8x256x4x256_S4x8x256x4x1024_d4

/-- Each query's largest score. -/
def largest (s : FVec Ideal S4x8x256x4x1024 .f32) : FVec Ideal S4x8x256x4 .f32 :=
  Host.reduce FloatOps.maximumf s (constant S_ .f32 0xFF800000#32) reducesTo_S4x8x256x4x1024_S4x8x256x4_d4 h_S_

/-- The scores' weights, before they are divided. -/
def weights (s : FVec Ideal S4x8x256x4x1024 .f32) : FVec Ideal S4x8x256x4x1024 .f32 :=
  Host.exp (subf s (broadcastInDim S4x8x256x4x1024 ![0, 1, 2, 3, 4] bcast_S4x8x256x4x1_S4x8x256x4x1024_0_1_2_3_4
    (broadcastInDim S4x8x256x4x1 ![0, 1, 2, 3] bcast_S4x8x256x4_S4x8x256x4x1_0_1_2_3
      (maximumf (broadcastInDim S4x8x256x4 ![] bcast_S_S4x8x256x4 (constant S_ .f32 0xFF800000#32)) (largest s)))))

/-- The weights divided by their sum. -/
def shares (w : FVec Ideal S4x8x256x4x1024 .f32) : FVec Ideal S4x8x256x4x1024 .f32 :=
  Host.divf w (broadcastInDim S4x8x256x4x1024 ![0, 1, 2, 3, 4] bcast_S4x8x256x4x1_S4x8x256x4x1024_0_1_2_3_4
    (broadcastInDim S4x8x256x4x1 ![0, 1, 2, 3] bcast_S4x8x256x4_S4x8x256x4x1_0_1_2_3
      (Host.reduceAdd w (constant S_ .f32 0x00000000#32) reducesTo_S4x8x256x4x1024_S4x8x256x4_d4 h_S_)))

/-- The values the shares weigh. -/
def mixed (w : FVec Ideal S4x8x256x4x1024 .f32) (vv : FVec Ideal S4x8x256x4x768x128 .f32)
    (v : FVec Ideal S4x8x256x4x128 .f32) : FVec Ideal S4x8x256x4x128 .f32 :=
  addf (Host.dotGeneral dot_S4x8x256x4x768_S4x8x256x4x768x128_S4x8x256x4x128_4_4_n_5_0123_0123 none
      (extractStridedSlice S4x8x256x4x768 ![0, 0, 0, 0, 0] w slices_S4x8x256x4x1024_S4x8x256x4x768_0_0_0_0_0) vv)
    (transpose S4x8x256x4x128 [0, 1, 4, 2, 3]
      (Host.dotGeneral dot_S4x8x256x4x128_S4x8x256x4x256_S4x8x4x128x256_2_4_4_2_013_013 none v
        (extractStridedSlice S4x8x256x4x256 ![0, 0, 0, 0, 768] w slices_S4x8x256x4x1024_S4x8x256x4x256_0_0_0_0_768))
      transposes_S4x8x4x128x256_S4x8x256x4x128_0_1_4_2_3)

/-- The shares of all the scores. -/
def attention (q k v : FVec Ideal S4x8x256x4x128 .f32) : FVec Ideal S4x8x256x4x128 .f32 :=
  mixed (shares (weights (scores (far q (gathered k (picks (gates q k))) (counts (picks (gates q k)))) (near q k))))
    (gathered v (picks (gates q k))) v

/-- The reference's result. -/
def out (q k v : FVec Ideal S4x2048x512 .f32) : FVec Ideal S4x2048x512 .bf16 :=
  truncf .bf16 (shapeCast _ (attention (split q) (split k) (split v)) shapeCasts_S4x8x256x4x128_S4x2048x512) bitsLt_bf16_f32

theorem out_eq (m : (ℓ : Loc nD τ sig) → Buf (Elt Ideal) ℓ) (c : Dev nD) : Value.res_out0 (F := Ideal) m c
    = out (m ((c.tc : Thread nD τ).loc main_arg0)) (m ((c.tc : Thread nD τ).loc main_arg1)) (m ((c.tc : Thread nD τ).loc main_arg2)) := rfl

end Cert.Moba.Ref

end
-- ==== Proof.MobaRef.lean ====
module

public import proofs.«01_k».proof.Proof.MobaStages
public import proofs.«01_k».proof.Proof.MobaRead
public import Idealize.ShloMosaic.Lib.Pointwise
public import Idealize.ShloMosaic.Lib.WordCmp

@[expose] public section

set_option maxRecDepth 16384

noncomputable section

/-! The stages of the attention's reference, entry by entry over the extended reals. -/

namespace Cert.Moba.Ref

open Cert.ReferenceIdeal Cert.ReferenceIdeal.Gen Idealize.ShloMosaic Idealize.ShloMosaic.TcCoe

theorem neg_word : constant (F := Ideal) S_ .f32 4286578688#32 ix0 = ⊥ := neg_inf

theorem split_apply (x : FVec Ideal S4x2048x512 .f32) (b : Fin 4) (k : Fin 8) (r : Fin 256) (n : Fin 4) (d : Fin 128) :
    split x (ix5 b k r n d) = x (ix3 b ⟨k.val * 256 + r.val, by omega⟩ ⟨128 * n.val + d.val, by omega⟩) := by
  pointwise [split]
  congr 2
  exact Fin.ext (by simp only [Nat.mul_comm])

theorem means_apply (k : FVec Ideal S4x8x256x4x128 .f32) (b : Fin 4) (m : Fin 8) (n : Fin 4) (d : Fin 128) :
    means k (ix4 b m n d) = Ideal.div (∑ j : Fin 256, k (ix5 b m j n d)) (Ideal.ofBits .f32 0x43800000#32) := by
  pointwise [means]

theorem gates_apply (q k : FVec Ideal S4x8x256x4x128 .f32) (b : Fin 4) (own : Fin 8) (r : Fin 256) (n : Fin 4) (m : Fin 8) :
    gates q k (ix5 b own r n m)
      = if m.val < own.val then ∑ d : Fin 128, means k (ix4 b m n d) * q (ix5 b own r n d) else ⊥ := by
  pointwise [gates, owns]
  rw [WordCmp.cmpi_slt_ofNat (by omega) (by omega), select_of, id_eq, neg_word]

theorem counts_apply (p : IVec S4x8x256x4x3 32) (b : Fin 4) (own : Fin 8) (r : Fin 256) (n : Fin 4) (a : Fin 3) (j : Fin 256) :
    counts p (ix5 b own r n ⟨a.val * 256 + j.val, by omega⟩)
      = IntOp.cmpi .slt (p (ix5 b own r n a)) (BitVec.ofNat 32 own.val) := by
  pointwise [counts, owns]

theorem causal_apply (own : Fin 8) (r : Fin 256) (z : Fin 1) (j : Fin 256) :
    causal (ix4 own r z j) = BitVec.ofBool (decide (j.val ≤ r.val)) := by
  pointwise [causal]
  rw [WordCmp.cmpi_sle_ofNat (by omega) (by omega)]
  congr 2
  exact propext ⟨fun h => by omega, fun h => by omega⟩

theorem far_apply (q : FVec Ideal S4x8x256x4x128 .f32) (kk : FVec Ideal S4x8x256x4x768x128 .f32)
    (c : IVec S4x8x256x4x768 1) (b : Fin 4) (own : Fin 8) (r : Fin 256) (n : Fin 4) (x : Fin 768) :
    far q kk c (ix5 b own r n x) = Scalar.select (c (ix5 b own r n x))
      ((∑ d : Fin 128, q (ix5 b own r n d) * kk (ix6 b own r n x d)) * Ideal.ofBits .f32 0x3DB504F3#32) ⊥ := by
  pointwise [far]
  rw [id_eq, neg_word]

theorem near_apply (q k : FVec Ideal S4x8x256x4x128 .f32) (b : Fin 4) (own : Fin 8) (r : Fin 256) (n : Fin 4) (j : Fin 256) :
    near q k (ix5 b own r n j) = if j.val ≤ r.val then
      (∑ d : Fin 128, q (ix5 b own r n d) * k (ix5 b own j n d)) * Ideal.ofBits .f32 0x3DB504F3#32 else ⊥ := by
  pointwise [near]
  rw [id_eq, neg_word, causal_apply, select_of]
  simp only [mul_comm]

theorem shares_apply (w : FVec Ideal S4x8x256x4x1024 .f32) (b : Fin 4) (own : Fin 8) (r : Fin 256) (n : Fin 4) (x : Fin 1024) :
    shares w (ix5 b own r n x) = Ideal.div (w (ix5 b own r n x)) (∑ y : Fin 1024, w (ix5 b own r n y)) := by
  pointwise [shares]

theorem mixed_apply (w : FVec Ideal S4x8x256x4x1024 .f32) (vv : FVec Ideal S4x8x256x4x768x128 .f32)
    (v : FVec Ideal S4x8x256x4x128 .f32) (b : Fin 4) (own : Fin 8) (r : Fin 256) (n : Fin 4) (e : Fin 128) :
    mixed w vv v (ix5 b own r n e)
      = (∑ x : Fin 768, w (ix5 b own r n ⟨x.val, by omega⟩) * vv (ix6 b own r n x e))
        + ∑ j : Fin 256, v (ix5 b own j n e) * w (ix5 b own r n ⟨768 + j.val, by omega⟩) := by
  pointwise [mixed]

theorem scores_apply (x : FVec Ideal S4x8x256x4x768 .f32) (y : FVec Ideal S4x8x256x4x256 .f32)
    (b : Fin 4) (own : Fin 8) (r : Fin 256) (n : Fin 4) (i : Fin 1024) : scores x y (ix5 b own r n i)
      = if h : i.val < 768 then x (ix5 b own r n ⟨i.val, h⟩) else y (ix5 b own r n ⟨i.val - 768, by omega⟩) := by
  pointwise [scores]

theorem largest_apply (s : FVec Ideal S4x8x256x4x1024 .f32) (b : Fin 4) (own : Fin 8) (r : Fin 256) (n : Fin 4) :
    largest s (ix4 b own r n) = Finset.univ.fold max (Ideal.ofBits .f32 0xFF800000#32) fun y : Fin 1024 => s (ix5 b own r n y) := by
  pointwise [largest]

theorem largest_bottom (t : FVec Ideal S4x8x256x4 .f32) (b : Fin 4) (own : Fin 8) (r : Fin 256) (n : Fin 4) :
    maximumf (broadcastInDim S4x8x256x4 ![] bcast_S_S4x8x256x4 (constant S_ .f32 0xFF800000#32)) t (ix4 b own r n)
      = t (ix4 b own r n) :=
  (congrArg (max · _) neg_inf).trans (max_eq_right bot_le)

theorem along_scores (t : FVec Ideal S4x8x256x4 .f32) (b : Fin 4) (own : Fin 8) (r : Fin 256) (n : Fin 4) (x : Fin 1024) :
    broadcastInDim S4x8x256x4x1024 ![0, 1, 2, 3, 4] bcast_S4x8x256x4x1_S4x8x256x4x1024_0_1_2_3_4
      (broadcastInDim S4x8x256x4x1 ![0, 1, 2, 3] bcast_S4x8x256x4_S4x8x256x4x1_0_1_2_3 t) (ix5 b own r n x)
      = t (ix4 b own r n) := by
  pointwise

theorem exp_sub_apply (s t : FVec Ideal S4x8x256x4x1024 .f32) (i : S4x8x256x4x1024.Idx) :
    Host.exp (subf s t) i = Ideal.exp (s i - t i) := rfl

theorem weights_apply (s : FVec Ideal S4x8x256x4x1024 .f32) (b : Fin 4) (own : Fin 8) (r : Fin 256) (n : Fin 4) (x : Fin 1024) :
    weights s (ix5 b own r n x) = weight (fun y : Fin 1024 => s (ix5 b own r n y)) x := by
  have e : Ideal.ofBits .f32 4286578688#32 = ⊥ := neg_inf
  unfold weights
  rw [exp_sub_apply, along_scores, largest_bottom, largest_apply, e, weight, top]

/-- The words of a block, a row and the like lie in range. -/

theorem word_nat (n k : ℕ) (h : n < 256) (hk : n ≤ k) : min (BitVec.ofNat 32 n).toInt.toNat k = n := by
  have : (BitVec.ofNat 32 n).toInt = n := by
    rw [BitVec.toInt_eq_toNat_of_lt] <;> rw [BitVec.toNat_ofNat] <;> omega
  rw [this, Int.toNat_natCast]
  omega

theorem place_seq (p : IVec S4x8x256x4x3 32) (b : Fin 4) (own : Fin 8) (r : Fin 256) (n : Fin 4) (a : Fin 3) (j : Fin 256) :
    place4 p (ix7 b own r n a j 0) = BitVec.ofNat 32 b.val := by
  pointwise [place4]

theorem place_block (p : IVec S4x8x256x4x3 32) (b : Fin 4) (own : Fin 8) (r : Fin 256) (n : Fin 4) (a : Fin 3) (j : Fin 256) :
    place4 p (ix7 b own r n a j 1) = p (ix5 b own r n a) := by
  pointwise [place4]

theorem place_row (p : IVec S4x8x256x4x3 32) (b : Fin 4) (own : Fin 8) (r : Fin 256) (n : Fin 4) (a : Fin 3) (j : Fin 256) :
    place4 p (ix7 b own r n a j 2) = BitVec.ofNat 32 j.val := by
  pointwise [place4]

theorem place_head (p : IVec S4x8x256x4x3 32) (b : Fin 4) (own : Fin 8) (r : Fin 256) (n : Fin 4) (a : Fin 3) (j : Fin 256) :
    place4 p (ix7 b own r n a j 3) = BitVec.ofNat 32 n.val := by
  pointwise [place4]

theorem picks_apply (g : FVec Ideal S4x8x256x4x8 .f32) (b : Fin 4) (own : Fin 8) (r : Fin 256) (n : Fin 4) (a : Fin 3) :
    picks g (ix5 b own r n a)
      = BitVec.ofNat 32 (place (fun m => g (ix5 b own r n m)) (a.castLE (by decide))).val := by
  have hal (c k : Fin 8) : Shape.Idx.along (s := S4x8x256x4x8) (ix5 b own r n c : S4x8x256x4x8.Idx) (4 : Fin 5) k = ix5 b own r n k := by
    funext i
    match i with
    | ⟨0, _⟩ => rfl
    | ⟨1, _⟩ => rfl
    | ⟨2, _⟩ => rfl
    | ⟨3, _⟩ => rfl
    | ⟨4, _⟩ => rfl
  have e : picks g (ix5 b own r n a) = (Host.sort2 S4x8x256x4x8 4 (fun l r => FloatOps.cmpfTotal CmpDirection.gt l.1 r.1) g (fun i => BitVec.ofNat 32 (i 4).val)).2 (ix5 b own r n (a.castLE (by decide))) := by
    unfold picks Host.topK
    dsimp only
    pointwise
    rfl
  rw [e]
  unfold Host.sort2
  rw [dif_pos (by decide)]
  show BitVec.ofNat 32 (Shape.Idx.along (s := S4x8x256x4x8) (ix5 b own r n (a.castLE (by decide))) (4 : Fin 5) (sortedFrom (n := 8)
    (fun k k' => FloatOps.cmpfTotal .gt
      (g (Shape.Idx.along (s := S4x8x256x4x8) (ix5 b own r n (a.castLE (by decide))) (4 : Fin 5) k))
      (g (Shape.Idx.along (s := S4x8x256x4x8) (ix5 b own r n (a.castLE (by decide))) (4 : Fin 5) k')) == 1#1)
    (a.castLE (by decide))) (4 : Fin 5)).val = _
  simp only [hal]
  show BitVec.ofNat 32 (sortedFrom (n := 8) _ (a.castLE (by decide))).val = _
  unfold place
  congr 3
  funext k k'
  show (BitVec.ofBool (decide (g (ix5 b own r n k') < g (ix5 b own r n k))) == 1#1) = decide (g (ix5 b own r n k') < g (ix5 b own r n k))
  by_cases h : g (ix5 b own r n k') < g (ix5 b own r n k) <;> simp [h]

/-- The gather reads the array at the four numbers it is given. -/
theorem gather_apply (x : FVec Ideal S4x8x256x4x128 .f32) (p : IVec S4x8x256x4x3x256x4 32) (b : Fin 4) (own : Fin 8)
    (r : Fin 256) (n : Fin 4) (a : Fin 3) (j : Fin 256) (d : Fin 128) (B : Fin 4) (K : Fin 8) (R : Fin 256) (N : Fin 4)
    (h0 : min (p (ix7 b own r n a j 0)).toInt.toNat 3 = B.val) (h1 : min (p (ix7 b own r n a j 1)).toInt.toNat 7 = K.val)
    (h2 : min (p (ix7 b own r n a j 2)).toInt.toNat 255 = R.val) (h3 : min (p (ix7 b own r n a j 3)).toInt.toNat 3 = N.val) :
    Host.gather gather_S4x8x256x4x128_S4x8x256x4x3x256x4_S4x8x256x4x3x256x128_6_0123_n_n_0123_6_1111128 x p (ix7 b own r n a j d)
      = x (ix5 B K R N d) := by
  have hs (c : Fin 4) : GatherDims.siIdx gather_S4x8x256x4x128_S4x8x256x4x3x256x4_S4x8x256x4x3x256x128_6_0123_n_n_0123_6_1111128
      (ix7 b own r n a j d) c = ix7 b own r n a j c := by
    funext i
    apply Fin.ext
    match i with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
  unfold Host.gather
  congr 1
  funext i
  apply Fin.ext
  match i with
  | ⟨0, _⟩ => rw [← hs] at h0; exact h0
  | ⟨1, _⟩ => rw [← hs] at h1; exact h1
  | ⟨2, _⟩ => rw [← hs] at h2; exact h2
  | ⟨3, _⟩ => rw [← hs] at h3; exact h3
  | ⟨4, _⟩ => exact Nat.zero_add _

theorem gathered_apply (x : FVec Ideal S4x8x256x4x128 .f32) (p : IVec S4x8x256x4x3 32) (b : Fin 4) (own : Fin 8)
    (r : Fin 256) (n : Fin 4) (a : Fin 3) (j : Fin 256) (d : Fin 128) (K : Fin 8)
    (hp : p (ix5 b own r n a) = BitVec.ofNat 32 K.val) :
    gathered x p (ix6 b own r n ⟨a.val * 256 + j.val, by omega⟩ d) = x (ix5 b K j n d) := by
  have e : gathered x p (ix6 b own r n ⟨a.val * 256 + j.val, by omega⟩ d)
      = Host.gather gather_S4x8x256x4x128_S4x8x256x4x3x256x4_S4x8x256x4x3x256x128_6_0123_n_n_0123_6_1111128 x
        (place4 p) (ix7 b own r n a j d) := by
    unfold gathered
    generalize Host.gather _ _ _ = y
    pointwise
  rw [e]
  refine gather_apply x _ b own r n a j d b K j n ?_ ?_ ?_ ?_
  · rw [place_seq]; exact word_nat _ _ (by omega) (by omega)
  · rw [place_block, hp]; exact word_nat _ _ (by omega) (by omega)
  · rw [place_row]; exact word_nat _ _ (by omega) (by omega)
  · rw [place_head]; exact word_nat _ _ (by omega) (by omega)

theorem out_apply (q k v : FVec Ideal S4x2048x512 .f32) (b : Fin 4) (own : Fin 8) (r : Fin 256) (n : Fin 4) (e : Fin 128) :
    out q k v (ix3 b ⟨own.val * 256 + r.val, by omega⟩ ⟨n.val * 128 + e.val, by omega⟩)
      = attention (split q) (split k) (split v) (ix5 b own r n e) := by
  unfold out
  generalize attention _ _ _ = y
  pointwise

end Cert.Moba.Ref

end
-- ==== Proof.MobaSum.lean ====
module

public import proofs.«01_k».proof.Proof.MobaRef

@[expose] public section

set_option maxRecDepth 16384

noncomputable section

/-! The attention's reference is the softmax over the keys a query reads, once its queries and keys
    are real numbers. -/

namespace Cert.Moba.Ref

open Cert.ReferenceIdeal Cert.ReferenceIdeal.Gen Idealize.ShloMosaic

/-- An entry that is a real number. -/
def IsReal (x : EReal) : Prop := ∃ y : ℝ, (y : EReal) = x

theorem IsReal.ne_top {x : EReal} : IsReal x → x ≠ ⊤ := by
  rintro ⟨y, rfl⟩; exact EReal.coe_ne_top y

theorem IsReal.ne_bot {x : EReal} : IsReal x → x ≠ ⊥ := by
  rintro ⟨y, rfl⟩; exact EReal.coe_ne_bot y

theorem IsReal.mul {x y : EReal} : IsReal x → IsReal y → IsReal (x * y) := by
  rintro ⟨a, rfl⟩ ⟨b, rfl⟩; exact ⟨a * b, EReal.coe_mul a b⟩

theorem IsReal.sum {ι : Type} [Fintype ι] (f : ι → EReal) (h : ∀ i, IsReal (f i)) : IsReal (∑ i, f i) := by
  refine Finset.sum_induction f IsReal ?_ ⟨0, rfl⟩ fun i _ => h i
  rintro _ _ ⟨a, rfl⟩ ⟨b, rfl⟩
  exact ⟨a + b, EReal.coe_add a b⟩

/-- The scale of the scores is a real number. -/
theorem scale_real : IsReal (Ideal.ofBits .f32 0x3DB504F3#32) := by
  refine ⟨(Ideal.ofBits .f32 0x3DB504F3#32).toReal, EReal.coe_toReal ?_ ?_⟩ <;>
    simp [Ideal.ofBits, Ideal.ieee, -EReal.coe_mul]

section
variable (own : Fin 8) (r : Fin 256) (g : Fin 8 → EReal)

/-- The block and the row there of each of a query's 1024 keys: the picked blocks' and then its own. -/
def keyOf (x : Fin 1024) : Fin 8 × Fin 256 :=
  if h : x.val < 768 then (place g ⟨x.val / 256, by omega⟩, ⟨x.val % 256, Nat.mod_lt _ (by decide)⟩)
  else (own, ⟨x.val - 768, by omega⟩)

/-- Whether each of a query's 1024 keys counts. -/
def Counts (x : Fin 1024) : Prop :=
  if h : x.val < 768 then (place g ⟨x.val / 256, by omega⟩).val < own.val else x.val - 768 ≤ r.val

instance (x : Fin 1024) : Decidable (Counts own r g x) := by unfold Counts; infer_instance

variable (q : Fin 128 → EReal) (k : Fin 8 → Fin 256 → Fin 128 → EReal)

/-- The score of each of a query's 1024 keys. -/
def listed (x : Fin 1024) : EReal :=
  if Counts own r g x then (∑ d : Fin 128, q d * k (keyOf own g x).1 (keyOf own g x).2 d) * Ideal.ofBits .f32 0x3DB504F3#32
  else ⊥

theorem counts_reads (x : Fin 1024) (h : Counts own r g x) : Reads own.val r g (keyOf own g x) := by
  unfold Counts at h
  unfold keyOf
  split at h
  · rename_i hx
    rw [dif_pos hx]
    refine .inl ⟨h, ?_⟩
    rw [rank_place]
    show x.val / 256 < 3
    omega
  · rename_i hx
    rw [dif_neg hx]
    exact .inr ⟨rfl, h⟩

/-- The keys that count are the keys a query reads, each once. -/
theorem listed_meets : Meets (keyOf own g) (Counts own r g) (listed own r g q k) (keyScore own.val r g q k) where
  inj a b ha hb e := by
    unfold Counts at ha hb
    unfold keyOf at e
    split at ha <;> split at hb <;> rename_i h1 h2
    · rw [dif_pos h1, dif_pos h2] at e
      have e1 : a.val / 256 = b.val / 256 := congrArg Fin.val (place_injective g (congrArg Prod.fst e))
      have e2 : a.val % 256 = b.val % 256 := congrArg (fun p => p.2.val) e
      exact Fin.ext (by omega)
    · rw [dif_pos h1, dif_neg h2, Prod.mk.injEq] at e
      rw [e.1] at ha
      exact absurd ha (lt_irrefl _)
    · rw [dif_neg h1, dif_pos h2, Prod.mk.injEq] at e
      rw [← e.1] at hb
      exact absurd hb (lt_irrefl _)
    · rw [dif_neg h1, dif_neg h2] at e
      have e2 : a.val - 768 = b.val - 768 := congrArg (fun p => p.2.val) e
      exact Fin.ext (by omega)
  eq a ha := by
    unfold listed keyScore
    rw [if_pos ha, if_pos (counts_reads own r g a ha)]
  out a ha := if_neg ha
  onto i hi := by
    have hr : Reads own.val r g i := by
      by_contra h
      exact hi (if_neg h)
    rcases hr with ⟨h1, h2⟩ | ⟨h1, h2⟩
    · obtain ⟨a, ha⟩ := (rank_lt g i.1).mp h2
      have hx : a.val * 256 + i.2.val < 768 := by omega
      have e1 : (⟨(a.val * 256 + i.2.val) / 256, by omega⟩ : Fin 8) = a.castLE (by decide) := Fin.ext (by simp; omega)
      refine ⟨⟨a.val * 256 + i.2.val, by omega⟩, ?_, ?_⟩
      · unfold Counts
        rw [dif_pos hx, e1, ha]
        exact h1
      · unfold keyOf
        rw [dif_pos hx, e1, ha]
        exact Prod.ext rfl (Fin.ext (by show (a.val * 256 + i.2.val) % 256 = i.2.val; omega))
    · have hx : ¬768 + i.2.val < 768 := by omega
      refine ⟨⟨768 + i.2.val, by omega⟩, ?_, ?_⟩
      · unfold Counts
        rw [dif_neg hx]
        show 768 + i.2.val - 768 ≤ r.val
        omega
      · unfold keyOf
        rw [dif_neg hx]
        exact Prod.ext (Fin.ext h1.symm) (Fin.ext (by show 768 + i.2.val - 768 = i.2.val; omega))

/-- The weights' sum is positive: a query reads itself. -/
theorem listed_pos (hq : ∀ d, IsReal (q d)) (hk : ∀ m j d, IsReal (k m j d)) :
    0 < ∑ x, weight (listed own r g q k) x := by
  have hs (m : Fin 8) (j : Fin 256) : IsReal ((∑ d : Fin 128, q d * k m j d) * Ideal.ofBits .f32 0x3DB504F3#32) :=
    (IsReal.sum _ fun d => (hq d).mul (hk m j d)).mul scale_real
  have hc : Counts own r g ⟨768 + r.val, by omega⟩ := by
    unfold Counts
    rw [dif_neg (show ¬768 + r.val < 768 by omega)]
    show 768 + r.val - 768 ≤ r.val
    omega
  refine total_pos _ (fun x => ?_) ⟨768 + r.val, by omega⟩ ?_
  · unfold listed
    split
    · exact (hs _ _).ne_top
    · exact bot_ne_top
  · unfold listed
    rw [if_pos hc]
    exact (hs _ _).ne_bot

end

variable (Q K V : FVec Ideal S4x8x256x4x128 .f32) (b : Fin 4) (own : Fin 8) (r : Fin 256) (n : Fin 4)

/-- The gates of a query's blocks. -/
abbrev gateRow (m : Fin 8) : EReal := gates Q K (ix5 b own r n m)

theorem gateRow_eq : gateRow Q K b own r n
    = gate own.val (fun d => Q (ix5 b own r n d)) fun m d => means K (ix4 b m n d) := by
  funext m
  unfold gateRow gate
  rw [gates_apply]
  simp only [mul_comm]

/-- A picked block's key (or value). -/
theorem picked (X : FVec Ideal S4x8x256x4x128 .f32) (x : Fin 768) (d : Fin 128) :
    gathered X (picks (gates Q K)) (ix6 b own r n x d)
      = X (ix5 b (place (gateRow Q K b own r n) ⟨x.val / 256, by omega⟩) ⟨x.val % 256, Nat.mod_lt _ (by decide)⟩ n d) := by
  have hx : x = ⟨(⟨x.val / 256, by omega⟩ : Fin 3).val * 256 + (⟨x.val % 256, Nat.mod_lt _ (by decide)⟩ : Fin 256).val, by
      show x.val / 256 * 256 + x.val % 256 < 768; omega⟩ := Fin.ext (by show x.val = x.val / 256 * 256 + x.val % 256; omega)
  have h := gathered_apply X (picks (gates Q K)) b own r n ⟨x.val / 256, by omega⟩ ⟨x.val % 256, Nat.mod_lt _ (by decide)⟩ d _
    (picks_apply (gates Q K) b own r n ⟨x.val / 256, by omega⟩)
  rw [← hx] at h
  exact h

/-- Whether a picked block's key counts. -/
theorem picked_counts (x : Fin 768) : counts (picks (gates Q K)) (ix5 b own r n x)
    = BitVec.ofBool (decide ((place (gateRow Q K b own r n) ⟨x.val / 256, by omega⟩).val < own.val)) := by
  have hx : x = ⟨(⟨x.val / 256, by omega⟩ : Fin 3).val * 256 + (⟨x.val % 256, Nat.mod_lt _ (by decide)⟩ : Fin 256).val, by
      show x.val / 256 * 256 + x.val % 256 < 768; omega⟩ := Fin.ext (by show x.val = x.val / 256 * 256 + x.val % 256; omega)
  have h := counts_apply (picks (gates Q K)) b own r n ⟨x.val / 256, by omega⟩ ⟨x.val % 256, Nat.mod_lt _ (by decide)⟩
  rw [← hx, picks_apply, WordCmp.cmpi_slt_ofNat (by omega) (by omega)] at h
  exact h

/-- All the scores of a query. -/
abbrev allScores : FVec Ideal S4x8x256x4x1024 .f32 :=
  scores (far Q (gathered K (picks (gates Q K))) (counts (picks (gates Q K)))) (near Q K)

theorem allScores_apply (x : Fin 1024) : allScores Q K (ix5 b own r n x)
    = listed own r (gateRow Q K b own r n) (fun d => Q (ix5 b own r n d)) (fun m j d => K (ix5 b m j n d)) x := by
  unfold allScores listed Counts keyOf
  rw [scores_apply]
  split
  · rename_i h
    rw [far_apply, picked_counts, select_of]
    simp only [picked]
  · rename_i h
    rw [near_apply]

/-- The reference's entry before its last reshape. -/
theorem attention_apply (e : Fin 128) (hq : ∀ d, IsReal (Q (ix5 b own r n d))) (hk : ∀ m j d, IsReal (K (ix5 b m j n d))) :
    attention Q K V (ix5 b own r n e)
      = attend own.val r (fun d => Q (ix5 b own r n d)) (fun m d => means K (ix4 b m n d))
        (fun m j d => K (ix5 b m j n d)) (fun m j d => V (ix5 b m j n d)) e := by
  have hw (x : Fin 1024) : shares (weights (allScores Q K)) (ix5 b own r n x)
      = Ideal.div (weight (listed own r (gateRow Q K b own r n) (fun d => Q (ix5 b own r n d)) (fun m j d => K (ix5 b m j n d))) x)
        (∑ y, weight (listed own r (gateRow Q K b own r n) (fun d => Q (ix5 b own r n d)) (fun m j d => K (ix5 b m j n d))) y) := by
    rw [shares_apply]
    simp only [weights_apply, allScores_apply]
  have hs : attention Q K V (ix5 b own r n e) = ∑ x : Fin (768 + 256), shares (weights (allScores Q K)) (ix5 b own r n x)
      * (fun y : Fin 8 × Fin 256 => V (ix5 b y.1 y.2 n e)) (keyOf own (gateRow Q K b own r n) x) := by
    rw [Fin.sum_univ_add]
    unfold attention
    rw [mixed_apply]
    refine congrArg₂ (· + ·) (Finset.sum_congr rfl fun x _ => ?_) (Finset.sum_congr rfl fun j _ => ?_)
    · rw [picked]
      unfold keyOf
      rw [dif_pos (show (Fin.castAdd 256 x).val < 768 from x.isLt)]
      rfl
    · rw [mul_comm]
      unfold keyOf
      rw [dif_neg (show ¬(Fin.natAdd 768 j).val < 768 by simp)]
      congr 2
      congr 1
      exact Fin.ext (by simp)
  rw [hs]
  simp only [hw]
  refine (soft_divided (ι := Fin 1024) _ _ (listed_pos own r _ _ _ hq hk)).trans ?_
  refine ((listed_meets own r _ _ _).soft_eq fun y => V (ix5 b y.1 y.2 n e)).trans ?_
  rw [gateRow_eq]
  rfl

end Cert.Moba.Ref

end
-- ==== Proof.MobaEq.lean ====
module

public import proofs.«01_k».proof.Defs
public import proofs.«01_k».proof.Proof.MobaFold
public import proofs.«01_k».proof.Proof.MobaSum
public import proofs.«01_k».proof.Proof.Gen.Pre_finite
public import Idealize.ShloMosaic.Lib.ReduceAll

@[expose] public section

set_option maxRecDepth 16384

noncomputable section

/-! The attention's kernel and its reference agree over the extended reals, once the queries and the
    keys are real numbers. -/

namespace Cert.Moba

open Cert.KernelIdeal Cert.KernelIdeal.Gen Idealize.ShloMosaic Idealize.ShloMosaic.TcCoe Idealize.SL.Sem
open Ref (IsReal)

instance : Subsingleton Cert.Pre_finite.S_.Idx := ⟨fun _ _ => funext fun a => a.elim0⟩

theorem pos_inf : Ideal.ofBits .f32 0x7F800000#32 = ⊤ := by
  simp [Ideal.ofBits, Ideal.ieee]

/-- An entry of absolute value below infinity is a real number. -/
theorem isReal_of_lt (x : EReal) (h : Ideal.cmp .olt (max x (-x)) (Ideal.ofBits .f32 0x7F800000#32) = 1#1) : IsReal x := by
  rw [pos_inf] at h
  have h' : max x (-x) < ⊤ := by
    by_contra hn
    simp [Ideal.cmp, hn] at h
  induction x with
  | bot => simp at h'
  | top => simp at h'
  | coe y => exact ⟨y, rfl⟩

theorem reals (q k v : FVec Ideal S4x2048x512 .f32)
    (h : Cert.Pre_finite.fn (F := Ideal) q k v = fun _ => 1#1) : (∀ i, IsReal (q i)) ∧ ∀ i, IsReal (k i) := by
  have h0 := congrFun h (fun a => a.elim0)
  obtain ⟨h1, h2⟩ := IntOp.andi_eq_one.mp h0
  exact ⟨fun i => isReal_of_lt _ (Host.reduce_andi_all _ _ _ _ _ h1 i),
    fun i => isReal_of_lt _ (Host.reduce_andi_all _ _ _ _ _ h2 i)⟩

/-- The reference's result is the kernel's of the same arguments, element by element. -/
theorem reference_at (m : (ℓ : Loc nD τ sig) → Buf (Elt Ideal) ℓ) (c : Dev nD)
    (hq : ∀ i, IsReal (qs m c i)) (hk : ∀ i, IsReal (ks m c i))
    (b : Fin 4) (k : Fin 8) (r : Fin 256) (n : Fin 4) (e : Fin 128) :
    Ref.out (qs m c) (ks m c) (vs m c) (ix3 b ⟨k.val * 256 + r.val, by omega⟩ ⟨n.val * 128 + e.val, by omega⟩)
      = result m c b k r n e := by
  refine (Ref.out_apply (qs m c) (ks m c) (vs m c) b k r n e).trans ?_
  refine (Ref.attention_apply _ _ _ b k r n e (fun d => ?_) (fun j s d => ?_)).trans ?_
  · rw [Ref.split_apply]; exact hq _
  · rw [Ref.split_apply]; exact hk _
  simp only [Ref.means_apply, Ref.split_apply]
  rfl

/-- The reference's result is the kernel's of the same arguments. -/
theorem reference_eq (m : (ℓ : Loc nD τ sig) → Buf (Elt Ideal) ℓ) (c : Dev nD)
    (hq : ∀ i, IsReal (qs m c i)) (hk : ∀ i, IsReal (ks m c i)) :
    Ref.out (qs m c) (ks m c) (vs m c) = entry m c := by
  funext i
  obtain ⟨b, s, d, rfl⟩ : ∃ (b : Fin 4) (s : Fin 2048) (d : Fin 512), i = ix3 b s d := ⟨i 0, i 1, i 2, eq_ix3 i⟩
  obtain ⟨k, r, rfl⟩ : ∃ (k : Fin 8) (r : Fin 256), s = ⟨k.val * 256 + r.val, by omega⟩ :=
    ⟨⟨s.val / 256, by omega⟩, ⟨s.val % 256, by omega⟩, Fin.ext (by show s.val = s.val / 256 * 256 + s.val % 256; omega)⟩
  obtain ⟨n, e, rfl⟩ : ∃ (n : Fin 4) (e : Fin 128), d = ⟨n.val * 128 + e.val, by omega⟩ :=
    ⟨⟨d.val / 128, by omega⟩, ⟨d.val % 128, by omega⟩, Fin.ext (by show d.val = d.val / 128 * 128 + d.val % 128; omega)⟩
  refine (reference_at m c hq hk b k r n e).trans (entry_at m c b k r n e _ rfl rfl ?_).symm
  show n.val * 128 + e.val = 128 * n.val + e.val
  omega

/-- Both programs run, leave their arguments, and end with equal results. -/
theorem agree : algebraic_KernelIdeal_ReferenceIdeal_pre_finite := by
  intro m ρ m' ρ' hf hm
  refine ⟨fun c => (dats m 0 c).arrAt 3 cfg0.N, Value.run_blocks (F := Ideal) m ρ, ?_⟩
  refine (θ_run Cert.ReferenceIdeal.defs _ _).mono (fun _ h c => ⟨?_, (h c).2⟩)
    (Cert.ReferenceIdeal.Value.run (F := Ideal) m' ρ')
  obtain ⟨h0, h1, h2⟩ := hm c
  obtain ⟨hq, hk⟩ := reals _ _ _ (hf c)
  refine (h c).1.trans ((Ref.out_eq m' c).trans ?_)
  rw [h0, h1, h2]
  exact (reference_eq m c hq hk).trans (array_eq m c).symm

end Cert.Moba

end
-- ==== Proof.lean ====
module

public import proofs.«01_k».proof.Defs
public import proofs.«01_k».proof.Proof.Gen.Kernel.Frame
public import proofs.«01_k».proof.Proof.Gen.KernelIdeal.Value
public import proofs.«01_k».proof.Proof.Gen.Kernel2.Frame
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.MlpSmallEq
public import proofs.«01_k».proof.Proof.ProjSmallEq
public import proofs.«01_k».proof.Proof.PrepRun
public import proofs.«01_k».proof.Proof.PrepEq
public import proofs.«01_k».proof.Proof.PrepRunBits
public import proofs.«01_k».proof.Proof.MlpEq
public import proofs.«01_k».proof.Proof.ProjEq
public import proofs.«01_k».proof.Proof.OutEq
public import proofs.«01_k».proof.Proof.MobaEq
public import proofs.«01_k».proof.Proof.Gen.Pre_finite
public import Idealize.ShloMosaic.Adequacy
public import Idealize.ShloMosaic.Init
public import Idealize.ShloMosaic.Lib.Quiescent

@[expose] public section

noncomputable section

/-! The certificate put together from the calls' frames and equations. -/

namespace Cert.Proof

open Idealize.ShloMosaic Idealize.SL.Sem

/-- The attention's reference ends with every semaphore at rest and its arguments unchanged. -/
theorem rest_reference : quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The feed-forward reference ends with every semaphore at rest and its arguments unchanged. -/
theorem rest_reference2 : quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- The input projection's reference ends with every semaphore at rest and its arguments unchanged. -/
theorem rest_reference3 : quiescent_Reference3Ideal := fun m ρ _ =>
  (θ_run Cert.Reference3Ideal.defs _ _).mono
    (fun r h => ⟨fun c => (h c).2.2.2.2, sem_eq_zero_of_no_sems (by decide) r.2⟩)
    (Cert.Reference3Ideal.Value.run (F := Ideal) m ρ)

/-- The output projection's reference ends with every semaphore at rest and its arguments unchanged. -/
theorem rest_reference4 : quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- The heads' reference ends with every semaphore at rest and its arguments unchanged. -/
theorem rest_reference5 : quiescent_Reference5Ideal := fun m ρ _ =>
  (θ_run Cert.Reference5Ideal.defs _ _).mono
    (fun r h => ⟨fun c => (h c).2.2.2.2.2.2.2.2.2, sem_eq_zero_of_no_sems (by decide) r.2⟩)
    (Cert.Reference5Ideal.Value.run (F := Ideal) m ρ)

/-- The sample's feed-forward reference ends with every semaphore at rest and its arguments unchanged. -/
theorem rest_reference6 : quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

/-- The sample's input projection's reference ends with every semaphore at rest and its arguments unchanged. -/
theorem rest_reference7 : quiescent_Reference7Ideal := fun m ρ _ =>
  (θ_run Cert.Reference7Ideal.defs _ _).mono
    (fun r h => ⟨fun c => (h c).2.2.2.2, sem_eq_zero_of_no_sems (by decide) r.2⟩)
    (Cert.Reference7Ideal.Value.run (F := Ideal) m ρ)

/-- The whole certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_finite.Gen.facts,
    fun m ρ _ => Cert.Kernel.Gen.frame m ρ, fun m ρ _ => Cert.KernelIdeal.Gen.frame m ρ,
    fun m ρ _ => Cert.KernelIdeal.Gen.frame m ρ, rest_reference, fun m ρ _ => rest_reference m ρ trivial,
    fun m ρ _ => Cert.Kernel2.Gen.frame m ρ, fun m ρ _ => Cert.Kernel2Ideal.Gen.frame m ρ, rest_reference2,
    fun m ρ _ => Cert.Kernel3.Gen.frame m ρ, fun m ρ _ => Cert.Kernel3Ideal.Gen.frame m ρ, rest_reference3,
    fun m ρ _ => Cert.Kernel4.Gen.frame m ρ, fun m ρ _ => Cert.Kernel4Ideal.Gen.frame m ρ, rest_reference4,
    fun m ρ _ => Cert.Kernel5.Gen.frame m ρ, fun m ρ _ => Cert.Kernel5Ideal.Gen.frame m ρ, rest_reference5,
    fun m ρ _ => Cert.Kernel6.Gen.frame m ρ, fun m ρ _ => Cert.Kernel6Ideal.Gen.frame m ρ, rest_reference6,
    fun m ρ _ => Cert.Kernel7.Gen.frame m ρ, fun m ρ _ => Cert.Kernel7Ideal.Gen.frame m ρ, rest_reference7,
    (trivial : preserves_Kernel_KernelIdeal), Cert.Moba.agree,
    (trivial : preserves_Kernel2_Kernel2Ideal), Cert.Mlp.agree,
    (trivial : preserves_Kernel3_Kernel3Ideal), Cert.Proj.agree,
    (trivial : preserves_Kernel4_Kernel4Ideal), Cert.Out.agree,
    (trivial : preserves_Kernel5_Kernel5Ideal), Cert.Prep.agree,
    (trivial : preserves_Kernel6_Kernel6Ideal), Cert.MlpSmall.agree,
    (trivial : preserves_Kernel7_Kernel7Ideal), Cert.ProjSmall.agree⟩

end Cert.Proof

end
